-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 2048, 16, 64]⟩ ⟨4, ![2, 2048, 64, 64]⟩ (Layout.meshBlock [2, 4, 4] ![[], [], [2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![4096, 4096]⟩ (Layout.meshBlock [2, 4, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = Layout.blockN ⟨3, ![2, 512, 4096]⟩ ⟨3, ![2, 2048, 4096]⟩ (Layout.meshBlock [2, 4, 4] ![[], [2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x16x64 : Shape := ⟨4, ![2, 2048, 16, 64]⟩
abbrev S1024x4096 : Shape := ⟨2, ![1024, 4096]⟩
abbrev S_ : Shape := ⟨0, ![]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S4x4x128x1024 : Shape := ⟨4, ![4, 4, 128, 1024]⟩
abbrev S4x1x128x1024 : Shape := ⟨4, ![4, 1, 128, 1024]⟩
abbrev S4x128x1024 : Shape := ⟨3, ![4, 128, 1024]⟩
abbrev S3x128x4096 : Shape := ⟨3, ![3, 128, 4096]⟩
abbrev S128x4096 : Shape := ⟨2, ![128, 4096]⟩
abbrev S3 : Shape := ⟨1, ![3]⟩
abbrev S1x128x1024 : Shape := ⟨3, ![1, 128, 1024]⟩
abbrev S128x1024 : Shape := ⟨2, ![128, 1024]⟩
abbrev S1 : Shape := ⟨1, ![1]⟩
abbrev S1x128x4096 : Shape := ⟨3, ![1, 128, 4096]⟩
abbrev S2x512x4096 : Shape := ⟨3, ![2, 512, 4096]⟩

abbrev nBuf : Space → Nat
  | .hbm => 37
  | .vmem => 5
  | .smem => 0
  | _ => 0

abbrev bufTy : (tb : Table) → Fin (tcTables nBuf tb) → BufTy
  | .hbm, ⟨0, _⟩ => ⟨S2x2048x16x64, .bf16⟩
  | .hbm, ⟨1, _⟩ => ⟨S1024x4096, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S2x2048x1024, .bf16⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x2048x1024, .bf16⟩
  | .hbm, ⟨23, _⟩ => ⟨S2048x1024, .bf16⟩
  | .hbm, ⟨24, _⟩ => ⟨S4x4x128x1024, .bf16⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S4x1x128x1024, .bf16⟩
  | .hbm, ⟨34, _⟩ => ⟨S4x128x1024, .bf16⟩
  | .hbm, ⟨35, _⟩ => ⟨S1024x4096, .bf16⟩
  | .hbm, ⟨36, _⟩ => ⟨S2x512x4096, .bf16⟩
  | .local _ .vmem, ⟨0, _⟩ => ⟨S4x128x1024, .bf16⟩
  | .local _ .vmem, ⟨1, _⟩ => ⟨S1024x4096, .bf16⟩
  | .local _ .vmem, ⟨2, _⟩ => ⟨S1024x4096, .bf16⟩
  | .local _ .vmem, ⟨3, _⟩ => ⟨S3x128x4096, .bf16⟩
  | .local _ .vmem, ⟨4, _⟩ => ⟨S128x4096, .bf16⟩
  | _, _ => ⟨S2x2048x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 2 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_c : Ref sig .tc := ⟨.hbm, 15, rfl⟩
abbrev main_call0_v0 : Ref sig .tc := ⟨.hbm, 16, rfl⟩
abbrev main_call0_c_0 : Ref sig .tc := ⟨.hbm, 17, rfl⟩
abbrev main_call0_v1 : Ref sig .tc := ⟨.hbm, 18, rfl⟩
abbrev main_call0_v2 : Ref sig .tc := ⟨.hbm, 19, rfl⟩
abbrev main_call0_c_1 : Ref sig .tc := ⟨.hbm, 20, rfl⟩
abbrev main_call0_c_2 : Ref sig .tc := ⟨.hbm, 21, rfl⟩
abbrev main_call0_v3 : Ref sig .tc := ⟨.hbm, 22, rfl⟩
abbrev main_v10 : Ref sig .tc := ⟨.hbm, 23, rfl⟩
abbrev main_v11 : Ref sig .tc := ⟨.hbm, 24, rfl⟩
abbrev main_call1_c : Ref sig .tc := ⟨.hbm, 25, rfl⟩
abbrev main_call1_v0 : Ref sig .tc := ⟨.hbm, 26, rfl⟩
abbrev main_call1_c_0 : Ref sig .tc := ⟨.hbm, 27, rfl⟩
abbrev main_call1_v1 : Ref sig .tc := ⟨.hbm, 28, rfl⟩
abbrev main_call1_v2 : Ref sig .tc := ⟨.hbm, 29, rfl⟩
abbrev main_call1_c_1 : Ref sig .tc := ⟨.hbm, 30, rfl⟩
abbrev main_call1_c_2 : Ref sig .tc := ⟨.hbm, 31, rfl⟩
abbrev main_call1_c_3 : Ref sig .tc := ⟨.hbm, 32, rfl⟩
abbrev main_call1_v3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v38 : BitVec 32 := Scalar.muli v2 c16_i32_19
  let v39 : BitVec 32 := Scalar.addi c0_i32_20 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v40 : BitVec 32 := Scalar.muli v5 c4_i32_21
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_22 : BitVec 32 := 1#32
  let v42 : BitVec 32 := Scalar.muli v19 c1_i32_22
  let v43 : BitVec 32 := Scalar.addi v41 v42
  v43.toNat
def k0_dev2 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v44 : BitVec 32 := Scalar.muli v2 c16_i32_24
  let v45 : BitVec 32 := Scalar.addi c0_i32_25 v44
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v46 : BitVec 32 := Scalar.muli v5 c4_i32_26
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_27 : BitVec 32 := 1#32
  let v48 : BitVec 32 := Scalar.muli v30 c1_i32_27
  let v49 : BitVec 32 := Scalar.addi v47 v48
  v49.toNat
def k0_dev3 (d0 : Dev nD) : Nat :=
  let c0_i32_30 : BitVec 32 := 0#32
  let c1_i32_17 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.subi c1_i32_17 v2
  let c16_i32_29 : BitVec 32 := 16#32
  let v50 : BitVec 32 := Scalar.muli v37 c16_i32_29
  let v51 : BitVec 32 := Scalar.addi c0_i32_30 v50
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v52 : BitVec 32 := Scalar.muli v5 c4_i32_31
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v54 : BitVec 32 := Scalar.muli v8 c1_i32_32
  let v55 : BitVec 32 := Scalar.addi v53 v54
  v55.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let v56 : BitVec 32 := Scalar.extui v34
  let c0_i32_33 : BitVec 32 := 0#32
  let v57 : BitVec 1 := Scalar.cmpi .ne v56 c0_i32_33
  v57

def k0_dev4 (d0 : Dev nD) : Nat :=
  let c0_i32_276 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_275 : BitVec 32 := 16#32
  let v387 : BitVec 32 := Scalar.muli v2 c16_i32_275
  let v388 : BitVec 32 := Scalar.addi c0_i32_276 v387
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.subi v5 c1_i32_273
  let c4_i32_277 : BitVec 32 := 4#32
  let v389 : BitVec 32 := Scalar.muli v386 c4_i32_277
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v391 : BitVec 32 := Scalar.muli v8 c1_i32_278
  let v392 : BitVec 32 := Scalar.addi v390 v391
  v392.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let v58 : BitVec 32 := Scalar.extui v35
  let c0_i32_34 : BitVec 32 := 0#32
  let v59 : BitVec 1 := Scalar.cmpi .ne v58 c0_i32_34
  v59

def k0_dev5 (d0 : Dev nD) : Nat :=
  let c0_i32_276 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_275 : BitVec 32 := 16#32
  let v387 : BitVec 32 := Scalar.muli v2 c16_i32_275
  let v388 : BitVec 32 := Scalar.addi c0_i32_276 v387
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.addi v5 c1_i32_273
  let c4_i32_277 : BitVec 32 := 4#32
  let v389 : BitVec 32 := Scalar.muli v386 c4_i32_277
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v391 : BitVec 32 := Scalar.muli v8 c1_i32_278
  let v392 : BitVec 32 := Scalar.addi v390 v391
  v392.toNat
def k0_off1 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v64 : BitVec 32 := Scalar.subi v8 c1_i32_37
  let c4_i32_38 : BitVec 32 := 4#32
  let c0_i32_39 : BitVec 32 := 0#32
  let v65 : BitVec 1 := Scalar.cmpi .eq c4_i32_38 c0_i32_39
  let c1_i32_40 : BitVec 32 := 1#32
  let v66 : BitVec 32 := Scalar.select v65 c1_i32_40 c4_i32_38
  let v67 : BitVec 32 := Scalar.remsi v64 v66
  let c0_i32_42 : BitVec 32 := 0#32
  let v69 : BitVec 1 := Scalar.cmpi .slt v67 c0_i32_42
  let c0_i32_43 : BitVec 32 := 0#32
  let v70 : BitVec 1 := Scalar.cmpi .slt v66 c0_i32_43
  let v71 : BitVec 1 := Scalar.xori v69 v70
  let c0_i32_41 : BitVec 32 := 0#32
  let v68 : BitVec 1 := Scalar.cmpi .ne v67 c0_i32_41
  let v72 : BitVec 1 := Scalar.andi v71 v68
  let v73 : BitVec 32 := Scalar.addi v67 v66
  let v74 : BitVec 32 := Scalar.select v72 v73 v67
  let v75 : Index := Scalar.indexCast v74
  let c0 : Index := 0#32
  let c0_44 : Index := 0#32
  ![v75.toNat, 0, 0]
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32 : BitVec 32 := 128#32
  let v32 : BitVec 32 := Scalar.muli v5 c128_i32
  let v33 : BitVec 32 := Scalar.addi v31 v32
  let v82 : Index := Scalar.indexCast v33
  let c0_47 : Index := 0#32
  ![v82.toNat, 0]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32 : BitVec 32 := 128#32
  let v32 : BitVec 32 := Scalar.muli v5 c128_i32
  let v33 : BitVec 32 := Scalar.addi v31 v32
  let c0_i32_56 : BitVec 32 := 0#32
  ![v33.toNat, 0]
def k0_dev6 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v84 : BitVec 32 := Scalar.muli v2 c16_i32_50
  let v85 : BitVec 32 := Scalar.addi c0_i32_51 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v86 : BitVec 32 := Scalar.muli v5 c4_i32_52
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_53 : BitVec 32 := 1#32
  let v88 : BitVec 32 := Scalar.muli v30 c1_i32_53
  let v89 : BitVec 32 := Scalar.addi v87 v88
  v89.toNat
def k0_off4 (d0 : Dev nD) (c0_i32_58 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_57 : BitVec 32 := 2#32
  let v95 : BitVec 32 := Scalar.subi v8 c2_i32_57
  let v96 : BitVec 32 := Scalar.subi v95 c0_i32_58
  let c4_i32_59 : BitVec 32 := 4#32
  let c0_i32_60 : BitVec 32 := 0#32
  let v97 : BitVec 1 := Scalar.cmpi .eq c4_i32_59 c0_i32_60
  let c1_i32_61 : BitVec 32 := 1#32
  let v98 : BitVec 32 := Scalar.select v97 c1_i32_61 c4_i32_59
  let v99 : BitVec 32 := Scalar.remsi v96 v98
  let c0_i32_63 : BitVec 32 := 0#32
  let v101 : BitVec 1 := Scalar.cmpi .slt v99 c0_i32_63
  let c0_i32_64 : BitVec 32 := 0#32
  let v102 : BitVec 1 := Scalar.cmpi .slt v98 c0_i32_64
  let v103 : BitVec 1 := Scalar.xori v101 v102
  let c0_i32_62 : BitVec 32 := 0#32
  let v100 : BitVec 1 := Scalar.cmpi .ne v99 c0_i32_62
  let v104 : BitVec 1 := Scalar.andi v103 v100
  let v105 : BitVec 32 := Scalar.addi v99 v98
  let v106 : BitVec 32 := Scalar.select v104 v105 v99
  let v107 : Index := Scalar.indexCast v106
  let c0_65 : Index := 0#32
  let c0_66 : Index := 0#32
  ![v107.toNat, 0, 0]
def k0_dev7 (d0 : Dev nD) : Nat :=
  let c0_i32_96 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_95 : BitVec 32 := 16#32
  let v137 : BitVec 32 := Scalar.muli v2 c16_i32_95
  let v138 : BitVec 32 := Scalar.addi c0_i32_96 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_97 : BitVec 32 := 4#32
  let v139 : BitVec 32 := Scalar.muli v5 c4_i32_97
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_98 : BitVec 32 := 1#32
  let v141 : BitVec 32 := Scalar.muli v30 c1_i32_98
  let v142 : BitVec 32 := Scalar.addi v140 v141
  v142.toNat
def k0_dev8 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_139 : BitVec 32 := 16#32
  let v190 : BitVec 32 := Scalar.muli v2 c16_i32_139
  let v191 : BitVec 32 := Scalar.addi c0_i32_140 v190
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_141 : BitVec 32 := 4#32
  let v192 : BitVec 32 := Scalar.muli v5 c4_i32_141
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_142 : BitVec 32 := 1#32
  let v194 : BitVec 32 := Scalar.muli v30 c1_i32_142
  let v195 : BitVec 32 := Scalar.addi v193 v194
  v195.toNat
def k0_dev9 (d0 : Dev nD) : Nat :=
  let c0_i32_187 : BitVec 32 := 0#32
  let c1_i32_185 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v249 : BitVec 32 := Scalar.subi c1_i32_185 v2
  let c16_i32_186 : BitVec 32 := 16#32
  let v250 : BitVec 32 := Scalar.muli v249 c16_i32_186
  let v251 : BitVec 32 := Scalar.addi c0_i32_187 v250
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_188 : BitVec 32 := 4#32
  let v252 : BitVec 32 := Scalar.muli v5 c4_i32_188
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v254 : BitVec 32 := Scalar.muli v8 c1_i32_189
  let v255 : BitVec 32 := Scalar.addi v253 v254
  v255.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c0_i32_210 : BitVec 32 := 0#32
  let v282 : BitVec 32 := Scalar.subi v5 c0_i32_210
  let c0_i32_211 : BitVec 32 := 0#32
  let v283 : BitVec 1 := Scalar.cmpi .sge v282 c0_i32_211
  let v284 : BitVec 1 := Scalar.andi v35 v283
  let v285 : BitVec 32 := Scalar.extui v284
  let c0_i32_212 : BitVec 32 := 0#32
  let v286 : BitVec 1 := Scalar.cmpi .ne v285 c0_i32_212
  v286

def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_273 : BitVec 32 := 0#32
  let v386 : BitVec 32 := Scalar.subi v5 c0_i32_273
  let c128_i32_275 : BitVec 32 := 128#32
  let v389 : BitVec 32 := Scalar.muli v386 c128_i32_275
  let v390 : BitVec 32 := Scalar.addi v31 v389
  let c0_i32_283 : BitVec 32 := 0#32
  ![v390.toNat, 0]
def k0_dev10 (d0 : Dev nD) : Nat :=
  let c0_i32_280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_279 : BitVec 32 := 16#32
  let v392 : BitVec 32 := Scalar.muli v2 c16_i32_279
  let v393 : BitVec 32 := Scalar.addi c0_i32_280 v392
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_276 : BitVec 32 := 1#32
  let v391 : BitVec 32 := Scalar.addi v5 c1_i32_276
  let c4_i32_281 : BitVec 32 := 4#32
  let v394 : BitVec 32 := Scalar.muli v391 c4_i32_281
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v396 : BitVec 32 := Scalar.muli v8 c1_i32_282
  let v397 : BitVec 32 := Scalar.addi v395 v396
  v397.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c0_i32_213 : BitVec 32 := 0#32
  let v287 : BitVec 32 := Scalar.addi v5 c0_i32_213
  let c3_i32_214 : BitVec 32 := 3#32
  let v288 : BitVec 1 := Scalar.cmpi .sle v287 c3_i32_214
  let v289 : BitVec 1 := Scalar.andi v34 v288
  let v290 : BitVec 32 := Scalar.extui v289
  let c0_i32_215 : BitVec 32 := 0#32
  let v291 : BitVec 1 := Scalar.cmpi .ne v290 c0_i32_215
  v291

def k0_off6 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_273 : BitVec 32 := 0#32
  let v386 : BitVec 32 := Scalar.addi v5 c0_i32_273
  let c128_i32_275 : BitVec 32 := 128#32
  let v389 : BitVec 32 := Scalar.muli v386 c128_i32_275
  let v390 : BitVec 32 := Scalar.addi v31 v389
  let c0_i32_282 : BitVec 32 := 0#32
  ![v390.toNat, 0]
def k0_dev11 (d0 : Dev nD) : Nat :=
  let c0_i32_279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_278 : BitVec 32 := 16#32
  let v392 : BitVec 32 := Scalar.muli v2 c16_i32_278
  let v393 : BitVec 32 := Scalar.addi c0_i32_279 v392
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v391 : BitVec 32 := Scalar.addi v5 c_m1_i32
  let c4_i32_280 : BitVec 32 := 4#32
  let v394 : BitVec 32 := Scalar.muli v391 c4_i32_280
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v396 : BitVec 32 := Scalar.muli v8 c1_i32_281
  let v397 : BitVec 32 := Scalar.addi v395 v396
  v397.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c1_i32_192 : BitVec 32 := 1#32
  let v258 : BitVec 32 := Scalar.subi v5 c1_i32_192
  let c0_i32_193 : BitVec 32 := 0#32
  let v259 : BitVec 32 := Scalar.subi v258 c0_i32_193
  let c0_i32_194 : BitVec 32 := 0#32
  let v260 : BitVec 1 := Scalar.cmpi .sge v259 c0_i32_194
  let v261 : BitVec 1 := Scalar.andi v34 v260
  let v292 : BitVec 32 := Scalar.extui v261
  let c0_i32_216 : BitVec 32 := 0#32
  let v293 : BitVec 1 := Scalar.cmpi .ne v292 c0_i32_216
  v293

def k0_off7 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.subi v5 c1_i32_273
  let c128_i32_275 : BitVec 32 := 128#32
  let v389 : BitVec 32 := Scalar.muli v386 c128_i32_275
  let v390 : BitVec 32 := Scalar.addi v31 v389
  let c0_i32_283 : BitVec 32 := 0#32
  ![v390.toNat, 0]
def k0_dev12 (d0 : Dev nD) : Nat :=
  let c0_i32_292 : BitVec 32 := 0#32
  let c1_i32_288 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v407 : BitVec 32 := Scalar.subi c1_i32_288 v2
  let c16_i32_291 : BitVec 32 := 16#32
  let v408 : BitVec 32 := Scalar.muli v407 c16_i32_291
  let v409 : BitVec 32 := Scalar.addi c0_i32_292 v408
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_293 : BitVec 32 := 4#32
  let v410 : BitVec 32 := Scalar.muli v5 c4_i32_293
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_294 : BitVec 32 := 1#32
  let v412 : BitVec 32 := Scalar.muli v8 c1_i32_294
  let v413 : BitVec 32 := Scalar.addi v411 v412
  v413.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c1_i32_201 : BitVec 32 := 1#32
  let v270 : BitVec 32 := Scalar.addi v5 c1_i32_201
  let c0_i32_202 : BitVec 32 := 0#32
  let v271 : BitVec 32 := Scalar.addi v270 c0_i32_202
  let c3_i32_203 : BitVec 32 := 3#32
  let v272 : BitVec 1 := Scalar.cmpi .sle v271 c3_i32_203
  let v273 : BitVec 1 := Scalar.andi v35 v272
  let v294 : BitVec 32 := Scalar.extui v273
  let c0_i32_217 : BitVec 32 := 0#32
  let v295 : BitVec 1 := Scalar.cmpi .ne v294 c0_i32_217
  v295

def k0_off8 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.addi v5 c1_i32_273
  let c128_i32_275 : BitVec 32 := 128#32
  let v389 : BitVec 32 := Scalar.muli v386 c128_i32_275
  let v390 : BitVec 32 := Scalar.addi v31 v389
  let c0_i32_282 : BitVec 32 := 0#32
  ![v390.toNat, 0]
def k0_dev13 (d0 : Dev nD) : Nat :=
  let c0_i32_291 : BitVec 32 := 0#32
  let c1_i32_287 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v407 : BitVec 32 := Scalar.subi c1_i32_287 v2
  let c16_i32_290 : BitVec 32 := 16#32
  let v408 : BitVec 32 := Scalar.muli v407 c16_i32_290
  let v409 : BitVec 32 := Scalar.addi c0_i32_291 v408
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_292 : BitVec 32 := 4#32
  let v410 : BitVec 32 := Scalar.muli v5 c4_i32_292
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v412 : BitVec 32 := Scalar.muli v8 c1_i32_293
  let v413 : BitVec 32 := Scalar.addi v411 v412
  v413.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c1_i32_218 : BitVec 32 := 1#32
  let v296 : BitVec 32 := Scalar.subi v5 c1_i32_218
  let c0_i32_219 : BitVec 32 := 0#32
  let v297 : BitVec 1 := Scalar.cmpi .sge v296 c0_i32_219
  let v298 : BitVec 1 := Scalar.andi v35 v297
  let v299 : BitVec 32 := Scalar.extui v298
  let c0_i32_220 : BitVec 32 := 0#32
  let v300 : BitVec 1 := Scalar.cmpi .ne v299 c0_i32_220
  v300

def k0_off9 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.subi v5 c1_i32_273
  let c128_i32_275 : BitVec 32 := 128#32
  let v389 : BitVec 32 := Scalar.muli v386 c128_i32_275
  let v390 : BitVec 32 := Scalar.addi v31 v389
  let c0_i32_283 : BitVec 32 := 0#32
  ![v390.toNat, 0]
def k0_dev14 (d0 : Dev nD) : Nat :=
  let c0_i32_280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_279 : BitVec 32 := 16#32
  let v392 : BitVec 32 := Scalar.muli v2 c16_i32_279
  let v393 : BitVec 32 := Scalar.addi c0_i32_280 v392
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_276 : BitVec 32 := 1#32
  let v391 : BitVec 32 := Scalar.addi v5 c1_i32_276
  let c4_i32_281 : BitVec 32 := 4#32
  let v394 : BitVec 32 := Scalar.muli v391 c4_i32_281
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v396 : BitVec 32 := Scalar.muli v8 c1_i32_282
  let v397 : BitVec 32 := Scalar.addi v395 v396
  v397.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c1_i32_221 : BitVec 32 := 1#32
  let v301 : BitVec 32 := Scalar.addi v5 c1_i32_221
  let c3_i32_222 : BitVec 32 := 3#32
  let v302 : BitVec 1 := Scalar.cmpi .sle v301 c3_i32_222
  let v303 : BitVec 1 := Scalar.andi v34 v302
  let v304 : BitVec 32 := Scalar.extui v303
  let c0_i32_223 : BitVec 32 := 0#32
  let v305 : BitVec 1 := Scalar.cmpi .ne v304 c0_i32_223
  v305

def k0_off10 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.addi v5 c1_i32_273
  let c128_i32_275 : BitVec 32 := 128#32
  let v389 : BitVec 32 := Scalar.muli v386 c128_i32_275
  let v390 : BitVec 32 := Scalar.addi v31 v389
  let c0_i32_282 : BitVec 32 := 0#32
  ![v390.toNat, 0]
def k0_dev15 (d0 : Dev nD) : Nat :=
  let c0_i32_279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_278 : BitVec 32 := 16#32
  let v392 : BitVec 32 := Scalar.muli v2 c16_i32_278
  let v393 : BitVec 32 := Scalar.addi c0_i32_279 v392
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v391 : BitVec 32 := Scalar.addi v5 c_m1_i32
  let c4_i32_280 : BitVec 32 := 4#32
  let v394 : BitVec 32 := Scalar.muli v391 c4_i32_280
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v396 : BitVec 32 := Scalar.muli v8 c1_i32_281
  let v397 : BitVec 32 := Scalar.addi v395 v396
  v397.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c1_i32_195 : BitVec 32 := 1#32
  let v262 : BitVec 32 := Scalar.subi v5 c1_i32_195
  let c1_i32_196 : BitVec 32 := 1#32
  let v263 : BitVec 32 := Scalar.subi v262 c1_i32_196
  let c0_i32_197 : BitVec 32 := 0#32
  let v264 : BitVec 1 := Scalar.cmpi .sge v263 c0_i32_197
  let v265 : BitVec 1 := Scalar.andi v34 v264
  let v306 : BitVec 32 := Scalar.extui v265
  let c0_i32_224 : BitVec 32 := 0#32
  let v307 : BitVec 1 := Scalar.cmpi .ne v306 c0_i32_224
  v307

def k0_off11 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v386 : BitVec 32 := Scalar.subi v5 c2_i32_273
  let c128_i32_275 : BitVec 32 := 128#32
  let v389 : BitVec 32 := Scalar.muli v386 c128_i32_275
  let v390 : BitVec 32 := Scalar.addi v31 v389
  let c0_i32_283 : BitVec 32 := 0#32
  ![v390.toNat, 0]
def k0_dev16 (d0 : Dev nD) : Nat :=
  let c0_i32_292 : BitVec 32 := 0#32
  let c1_i32_288 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v407 : BitVec 32 := Scalar.subi c1_i32_288 v2
  let c16_i32_291 : BitVec 32 := 16#32
  let v408 : BitVec 32 := Scalar.muli v407 c16_i32_291
  let v409 : BitVec 32 := Scalar.addi c0_i32_292 v408
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_293 : BitVec 32 := 4#32
  let v410 : BitVec 32 := Scalar.muli v5 c4_i32_293
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_294 : BitVec 32 := 1#32
  let v412 : BitVec 32 := Scalar.muli v8 c1_i32_294
  let v413 : BitVec 32 := Scalar.addi v411 v412
  v413.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c1_i32_204 : BitVec 32 := 1#32
  let v274 : BitVec 32 := Scalar.addi v5 c1_i32_204
  let c1_i32_205 : BitVec 32 := 1#32
  let v275 : BitVec 32 := Scalar.addi v274 c1_i32_205
  let c3_i32_206 : BitVec 32 := 3#32
  let v276 : BitVec 1 := Scalar.cmpi .sle v275 c3_i32_206
  let v277 : BitVec 1 := Scalar.andi v35 v276
  let v308 : BitVec 32 := Scalar.extui v277
  let c0_i32_225 : BitVec 32 := 0#32
  let v309 : BitVec 1 := Scalar.cmpi .ne v308 c0_i32_225
  v309

def k0_off12 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v386 : BitVec 32 := Scalar.addi v5 c2_i32_273
  let c128_i32_275 : BitVec 32 := 128#32
  let v389 : BitVec 32 := Scalar.muli v386 c128_i32_275
  let v390 : BitVec 32 := Scalar.addi v31 v389
  let c0_i32_282 : BitVec 32 := 0#32
  ![v390.toNat, 0]
def k0_dev17 (d0 : Dev nD) : Nat :=
  let c0_i32_291 : BitVec 32 := 0#32
  let c1_i32_287 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v407 : BitVec 32 := Scalar.subi c1_i32_287 v2
  let c16_i32_290 : BitVec 32 := 16#32
  let v408 : BitVec 32 := Scalar.muli v407 c16_i32_290
  let v409 : BitVec 32 := Scalar.addi c0_i32_291 v408
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_292 : BitVec 32 := 4#32
  let v410 : BitVec 32 := Scalar.muli v5 c4_i32_292
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v412 : BitVec 32 := Scalar.muli v8 c1_i32_293
  let v413 : BitVec 32 := Scalar.addi v411 v412
  v413.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c2_i32_226 : BitVec 32 := 2#32
  let v310 : BitVec 32 := Scalar.subi v5 c2_i32_226
  let c0_i32_227 : BitVec 32 := 0#32
  let v311 : BitVec 1 := Scalar.cmpi .sge v310 c0_i32_227
  let v312 : BitVec 1 := Scalar.andi v35 v311
  let v313 : BitVec 32 := Scalar.extui v312
  let c0_i32_228 : BitVec 32 := 0#32
  let v314 : BitVec 1 := Scalar.cmpi .ne v313 c0_i32_228
  v314

def k0_off13 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v386 : BitVec 32 := Scalar.subi v5 c2_i32_273
  let c128_i32_275 : BitVec 32 := 128#32
  let v389 : BitVec 32 := Scalar.muli v386 c128_i32_275
  let v390 : BitVec 32 := Scalar.addi v31 v389
  let c0_i32_283 : BitVec 32 := 0#32
  ![v390.toNat, 0]
def k0_dev18 (d0 : Dev nD) : Nat :=
  let c0_i32_280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_279 : BitVec 32 := 16#32
  let v392 : BitVec 32 := Scalar.muli v2 c16_i32_279
  let v393 : BitVec 32 := Scalar.addi c0_i32_280 v392
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_276 : BitVec 32 := 1#32
  let v391 : BitVec 32 := Scalar.addi v5 c1_i32_276
  let c4_i32_281 : BitVec 32 := 4#32
  let v394 : BitVec 32 := Scalar.muli v391 c4_i32_281
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v396 : BitVec 32 := Scalar.muli v8 c1_i32_282
  let v397 : BitVec 32 := Scalar.addi v395 v396
  v397.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c2_i32_229 : BitVec 32 := 2#32
  let v315 : BitVec 32 := Scalar.addi v5 c2_i32_229
  let c3_i32_230 : BitVec 32 := 3#32
  let v316 : BitVec 1 := Scalar.cmpi .sle v315 c3_i32_230
  let v317 : BitVec 1 := Scalar.andi v34 v316
  let v318 : BitVec 32 := Scalar.extui v317
  let c0_i32_231 : BitVec 32 := 0#32
  let v319 : BitVec 1 := Scalar.cmpi .ne v318 c0_i32_231
  v319

def k0_off14 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v386 : BitVec 32 := Scalar.addi v5 c2_i32_273
  let c128_i32_275 : BitVec 32 := 128#32
  let v389 : BitVec 32 := Scalar.muli v386 c128_i32_275
  let v390 : BitVec 32 := Scalar.addi v31 v389
  let c0_i32_282 : BitVec 32 := 0#32
  ![v390.toNat, 0]
def k0_dev19 (d0 : Dev nD) : Nat :=
  let c0_i32_279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_278 : BitVec 32 := 16#32
  let v392 : BitVec 32 := Scalar.muli v2 c16_i32_278
  let v393 : BitVec 32 := Scalar.addi c0_i32_279 v392
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v391 : BitVec 32 := Scalar.addi v5 c_m1_i32
  let c4_i32_280 : BitVec 32 := 4#32
  let v394 : BitVec 32 := Scalar.muli v391 c4_i32_280
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v396 : BitVec 32 := Scalar.muli v8 c1_i32_281
  let v397 : BitVec 32 := Scalar.addi v395 v396
  v397.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c1_i32_198 : BitVec 32 := 1#32
  let v266 : BitVec 32 := Scalar.subi v5 c1_i32_198
  let c2_i32_199 : BitVec 32 := 2#32
  let v267 : BitVec 32 := Scalar.subi v266 c2_i32_199
  let c0_i32_200 : BitVec 32 := 0#32
  let v268 : BitVec 1 := Scalar.cmpi .sge v267 c0_i32_200
  let v269 : BitVec 1 := Scalar.andi v34 v268
  let v320 : BitVec 32 := Scalar.extui v269
  let c0_i32_232 : BitVec 32 := 0#32
  let v321 : BitVec 1 := Scalar.cmpi .ne v320 c0_i32_232
  v321

def k0_off15 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_273 : BitVec 32 := 3#32
  let v386 : BitVec 32 := Scalar.subi v5 c3_i32_273
  let c128_i32_275 : BitVec 32 := 128#32
  let v389 : BitVec 32 := Scalar.muli v386 c128_i32_275
  let v390 : BitVec 32 := Scalar.addi v31 v389
  let c0_i32_283 : BitVec 32 := 0#32
  ![v390.toNat, 0]
def k0_dev20 (d0 : Dev nD) : Nat :=
  let c0_i32_292 : BitVec 32 := 0#32
  let c1_i32_288 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v407 : BitVec 32 := Scalar.subi c1_i32_288 v2
  let c16_i32_291 : BitVec 32 := 16#32
  let v408 : BitVec 32 := Scalar.muli v407 c16_i32_291
  let v409 : BitVec 32 := Scalar.addi c0_i32_292 v408
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_293 : BitVec 32 := 4#32
  let v410 : BitVec 32 := Scalar.muli v5 c4_i32_293
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_294 : BitVec 32 := 1#32
  let v412 : BitVec 32 := Scalar.muli v8 c1_i32_294
  let v413 : BitVec 32 := Scalar.addi v411 v412
  v413.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c1_i32_207 : BitVec 32 := 1#32
  let v278 : BitVec 32 := Scalar.addi v5 c1_i32_207
  let c2_i32_208 : BitVec 32 := 2#32
  let v279 : BitVec 32 := Scalar.addi v278 c2_i32_208
  let c3_i32_209 : BitVec 32 := 3#32
  let v280 : BitVec 1 := Scalar.cmpi .sle v279 c3_i32_209
  let v281 : BitVec 1 := Scalar.andi v35 v280
  let v322 : BitVec 32 := Scalar.extui v281
  let c0_i32_233 : BitVec 32 := 0#32
  let v323 : BitVec 1 := Scalar.cmpi .ne v322 c0_i32_233
  v323

def k0_off16 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_273 : BitVec 32 := 3#32
  let v386 : BitVec 32 := Scalar.addi v5 c3_i32_273
  let c128_i32_275 : BitVec 32 := 128#32
  let v389 : BitVec 32 := Scalar.muli v386 c128_i32_275
  let v390 : BitVec 32 := Scalar.addi v31 v389
  let c0_i32_282 : BitVec 32 := 0#32
  ![v390.toNat, 0]
def k0_dev21 (d0 : Dev nD) : Nat :=
  let c0_i32_291 : BitVec 32 := 0#32
  let c1_i32_287 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v407 : BitVec 32 := Scalar.subi c1_i32_287 v2
  let c16_i32_290 : BitVec 32 := 16#32
  let v408 : BitVec 32 := Scalar.muli v407 c16_i32_290
  let v409 : BitVec 32 := Scalar.addi c0_i32_291 v408
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_292 : BitVec 32 := 4#32
  let v410 : BitVec 32 := Scalar.muli v5 c4_i32_292
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v412 : BitVec 32 := Scalar.muli v8 c1_i32_293
  let v413 : BitVec 32 := Scalar.addi v411 v412
  v413.toNat
def k0_off17 (d0 : Dev nD) : Fin 2 → Nat :=
  let c1_i32_181 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v243 : BitVec 32 := Scalar.subi c1_i32_181 v2
  let c512_i32_182 : BitVec 32 := 512#32
  let v244 : BitVec 32 := Scalar.muli v243 c512_i32_182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32_241 : BitVec 32 := 128#32
  let v333 : BitVec 32 := Scalar.muli v5 c128_i32_241
  let v334 : BitVec 32 := Scalar.addi v244 v333
  let c0_i32_247 : BitVec 32 := 0#32
  ![v334.toNat, 0]
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c1_i32_192 : BitVec 32 := 1#32
  let v258 : BitVec 32 := Scalar.subi v5 c1_i32_192
  let c0_i32_193 : BitVec 32 := 0#32
  let v259 : BitVec 32 := Scalar.subi v258 c0_i32_193
  let c0_i32_194 : BitVec 32 := 0#32
  let v260 : BitVec 1 := Scalar.cmpi .sge v259 c0_i32_194
  let v261 : BitVec 1 := Scalar.andi v34 v260
  let v344 : BitVec 32 := Scalar.extui v261
  let c0_i32_249 : BitVec 32 := 0#32
  let v345 : BitVec 1 := Scalar.cmpi .ne v344 c0_i32_249
  v345

def k0_off18 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.subi v5 c1_i32_273
  let c0_i32_274 : BitVec 32 := 0#32
  let v387 : BitVec 32 := Scalar.subi v386 c0_i32_274
  let c128_i32_275 : BitVec 32 := 128#32
  let v388 : BitVec 32 := Scalar.muli v387 c128_i32_275
  let v389 : BitVec 32 := Scalar.addi v31 v388
  let c0_i32_281 : BitVec 32 := 0#32
  ![v389.toNat, 0]
def k0_off19 (d0 : Dev nD) : Fin 2 → Nat :=
  let c1_i32_181 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v243 : BitVec 32 := Scalar.subi c1_i32_181 v2
  let c512_i32_182 : BitVec 32 := 512#32
  let v244 : BitVec 32 := Scalar.muli v243 c512_i32_182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.subi v5 c1_i32_273
  let c0_i32_274 : BitVec 32 := 0#32
  let v387 : BitVec 32 := Scalar.subi v386 c0_i32_274
  let c128_i32_284 : BitVec 32 := 128#32
  let v399 : BitVec 32 := Scalar.muli v387 c128_i32_284
  let v400 : BitVec 32 := Scalar.addi v244 v399
  let c0_i32_292 : BitVec 32 := 0#32
  ![v400.toNat, 0]
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c1_i32_201 : BitVec 32 := 1#32
  let v270 : BitVec 32 := Scalar.addi v5 c1_i32_201
  let c0_i32_202 : BitVec 32 := 0#32
  let v271 : BitVec 32 := Scalar.addi v270 c0_i32_202
  let c3_i32_203 : BitVec 32 := 3#32
  let v272 : BitVec 1 := Scalar.cmpi .sle v271 c3_i32_203
  let v273 : BitVec 1 := Scalar.andi v35 v272
  let v346 : BitVec 32 := Scalar.extui v273
  let c0_i32_250 : BitVec 32 := 0#32
  let v347 : BitVec 1 := Scalar.cmpi .ne v346 c0_i32_250
  v347

def k0_off20 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.addi v5 c1_i32_273
  let c0_i32_274 : BitVec 32 := 0#32
  let v387 : BitVec 32 := Scalar.addi v386 c0_i32_274
  let c128_i32_275 : BitVec 32 := 128#32
  let v388 : BitVec 32 := Scalar.muli v387 c128_i32_275
  let v389 : BitVec 32 := Scalar.addi v31 v388
  let c0_i32_281 : BitVec 32 := 0#32
  ![v389.toNat, 0]
def k0_off21 (d0 : Dev nD) : Fin 2 → Nat :=
  let c1_i32_181 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v243 : BitVec 32 := Scalar.subi c1_i32_181 v2
  let c512_i32_182 : BitVec 32 := 512#32
  let v244 : BitVec 32 := Scalar.muli v243 c512_i32_182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.addi v5 c1_i32_273
  let c0_i32_274 : BitVec 32 := 0#32
  let v387 : BitVec 32 := Scalar.addi v386 c0_i32_274
  let c128_i32_284 : BitVec 32 := 128#32
  let v399 : BitVec 32 := Scalar.muli v387 c128_i32_284
  let v400 : BitVec 32 := Scalar.addi v244 v399
  let c0_i32_292 : BitVec 32 := 0#32
  ![v400.toNat, 0]
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c1_i32_195 : BitVec 32 := 1#32
  let v262 : BitVec 32 := Scalar.subi v5 c1_i32_195
  let c1_i32_196 : BitVec 32 := 1#32
  let v263 : BitVec 32 := Scalar.subi v262 c1_i32_196
  let c0_i32_197 : BitVec 32 := 0#32
  let v264 : BitVec 1 := Scalar.cmpi .sge v263 c0_i32_197
  let v265 : BitVec 1 := Scalar.andi v34 v264
  let v348 : BitVec 32 := Scalar.extui v265
  let c0_i32_251 : BitVec 32 := 0#32
  let v349 : BitVec 1 := Scalar.cmpi .ne v348 c0_i32_251
  v349

def k0_off22 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.subi v5 c1_i32_273
  let c1_i32_274 : BitVec 32 := 1#32
  let v387 : BitVec 32 := Scalar.subi v386 c1_i32_274
  let c128_i32_275 : BitVec 32 := 128#32
  let v388 : BitVec 32 := Scalar.muli v387 c128_i32_275
  let v389 : BitVec 32 := Scalar.addi v31 v388
  let c0_i32_281 : BitVec 32 := 0#32
  ![v389.toNat, 0]
def k0_off23 (d0 : Dev nD) : Fin 2 → Nat :=
  let c1_i32_181 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v243 : BitVec 32 := Scalar.subi c1_i32_181 v2
  let c512_i32_182 : BitVec 32 := 512#32
  let v244 : BitVec 32 := Scalar.muli v243 c512_i32_182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.subi v5 c1_i32_273
  let c1_i32_274 : BitVec 32 := 1#32
  let v387 : BitVec 32 := Scalar.subi v386 c1_i32_274
  let c128_i32_284 : BitVec 32 := 128#32
  let v399 : BitVec 32 := Scalar.muli v387 c128_i32_284
  let v400 : BitVec 32 := Scalar.addi v244 v399
  let c0_i32_292 : BitVec 32 := 0#32
  ![v400.toNat, 0]
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c1_i32_204 : BitVec 32 := 1#32
  let v274 : BitVec 32 := Scalar.addi v5 c1_i32_204
  let c1_i32_205 : BitVec 32 := 1#32
  let v275 : BitVec 32 := Scalar.addi v274 c1_i32_205
  let c3_i32_206 : BitVec 32 := 3#32
  let v276 : BitVec 1 := Scalar.cmpi .sle v275 c3_i32_206
  let v277 : BitVec 1 := Scalar.andi v35 v276
  let v350 : BitVec 32 := Scalar.extui v277
  let c0_i32_252 : BitVec 32 := 0#32
  let v351 : BitVec 1 := Scalar.cmpi .ne v350 c0_i32_252
  v351

def k0_off24 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.addi v5 c1_i32_273
  let c1_i32_274 : BitVec 32 := 1#32
  let v387 : BitVec 32 := Scalar.addi v386 c1_i32_274
  let c128_i32_275 : BitVec 32 := 128#32
  let v388 : BitVec 32 := Scalar.muli v387 c128_i32_275
  let v389 : BitVec 32 := Scalar.addi v31 v388
  let c0_i32_281 : BitVec 32 := 0#32
  ![v389.toNat, 0]
def k0_off25 (d0 : Dev nD) : Fin 2 → Nat :=
  let c1_i32_181 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v243 : BitVec 32 := Scalar.subi c1_i32_181 v2
  let c512_i32_182 : BitVec 32 := 512#32
  let v244 : BitVec 32 := Scalar.muli v243 c512_i32_182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.addi v5 c1_i32_273
  let c1_i32_274 : BitVec 32 := 1#32
  let v387 : BitVec 32 := Scalar.addi v386 c1_i32_274
  let c128_i32_284 : BitVec 32 := 128#32
  let v399 : BitVec 32 := Scalar.muli v387 c128_i32_284
  let v400 : BitVec 32 := Scalar.addi v244 v399
  let c0_i32_292 : BitVec 32 := 0#32
  ![v400.toNat, 0]
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c1_i32_198 : BitVec 32 := 1#32
  let v266 : BitVec 32 := Scalar.subi v5 c1_i32_198
  let c2_i32_199 : BitVec 32 := 2#32
  let v267 : BitVec 32 := Scalar.subi v266 c2_i32_199
  let c0_i32_200 : BitVec 32 := 0#32
  let v268 : BitVec 1 := Scalar.cmpi .sge v267 c0_i32_200
  let v269 : BitVec 1 := Scalar.andi v34 v268
  let v352 : BitVec 32 := Scalar.extui v269
  let c0_i32_253 : BitVec 32 := 0#32
  let v353 : BitVec 1 := Scalar.cmpi .ne v352 c0_i32_253
  v353

def k0_off26 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.subi v5 c1_i32_273
  let c2_i32_274 : BitVec 32 := 2#32
  let v387 : BitVec 32 := Scalar.subi v386 c2_i32_274
  let c128_i32_275 : BitVec 32 := 128#32
  let v388 : BitVec 32 := Scalar.muli v387 c128_i32_275
  let v389 : BitVec 32 := Scalar.addi v31 v388
  let c0_i32_281 : BitVec 32 := 0#32
  ![v389.toNat, 0]
def k0_off27 (d0 : Dev nD) : Fin 2 → Nat :=
  let c1_i32_181 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v243 : BitVec 32 := Scalar.subi c1_i32_181 v2
  let c512_i32_182 : BitVec 32 := 512#32
  let v244 : BitVec 32 := Scalar.muli v243 c512_i32_182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.subi v5 c1_i32_273
  let c2_i32_274 : BitVec 32 := 2#32
  let v387 : BitVec 32 := Scalar.subi v386 c2_i32_274
  let c128_i32_284 : BitVec 32 := 128#32
  let v399 : BitVec 32 := Scalar.muli v387 c128_i32_284
  let v400 : BitVec 32 := Scalar.addi v244 v399
  let c0_i32_292 : BitVec 32 := 0#32
  ![v400.toNat, 0]
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c1_i32_207 : BitVec 32 := 1#32
  let v278 : BitVec 32 := Scalar.addi v5 c1_i32_207
  let c2_i32_208 : BitVec 32 := 2#32
  let v279 : BitVec 32 := Scalar.addi v278 c2_i32_208
  let c3_i32_209 : BitVec 32 := 3#32
  let v280 : BitVec 1 := Scalar.cmpi .sle v279 c3_i32_209
  let v281 : BitVec 1 := Scalar.andi v35 v280
  let v354 : BitVec 32 := Scalar.extui v281
  let c0_i32_254 : BitVec 32 := 0#32
  let v355 : BitVec 1 := Scalar.cmpi .ne v354 c0_i32_254
  v355

def k0_off28 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.addi v5 c1_i32_273
  let c2_i32_274 : BitVec 32 := 2#32
  let v387 : BitVec 32 := Scalar.addi v386 c2_i32_274
  let c128_i32_275 : BitVec 32 := 128#32
  let v388 : BitVec 32 := Scalar.muli v387 c128_i32_275
  let v389 : BitVec 32 := Scalar.addi v31 v388
  let c0_i32_281 : BitVec 32 := 0#32
  ![v389.toNat, 0]
def k0_off29 (d0 : Dev nD) : Fin 2 → Nat :=
  let c1_i32_181 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v243 : BitVec 32 := Scalar.subi c1_i32_181 v2
  let c512_i32_182 : BitVec 32 := 512#32
  let v244 : BitVec 32 := Scalar.muli v243 c512_i32_182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.addi v5 c1_i32_273
  let c2_i32_274 : BitVec 32 := 2#32
  let v387 : BitVec 32 := Scalar.addi v386 c2_i32_274
  let c128_i32_284 : BitVec 32 := 128#32
  let v399 : BitVec 32 := Scalar.muli v387 c128_i32_284
  let v400 : BitVec 32 := Scalar.addi v244 v399
  let c0_i32_292 : BitVec 32 := 0#32
  ![v400.toNat, 0]
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c0_i32_255 : BitVec 32 := 0#32
  let v356 : BitVec 32 := Scalar.subi v5 c0_i32_255
  let c0_i32_256 : BitVec 32 := 0#32
  let v357 : BitVec 1 := Scalar.cmpi .sge v356 c0_i32_256
  let v358 : BitVec 1 := Scalar.andi v35 v357
  let v359 : BitVec 32 := Scalar.extui v358
  let c0_i32_257 : BitVec 32 := 0#32
  let v360 : BitVec 1 := Scalar.cmpi .ne v359 c0_i32_257
  v360

def k0_off30 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_273 : BitVec 32 := 0#32
  let v386 : BitVec 32 := Scalar.subi v5 c0_i32_273
  let c128_i32_274 : BitVec 32 := 128#32
  let v387 : BitVec 32 := Scalar.muli v386 c128_i32_274
  let v388 : BitVec 32 := Scalar.addi v31 v387
  let c0_i32_280 : BitVec 32 := 0#32
  ![v388.toNat, 0]
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c0_i32_258 : BitVec 32 := 0#32
  let v361 : BitVec 32 := Scalar.addi v5 c0_i32_258
  let c3_i32_259 : BitVec 32 := 3#32
  let v362 : BitVec 1 := Scalar.cmpi .sle v361 c3_i32_259
  let v363 : BitVec 1 := Scalar.andi v34 v362
  let v364 : BitVec 32 := Scalar.extui v363
  let c0_i32_260 : BitVec 32 := 0#32
  let v365 : BitVec 1 := Scalar.cmpi .ne v364 c0_i32_260
  v365

def k0_off31 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_273 : BitVec 32 := 0#32
  let v386 : BitVec 32 := Scalar.addi v5 c0_i32_273
  let c128_i32_274 : BitVec 32 := 128#32
  let v387 : BitVec 32 := Scalar.muli v386 c128_i32_274
  let v388 : BitVec 32 := Scalar.addi v31 v387
  let c0_i32_279 : BitVec 32 := 0#32
  ![v388.toNat, 0]
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c1_i32_261 : BitVec 32 := 1#32
  let v366 : BitVec 32 := Scalar.subi v5 c1_i32_261
  let c0_i32_262 : BitVec 32 := 0#32
  let v367 : BitVec 1 := Scalar.cmpi .sge v366 c0_i32_262
  let v368 : BitVec 1 := Scalar.andi v35 v367
  let v369 : BitVec 32 := Scalar.extui v368
  let c0_i32_263 : BitVec 32 := 0#32
  let v370 : BitVec 1 := Scalar.cmpi .ne v369 c0_i32_263
  v370

def k0_off32 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.subi v5 c1_i32_273
  let c128_i32_274 : BitVec 32 := 128#32
  let v387 : BitVec 32 := Scalar.muli v386 c128_i32_274
  let v388 : BitVec 32 := Scalar.addi v31 v387
  let c0_i32_280 : BitVec 32 := 0#32
  ![v388.toNat, 0]
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c1_i32_264 : BitVec 32 := 1#32
  let v371 : BitVec 32 := Scalar.addi v5 c1_i32_264
  let c3_i32_265 : BitVec 32 := 3#32
  let v372 : BitVec 1 := Scalar.cmpi .sle v371 c3_i32_265
  let v373 : BitVec 1 := Scalar.andi v34 v372
  let v374 : BitVec 32 := Scalar.extui v373
  let c0_i32_266 : BitVec 32 := 0#32
  let v375 : BitVec 1 := Scalar.cmpi .ne v374 c0_i32_266
  v375

def k0_off33 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_273 : BitVec 32 := 1#32
  let v386 : BitVec 32 := Scalar.addi v5 c1_i32_273
  let c128_i32_274 : BitVec 32 := 128#32
  let v387 : BitVec 32 := Scalar.muli v386 c128_i32_274
  let v388 : BitVec 32 := Scalar.addi v31 v387
  let c0_i32_279 : BitVec 32 := 0#32
  ![v388.toNat, 0]
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let c2_i32_267 : BitVec 32 := 2#32
  let v376 : BitVec 32 := Scalar.subi v5 c2_i32_267
  let c0_i32_268 : BitVec 32 := 0#32
  let v377 : BitVec 1 := Scalar.cmpi .sge v376 c0_i32_268
  let v378 : BitVec 1 := Scalar.andi v35 v377
  let v379 : BitVec 32 := Scalar.extui v378
  let c0_i32_269 : BitVec 32 := 0#32
  let v380 : BitVec 1 := Scalar.cmpi .ne v379 c0_i32_269
  v380

def k0_off34 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v386 : BitVec 32 := Scalar.subi v5 c2_i32_273
  let c128_i32_274 : BitVec 32 := 128#32
  let v387 : BitVec 32 := Scalar.muli v386 c128_i32_274
  let v388 : BitVec 32 := Scalar.addi v31 v387
  let c0_i32_280 : BitVec 32 := 0#32
  ![v388.toNat, 0]
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let c2_i32_270 : BitVec 32 := 2#32
  let v381 : BitVec 32 := Scalar.addi v5 c2_i32_270
  let c3_i32_271 : BitVec 32 := 3#32
  let v382 : BitVec 1 := Scalar.cmpi .sle v381 c3_i32_271
  let v383 : BitVec 1 := Scalar.andi v34 v382
  let v384 : BitVec 32 := Scalar.extui v383
  let c0_i32_272 : BitVec 32 := 0#32
  let v385 : BitVec 1 := Scalar.cmpi .ne v384 c0_i32_272
  v385

def k0_off35 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v31 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_273 : BitVec 32 := 2#32
  let v386 : BitVec 32 := Scalar.addi v5 c2_i32_273
  let c128_i32_274 : BitVec 32 := 128#32
  let v387 : BitVec 32 := Scalar.muli v386 c128_i32_274
  let v388 : BitVec 32 := Scalar.addi v31 v387
  let c0_i32_279 : BitVec 32 := 0#32
  ![v388.toNat, 0]
def k0_dev22 (d0 : Dev nD) : Nat :=
  let c0_i32_276_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_275_r0 : BitVec 32 := 16#32
  let v388_r0 : BitVec 32 := Scalar.muli v2 c16_i32_275_r0
  let v389_r0 : BitVec 32 := Scalar.addi c0_i32_276_r0 v388_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_277_r0 : BitVec 32 := 4#32
  let v390_r0 : BitVec 32 := Scalar.muli v5 c4_i32_277_r0
  let v391_r0 : BitVec 32 := Scalar.addi v389_r0 v390_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_278_r0 : BitVec 32 := 1#32
  let v392_r0 : BitVec 32 := Scalar.muli v19 c1_i32_278_r0
  let v393_r0 : BitVec 32 := Scalar.addi v391_r0 v392_r0
  v393_r0.toNat
def k0_dev23 (d0 : Dev nD) : Nat :=
  let c0_i32_281_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_280_r0 : BitVec 32 := 16#32
  let v394_r0 : BitVec 32 := Scalar.muli v2 c16_i32_280_r0
  let v395_r0 : BitVec 32 := Scalar.addi c0_i32_281_r0 v394_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_282_r0 : BitVec 32 := 4#32
  let v396_r0 : BitVec 32 := Scalar.muli v5 c4_i32_282_r0
  let v397_r0 : BitVec 32 := Scalar.addi v395_r0 v396_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_283_r0 : BitVec 32 := 1#32
  let v398_r0 : BitVec 32 := Scalar.muli v30 c1_i32_283_r0
  let v399_r0 : BitVec 32 := Scalar.addi v397_r0 v398_r0
  v399_r0.toNat
def k0_dev24 (d0 : Dev nD) : Nat :=
  let c0_i32_286_r0 : BitVec 32 := 0#32
  let c1_i32_273_r0 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v387_r0 : BitVec 32 := Scalar.subi c1_i32_273_r0 v2
  let c16_i32_285_r0 : BitVec 32 := 16#32
  let v400_r0 : BitVec 32 := Scalar.muli v387_r0 c16_i32_285_r0
  let v401_r0 : BitVec 32 := Scalar.addi c0_i32_286_r0 v400_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_287_r0 : BitVec 32 := 4#32
  let v402_r0 : BitVec 32 := Scalar.muli v5 c4_i32_287_r0
  let v403_r0 : BitVec 32 := Scalar.addi v401_r0 v402_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288_r0 : BitVec 32 := 1#32
  let v404_r0 : BitVec 32 := Scalar.muli v8 c1_i32_288_r0
  let v405_r0 : BitVec 32 := Scalar.addi v403_r0 v404_r0
  v405_r0.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v34 : BitVec 1 := Scalar.cmpi .sge v5 c1_i32_15
  let v406_r0 : BitVec 32 := Scalar.extui v34
  let c0_i32_289_r0 : BitVec 32 := 0#32
  let v407_r0 : BitVec 1 := Scalar.cmpi .ne v406_r0 c0_i32_289_r0
  v407_r0

def k0_dev25 (d0 : Dev nD) : Nat :=
  let c0_i32_298_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_297_r0 : BitVec 32 := 16#32
  let v415_r0 : BitVec 32 := Scalar.muli v2 c16_i32_297_r0
  let v416_r0 : BitVec 32 := Scalar.addi c0_i32_298_r0 v415_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_295_r0 : BitVec 32 := 1#32
  let v414_r0 : BitVec 32 := Scalar.subi v5 c1_i32_295_r0
  let c4_i32_299_r0 : BitVec 32 := 4#32
  let v417_r0 : BitVec 32 := Scalar.muli v414_r0 c4_i32_299_r0
  let v418_r0 : BitVec 32 := Scalar.addi v416_r0 v417_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_300_r0 : BitVec 32 := 1#32
  let v419_r0 : BitVec 32 := Scalar.muli v8 c1_i32_300_r0
  let v420_r0 : BitVec 32 := Scalar.addi v418_r0 v419_r0
  v420_r0.toNat
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v35 : BitVec 1 := Scalar.cmpi .sle v5 c2_i32_16
  let v408_r0 : BitVec 32 := Scalar.extui v35
  let c0_i32_290_r0 : BitVec 32 := 0#32
  let v409_r0 : BitVec 1 := Scalar.cmpi .ne v408_r0 c0_i32_290_r0
  v409_r0

def k0_dev26 (d0 : Dev nD) : Nat :=
  let c0_i32_298_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_297_r0 : BitVec 32 := 16#32
  let v415_r0 : BitVec 32 := Scalar.muli v2 c16_i32_297_r0
  let v416_r0 : BitVec 32 := Scalar.addi c0_i32_298_r0 v415_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_295_r0 : BitVec 32 := 1#32
  let v414_r0 : BitVec 32 := Scalar.addi v5 c1_i32_295_r0
  let c4_i32_299_r0 : BitVec 32 := 4#32
  let v417_r0 : BitVec 32 := Scalar.muli v414_r0 c4_i32_299_r0
  let v418_r0 : BitVec 32 := Scalar.addi v416_r0 v417_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_300_r0 : BitVec 32 := 1#32
  let v419_r0 : BitVec 32 := Scalar.muli v8 c1_i32_300_r0
  let v420_r0 : BitVec 32 := Scalar.addi v418_r0 v419_r0
  v420_r0.toNat
abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x2048x64x64 : Shape := ⟨4, ![2, 2048, 64, 64]⟩
abbrev S4096x4096 : Shape := ⟨2, ![4096, 4096]⟩
abbrev S2x2048x4096 : Shape := ⟨3, ![2, 2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x64x64, .bf16⟩
  | .hbm, ⟨1, _⟩ => ⟨S4096x4096, .bf16⟩
  | .hbm, ⟨2, _⟩ => ⟨S2x2048x4096, .bf16⟩
  | .hbm, ⟨3, _⟩ => ⟨S2x2048x4096, .f32⟩
  | .hbm, ⟨4, _⟩ => ⟨S2x2048x4096, .bf16⟩
  | _, _ => ⟨S2x2048x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
  The mesh the kernel runs on, who talks to whom, and the list of what every device pays others.

  A device has three coordinates. Along the third (z) the devices form a ring; the first (x) has two values, so every
  device has one partner there; along the second (y) the devices form a line of four. The kernel's result is kept in
  eight blocks of 128 rows: block `4 * h + q` is worked out by the device with coordinates `h` and `q` and is then
  copied to the other devices that share the third coordinate.
-/
module

public import proofs.«01_k».proof.Proof.Gen.KernelIdeal.Regions
public import proofs.«01_k».proof.Proof.Gen.KernelIdeal.Launch
public import proofs.«01_k».proof.Proof.Gen.KernelIdeal.Points
public import proofs.«01_k».proof.Proof.Gen.KernelIdeal.Skeleton
public import Idealize.ShloMosaic.Lib.Rounds
public import Idealize.ShloMosaic.Lib.StableHlo
public import Idealize.ShloMosaic.Lib.Tactic
public import Idealize.ShloMosaic.Lib.Pipeline.RegionTalk

@[expose] public section

noncomputable section

namespace Cert.KernelIdeal.Talk

open Cert.KernelIdeal Cert.KernelIdeal.Gen
open Idealize.ShloMosaic
open Idealize.ShloMosaic.TcCoe
open Idealize.SL Idealize.SL.Sem

/-! ## Coordinates and neighbours -/

/-- The device's three coordinates. -/
abbrev mx (c : Dev nD) : ℕ := c.val / 16
abbrev my (c : Dev nD) : ℕ := c.val / 4 % 4
abbrev mz (c : Dev nD) : ℕ := c.val % 4

/-- The number of the neighbour in each of the five directions: down and up the ring, the partner, and one step down
    or up the line (which, to have an inverse everywhere, wraps around; whether the step exists is `has`). -/
abbrev nbNum (k : Fin 5) (c : Dev nD) : ℕ :=
  match k with
  | 0 => 16 * mx c + 4 * my c + (mz c + 3) % 4
  | 1 => 16 * mx c + 4 * my c + (mz c + 1) % 4
  | 2 => 16 * (1 - mx c) + 4 * my c + mz c
  | 3 => 16 * mx c + 4 * ((my c + 3) % 4) + mz c
  | 4 => 16 * mx c + 4 * ((my c + 1) % 4) + mz c

/-- The neighbour in a direction. -/
def nb (k : Fin 5) (c : Dev nD) : Dev nD := ⟨nbNum k c % 32, Nat.mod_lt _ (by decide)⟩

/-- The direction back. -/
def opp : Fin 5 → Fin 5 := ![1, 0, 2, 4, 3]

theorem opp_opp : ∀ k, opp (opp k) = k := by decide
theorem nb_opp : ∀ (k : Fin 5) (c : Dev nD), nb (opp k) (nb k c) = c := by decide +kernel
theorem nb_opp' (k : Fin 5) (c : Dev nD) : nb k (nb (opp k) c) = c := by
  have h := nb_opp (opp k) c
  rwa [opp_opp] at h

/-- Going one step in a direction, as a permutation of the devices. -/
def nbE (k : Fin 5) : Dev nD ≃ Dev nD := ⟨nb k, nb (opp k), nb_opp k, nb_opp' k⟩

/-- Whether the device has a neighbour in a direction: the line ends, the ring and the pairs do not. -/
def has (k : Fin 5) (c : Dev nD) : Bool :=
  match k with
  | 3 => decide (1 ≤ my c)
  | 4 => decide (my c ≤ 2)
  | _ => true

theorem has_nb : ∀ (k : Fin 5) (c : Dev nD), has (opp k) (nb k c) = has k c := by decide +kernel

/-! ## Blocks by distance along the line -/

/-- The four blocks of one half, named from the device's own place: 0 is its own, `1 … 3` lie that many places below
    it, `4 … 6` lie `1 … 3` places above. -/
def qs (i : Fin 7) (c : Dev nD) : ℕ :=
  match i with
  | 0 => my c
  | 1 => my c - 1
  | 2 => my c - 2
  | 3 => my c - 3
  | 4 => my c + 1
  | 5 => my c + 2
  | 6 => my c + 3

/-- Whether the line has that place. -/
def en (i : Fin 7) (c : Dev nD) : Bool :=
  match i with
  | 0 => true
  | 1 => decide (1 ≤ my c)
  | 2 => decide (2 ≤ my c)
  | 3 => decide (3 ≤ my c)
  | 4 => decide (my c ≤ 2)
  | 5 => decide (my c ≤ 1)
  | 6 => decide (my c ≤ 0)

/-- The copies along the line: `0 … 2` go one step up, `3 … 5` one step down. Which block each carries, named from
    the sender's place, and how the receiver names it. -/
def src : Fin 6 → Fin 7 := ![0, 1, 2, 0, 4, 5]
def lands : Fin 6 → Fin 7 := ![1, 2, 3, 4, 5, 6]
def ydir : Fin 6 → Fin 5 := ![4, 4, 4, 3, 3, 3]

/-- Whether the device makes the copy: the block's place exists and so does the neighbour. -/
def enY (j : Fin 6) (c : Dev nD) : Bool := has (ydir j) c && en (src j) c

/-- The number of a block: the half, and the place along the line. -/
abbrev own (c : Dev nD) (i : Fin 7) : ℕ := 4 * mx c + qs i c
abbrev oth (c : Dev nD) (i : Fin 7) : ℕ := 4 * (1 - mx c) + qs i c

theorem qs_lt : ∀ (i : Fin 7) (c : Dev nD), en i c = true → qs i c < 4 := by decide +kernel
theorem en_partner : ∀ (i : Fin 7) (c : Dev nD), en i (nb 2 c) = en i c := by decide +kernel
theorem own_partner : ∀ (i : Fin 7) (c : Dev nD), own (nb 2 c) i = oth c i := by decide +kernel
theorem oth_partner : ∀ (i : Fin 7) (c : Dev nD), oth (nb 2 c) i = own c i := by decide +kernel
theorem en_lands : ∀ (j : Fin 6) (c : Dev nD), en (lands j) (nb (ydir j) c) = true ↔ enY j c = true := by decide +kernel
theorem en_lands' : ∀ (j : Fin 6) (c : Dev nD), enY j (nb (opp (ydir j)) c) = en (lands j) c := by decide +kernel
theorem own_lands : ∀ (j : Fin 6) (c : Dev nD), enY j c = true → own (nb (ydir j) c) (lands j) = own c (src j) := by decide +kernel
theorem own_lands' : ∀ (j : Fin 6) (c : Dev nD), en (lands j) c = true → own (nb (opp (ydir j)) c) (src j) = own c (lands j) := by decide +kernel
theorem mz_nb2 : ∀ c : Dev nD, mz (nb 2 c) = mz c := by decide +kernel
theorem mz_ydir : ∀ (j : Fin 6) (c : Dev nD), mz (nb (ydir j) c) = mz c := by decide +kernel
theorem own_lt : ∀ (i : Fin 7) (c : Dev nD), en i c = true → own c i < 8 := by decide +kernel

/-! ## Semaphores -/

/-- The semaphores of the copies: the ring's two ends, the pair's, the line's. -/
abbrev ringS : DmaSem sig := 3
def rrS : Fin 3 → DmaSem sig := ![4, 5, 6]
def ysS : Fin 6 → DmaSem sig := ![7, 8, 9, 13, 14, 15]
def yrS : Fin 6 → DmaSem sig := ![10, 11, 12, 16, 17, 18]
def xsS : Fin 7 → DmaSem sig := ![19, 21, 22, 23, 27, 28, 29]
def xrS : Fin 7 → DmaSem sig := ![20, 24, 25, 26, 30, 31, 32]

/-- The semaphore every device signals on arriving, and the one it signals on leaving. -/
abbrev barL : SemLoc sig := .reg 0
abbrev lvL : SemLoc sig := .reg 1

/-- The kernel's own semaphores, in one list: the one of leaving, then the copies'. -/
def osem (k : Fin 31) : SemLoc sig := if k.val = 0 then lvL else .dma ⟨k.val + 2, by have := k.isLt; show k.val + 2 < 33; omega⟩

theorem osem_inj : Function.Injective osem := by decide +kernel
theorem osem_ne_bar : ∀ k, osem k ≠ barL := by decide +kernel

/-! ## What a device pays to others -/

/-- The payments to other devices: a unit in each direction on arriving, three copies up the ring, the copies to the
    partner, the copies along the line, and a unit in each direction on leaving. -/
inductive Pay where
  | bar (k : Fin 5)
  | ring (s : Fin 3)
  | x (i : Fin 7)
  | y (j : Fin 6)
  | leave (k : Fin 5)
  deriving DecidableEq

/-- In the order the program makes them. -/
def order : List Pay :=
  [.bar 0, .bar 1, .bar 2, .bar 3, .bar 4, .ring 0, .ring 1, .ring 2, .x 0, .y 0, .y 3, .x 1, .x 4, .y 1, .y 4, .x 2, .x 5,
    .y 2, .y 5, .x 3, .x 6, .leave 0, .leave 1, .leave 2, .leave 3, .leave 4]

theorem order_nodup : order.Nodup := by decide
theorem mem_order (p : Pay) : p ∈ order := by
  rcases p with k | s | i | j | k
  · revert k; decide
  · revert s; decide
  · revert i; decide
  · revert j; decide
  · revert k; decide

instance : Fintype Pay := ⟨order.toFinset, fun p => List.mem_toFinset.mpr (mem_order p)⟩
theorem univ_pay : (Finset.univ : Finset Pay) = order.toFinset := rfl

/-- The semaphore a payment goes to, the direction it goes, whether the device makes it, the duty it is there. -/
def psem : Pay → SemLoc sig
  | .bar _ => barL
  | .ring s => .dma (rrS s)
  | .x i => .dma (xrS i)
  | .y j => .dma (yrS j)
  | .leave _ => lvL
def pdir : Pay → Fin 5
  | .bar k => k
  | .ring _ => 1
  | .x _ => 2
  | .y j => ydir j
  | .leave k => k
def pen : Pay → Dev nD → Bool
  | .bar k, c => has k c
  | .ring _, _ => true
  | .x i, c => en i c
  | .y j, c => enY j c
  | .leave k, c => has k c
def pduty : Pay → Fin 5
  | .bar k => k
  | .leave k => k
  | _ => 0

/-- What one copy of a block counts. -/
abbrev N : ℕ := (Memref.whole cc0_scratch1 : Memref sig .tc .vmem S128x4096 .bf16).view.dmaCredit
theorem N_pos : 0 < N := View.dmaCredit_pos _ (by decide)

/-- What a payment counts. -/
def pamt : Pay → ℕ
  | .bar _ => 1
  | .leave _ => 1
  | _ => N

/-- How late a semaphore is waited on: a wait only ever has later payments outstanding. -/
def lvl : SemLoc sig → ℕ
  | .reg s => if s = 0 then 1 else 20
  | .dma s => match s.val with
    | 4 => 2 | 5 => 3 | 6 => 4
    | 10 => 5 | 11 => 6 | 12 => 7 | 16 => 5 | 17 => 6 | 18 => 7
    | 20 => 10 | 24 => 10 | 25 => 10 | 26 => 10 | 30 => 10 | 31 => 10 | 32 => 10
    | _ => 0

theorem lvl_psem_pos : ∀ p : Pay, 0 < lvl (psem p) := by
  intro p
  rcases p with k | s | i | j | k
  · revert k; decide
  · revert s; decide
  · revert i; decide
  · revert j; decide
  · revert k; decide

theorem psem_duty_inj : ∀ p p' : Pay, psem p = psem p' → pduty p = pduty p' → p = p' := by decide +kernel

/-! ## The kernel's numbers, read as mesh neighbours -/

theorem dev_bar : ∀ d : Dev nD, (⟨k0_dev1 d, k0_dev1_lt d⟩ : Dev nD) = nb 0 d ∧ (⟨k0_dev2 d, k0_dev2_lt d⟩ : Dev nD) = nb 1 d
    ∧ (⟨k0_dev3 d, k0_dev3_lt d⟩ : Dev nD) = nb 2 d := by decide +kernel
theorem dev_leave : ∀ d : Dev nD, (⟨k0_dev22 d, k0_dev22_lt d⟩ : Dev nD) = nb 0 d ∧ (⟨k0_dev23 d, k0_dev23_lt d⟩ : Dev nD) = nb 1 d
    ∧ (⟨k0_dev24 d, k0_dev24_lt d⟩ : Dev nD) = nb 2 d := by decide +kernel
theorem dev_ring : ∀ d : Dev nD, (⟨k0_dev6 d, k0_dev6_lt d⟩ : Dev nD) = nb 1 d ∧ (⟨k0_dev7 d, k0_dev7_lt d⟩ : Dev nD) = nb 1 d
    ∧ (⟨k0_dev8 d, k0_dev8_lt d⟩ : Dev nD) = nb 1 d ∧ (⟨k0_dev9 d, k0_dev9_lt d⟩ : Dev nD) = nb 2 d := by decide +kernel

end Cert.KernelIdeal.Talk

end
-- ==== Proof.Sched.lean ====
/-
  The memory the devices talk about, the values it comes to hold, and the schedule of the payments: which semaphore is
  paid by whom, how much, and what memory changes hands with the payment.
-/
module

public import proofs.«01_k».proof.Proof.Mesh
public import Idealize.ShloMosaic.Lib.Pipeline.ValueKit.Geometry

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's own part, and the protocol's with five names of duties a semaphore. -/
abbrev UU : Type := UR sig nD τ × URounds (GSem nD τ sig) (Fin 5)

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

/-! ## The memory -/

abbrev oM : Memref sig .tc .vmem S4x128x1024 .bf16 := Memref.whole cc0_stg0_0
abbrev wM : Memref sig .tc .vmem S1024x4096 .bf16 := Memref.whole cc0_stg1_0
abbrev outM : Memref sig .tc .vmem S1024x4096 .bf16 := Memref.whole cc0_stg2_0
abbrev comM : Memref sig .tc .vmem S3x128x4096 .bf16 := Memref.whole cc0_scratch0
abbrev tmpM : Memref sig .tc .vmem S128x4096 .bf16 := Memref.whole cc0_scratch1

/-- 128 rows of the result, from an offset. -/
abbrev blkR (off : Fin 2 → ℕ) (inb : ∀ a, off a + S128x4096.size a ≤ S1024x4096.size a) : Rect S1024x4096 :=
  Rect.unit (s := S1024x4096) off S128x4096.size inb
abbrev blk (off : Fin 2 → ℕ) (inb : ∀ a, off a + S128x4096.size a ≤ S1024x4096.size a) : Memref sig .tc .vmem S128x4096 .bf16 :=
  outM.slice (blkR off inb) (fun _ => rfl)

/-- One of the three landing places of the ring. -/
theorem slot_inb (s : Fin 3) : ∀ a, (![s.val, 0, 0] : Fin 3 → ℕ) a + S1x128x4096.size a ≤ S3x128x4096.size a := by
  revert s; decide
abbrev slotR (s : Fin 3) : Rect S3x128x4096 := Rect.unit (s := S3x128x4096) ![s.val, 0, 0] S1x128x4096.size (slot_inb s)
abbrev slot (s : Fin 3) : Memref sig .tc .vmem S128x4096 .bf16 :=
  (comM.slice (slotR s) (fun _ => rfl)).squeeze S128x4096 squeezes_S1x128x4096_S128x4096

/-- The rows of block `b`. -/
def rows (b : ℕ) : Finset S1024x4096.Idx := Finset.univ.filter fun x => (x 0).val / 128 = b
/-- The elements of a landing place. -/
def place (s : Fin 3) : Finset S3x128x4096.Idx := (slotR s).set

theorem set_blk (off : Fin 2 → ℕ) (inb) (b : ℕ) (h : off = ![128 * b, 0]) : (blkR off inb).set = rows b := by
  subst h
  ext x
  rw [Rect.mem_set_unit, rows, Finset.mem_filter]
  have h1 : (x 1).val < 4096 := (x 1).isLt
  constructor
  · intro hx
    have := hx 0
    simp at this
    exact ⟨Finset.mem_univ _, by omega⟩
  · rintro ⟨-, hx⟩
    refine Fin.forall_fin_two.mpr ⟨?_, ?_⟩
    · show 128 * b ≤ (x 0).val ∧ (x 0).val < 128 * b + 128; omega
    · show 0 ≤ (x 1).val ∧ (x 1).val < 0 + 4096; omega

theorem rows_disjoint {b b' : ℕ} (h : b ≠ b') : Disjoint (rows b) (rows b') := by
  rw [Finset.disjoint_left]
  intro x hx hx'
  rw [rows, Finset.mem_filter] at hx hx'
  exact h (hx.2.symm.trans hx'.2)

theorem place_disjoint {s s' : Fin 3} (h : s ≠ s') : Disjoint (place s) (place s') := by
  rw [Finset.disjoint_left]
  intro x hx hx'
  unfold place at hx hx'
  rw [Rect.mem_set_unit] at hx hx'
  have a := hx 0
  have b := hx' 0
  simp at a b
  exact h (Fin.ext (by omega))

theorem place_cover : Finset.univ.biUnion place = (Finset.univ : Finset S3x128x4096.Idx) := by
  ext x
  simp only [Finset.mem_biUnion, Finset.mem_univ, true_and, iff_true]
  refine ⟨⟨(x 0).val, (x 0).isLt⟩, ?_⟩
  unfold place
  rw [Rect.mem_set_unit]
  have h1 : (x 1).val < 128 := (x 1).isLt
  have h2 : (x 2).val < 4096 := (x 2).isLt
  refine Fin.forall_fin_succ.mpr ⟨?_, Fin.forall_fin_two.mpr ⟨?_, ?_⟩⟩
  · show (x 0).val ≤ (x 0).val ∧ (x 0).val < (x 0).val + 1; omega
  · show 0 ≤ _ ∧ (x 1).val < 0 + 128; omega
  · show 0 ≤ _ ∧ (x 2).val < 0 + 4096; omega

abbrev outL (c : Dev nD) : Loc nD τ sig := outM.view.loc (c : Thread nD τ)
abbrev comL (c : Dev nD) : Loc nD τ sig := comM.view.loc (c : Thread nD τ)

abbrev BlkV (F : FTy → Type) : Type := S1024x4096.Idx → Elt F .bf16

/-- A block of device `c`'s result at given contents and share; at some contents, wholly. -/
abbrev rowsPt (c : Dev nD) (b : ℕ) (q : PosShare TreeShare) (f : BlkV F) : sProp 𝕄 := outL c ↦[rows b]{q} f
abbrev rowsAny (c : Dev nD) (b : ℕ) : sProp 𝕄 := iprop(∃ f : BlkV F, rowsPt c b fullShare f)
/-- A landing place, at given contents. -/
abbrev placePt (c : Dev nD) (s : Fin 3) (f : S3x128x4096.Idx → Elt F .bf16) : sProp 𝕄 := comL c ↦[place s]{fullShare} f
abbrev placeAny (c : Dev nD) (s : Fin 3) : sProp 𝕄 := iprop(∃ f : S3x128x4096.Idx → Elt F .bf16, placePt c s f)

/-! ## The values -/

section Values

variable (oV : Dev nD → Vec F S4x128x1024 .bf16) (wV : Dev nD → Vec F S1024x4096 .bf16)

/-- One of the four slabs of a device's left operand. -/
def chunk (v : Vec F S4x128x1024 .bf16) (z : ℕ) : Vec F S1x128x1024 .bf16 :=
  fun i => v (Fin.cons (α := fun a => Fin (S4x128x1024.size a)) ⟨z % 4, Nat.mod_lt _ (by decide)⟩ (fun a => i a.succ))

/-- The running sum that reaches a device over the ring: its own product of one slab, then what its lower neighbour had
    before plus its own product of the next. -/
def acc : ℕ → Dev nD → Vec F S128x4096 .bf16
  | 0, c => k0_pay1 (chunk (oV c) (mz c + 3)) (wV c)
  | s + 1, c => addf (k0_pay2 (chunk (oV c) (mz c + 2 + 3 * s)) (wV c)) (acc s (nb 0 c))

/-- The device with given coordinates. -/
def devAt (h q z : ℕ) : Dev nD := ⟨(16 * h + 4 * q + z) % 32, Nat.mod_lt _ (by decide)⟩

/-- A row within its block, and the row of a block. -/
def inBlk (x : S1024x4096.Idx) : S128x4096.Idx :=
  Fin.cons (α := fun a => Fin (S128x4096.size a)) ⟨(x 0).val % 128, Nat.mod_lt _ (by decide)⟩ (fun a => x a.succ)
def put (b : ℕ) (x : S128x4096.Idx) : S1024x4096.Idx :=
  Fin.cons (α := fun a => Fin (S1024x4096.size a)) ⟨(128 * b + (x 0).val) % 1024, Nat.mod_lt _ (by decide)⟩ (fun a => x a.succ)

/-- What the whole result holds in the end: every block the finished sum of the device that worked it out. -/
def fin (c : Dev nD) : BlkV F :=
  fun x => acc oV wV 3 (devAt ((x 0).val / 512) ((x 0).val % 512 / 128) (mz c)) (inBlk x)

theorem fin_partner (c : Dev nD) : fin oV wV (nb 2 c) = fin oV wV c := by unfold fin; rw [mz_nb2]
theorem fin_line (j : Fin 6) (c : Dev nD) : fin oV wV (nb (ydir j) c) = fin oV wV c := by unfold fin; rw [mz_ydir]

theorem devAt_own : ∀ c : Dev nD, devAt (mx c) (qs 0 c) (mz c) = c := by decide +kernel
theorem mx_lt : ∀ c : Dev nD, mx c < 2 := by decide +kernel

/-- A device whose own block holds its finished sum has it at the final contents. -/
theorem fin_own (c : Dev nD) (f : BlkV F) (h : ∀ x, f (put (own c 0) x) = acc oV wV 3 c x) :
    ∀ y ∈ rows (own c 0), f y = fin oV wV c y := by
  intro y hy
  rw [rows, Finset.mem_filter] at hy
  have hq : qs 0 c < 4 := qs_lt 0 c rfl
  have hm := mx_lt c
  have e : y = put (own c 0) (inBlk y) := by
    funext a
    refine Fin.cases ?_ (fun a => ?_) a
    · apply Fin.ext
      show (y 0).val = (128 * (4 * mx c + qs 0 c) + (y 0).val % 128) % 1024
      have := hy.2
      have hy0 : (y 0).val < 1024 := (y 0).isLt
      unfold own at this
      omega
    · rfl
  have e2 : devAt ((y 0).val / 512) ((y 0).val % 512 / 128) (mz c) = c := by
    have := hy.2
    unfold own at this
    rw [show (y 0).val / 512 = mx c by omega, show (y 0).val % 512 / 128 = qs 0 c by omega]
    exact devAt_own c
  show f y = acc oV wV 3 (devAt ((y 0).val / 512) ((y 0).val % 512 / 128) (mz c)) (inBlk y)
  rw [e2, ← h, ← e]

/-- Reading a block from an offset reads the rows there. -/
theorem emb_blk (off : Fin 2 → ℕ) (inb) (b : ℕ) (h : off = ![128 * b, 0]) (x : S128x4096.Idx) :
    (blk off inb).view.emb x = put b x := by
  subst h
  have h0 := inb 0
  simp at h0
  have hx : (x 0).val < 128 := (x 0).isLt
  funext a
  apply Fin.ext
  refine Eq.trans (ValueKit.view_emb_slice_whole_unit_val cc0_stg2_0 _ _ inb x a) ?_
  refine Fin.cases ?_ (fun a => ?_) a
  · show 128 * b + (x 0).val = (128 * b + (x 0).val) % 1024
    rw [Nat.mod_eq_of_lt]
    have : 128 * b ≤ 896 := h0
    omega
  · fin_cases a; show 0 + (x 1).val = (x 1).val; omega

/-! ## What is handed over -/

/-- The shares a finished block of the own half is sent out at: the partner's half, the line's the rest (of the own
    block, which goes both ways along the line, a quarter each). -/
def shY : Fin 6 → PosShare TreeShare := ![fullShare.right.left, fullShare.right, fullShare.right, fullShare.right.right, fullShare.right, fullShare.right]

/-- The other side's permission to be sent a block: its rows, and that the landing's count stands at its beginning. -/
def xIn (i : Fin 7) (g : Dev nD) : sProp 𝕄 :=
  if en i g = true then iprop(rowsAny (nb 2 g) (own g i) ∗ reached ER ((nb 2 g : Thread nD τ), .dma (xrS i)) 0) else iprop(emp)
def yIn (j : Fin 6) (g : Dev nD) : sProp 𝕄 :=
  if enY j g = true then iprop(rowsAny (nb (ydir j) g) (own g (src j)) ∗ reached ER ((nb (ydir j) g : Thread nD τ), .dma (yrS j)) 0)
  else iprop(emp)
def rIn (s : Fin 3) (g : Dev nD) : sProp 𝕄 :=
  iprop(placeAny (nb 1 g) s ∗ reached ER ((nb 1 g : Thread nD τ), .dma (rrS s)) 0)

/-- What device `g` is handed with a unit on arriving: by the ring neighbour above, its landing places; by the partner and
    the neighbours on the line, the rows they want filled. -/
def barPay (g : Dev nD) : Fin 5 → sProp 𝕄
  | 0 => iprop(reached ER ((nb 1 g : Thread nD τ), lvL) 0 ∗ rIn 0 g ∗ rIn 1 g ∗ rIn 2 g)
  | 1 => reached ER ((nb 0 g : Thread nD τ), lvL) 0
  | 2 => iprop(reached ER ((nb 2 g : Thread nD τ), lvL) 0 ∗ xIn 0 g ∗ xIn 1 g ∗ xIn 2 g ∗ xIn 3 g ∗ xIn 4 g ∗ xIn 5 g ∗ xIn 6 g)
  | 3 => iprop(reached ER ((nb 4 g : Thread nD τ), lvL) 0 ∗ yIn 0 g ∗ yIn 1 g ∗ yIn 2 g)
  | 4 => iprop(reached ER ((nb 3 g : Thread nD τ), lvL) 0 ∗ yIn 3 g ∗ yIn 4 g ∗ yIn 5 g)

/-- What a copy hands over: to the receiver the landed memory, to the sender its source back. -/
def ringPay (s : Fin 3) (c : Dev nD) : sProp 𝕄 :=
  iprop(∃ f : S3x128x4096.Idx → Elt F .bf16, ⌜(slot s).view.read (Elt F) f = acc oV wV s.val (nb 0 c)⌝ ∗ placePt c s f)
def ringBack (c : Dev nD) : sProp 𝕄 := rowsAny c (own c 0)
def xPay (i : Fin 7) (c : Dev nD) : sProp 𝕄 := rowsPt c (oth c i) fullShare (fin oV wV c)
def xBack (i : Fin 7) (c : Dev nD) : sProp 𝕄 := rowsPt c (own c i) fullShare.left (fin oV wV c)
def yPay (j : Fin 6) (c : Dev nD) : sProp 𝕄 := rowsPt c (own c (lands j)) fullShare (fin oV wV c)
def yBack (j : Fin 6) (c : Dev nD) : sProp 𝕄 := rowsPt c (own c (src j)) (shY j) (fin oV wV c)

end Values

end Cert.KernelIdeal.Talk

end
-- ==== Proof.Proto.lean ====
/-
  The schedule of the protocol as the library's rules take it: for every semaphore its rounds, the duties of a round,
  their amounts and payloads; and the facts about it that the rules ask for.
-/
module

public import proofs.«01_k».proof.Proof.Sched

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a semaphore of a copy counts: copies leaving on the ring, a copy over the ring landed, copies along the line left
    and landed, copies to the partner left and landed. -/
inductive Role where
  | ringS
  | ringR (s : Fin 3)
  | ys (j : Fin 6)
  | yr (j : Fin 6)
  | xs (i : Fin 7)
  | xr (i : Fin 7)
  | other

/-- The role of each of them. -/
def role (s : DmaSem sig) : Role :=
  (![.other, .other, .other, .ringS, .ringR 0, .ringR 1, .ringR 2, .ys 0, .ys 1, .ys 2, .yr 0, .yr 1, .yr 2, .ys 3, .ys 4,
    .ys 5, .yr 3, .yr 4, .yr 5, .xs 0, .xr 0, .xs 1, .xs 2, .xs 3, .xr 1, .xr 2, .xr 3, .xs 4, .xs 5, .xs 6, .xr 4, .xr 5,
    .xr 6] : Fin 33 → Role) s

theorem role_rr (s : Fin 3) : role (rrS s) = .ringR s := by fin_cases s <;> rfl
theorem role_ys (j : Fin 6) : role (ysS j) = .ys j := by fin_cases j <;> rfl
theorem role_yr (j : Fin 6) : role (yrS j) = .yr j := by fin_cases j <;> rfl
theorem role_xs (i : Fin 7) : role (xsS i) = .xs i := by fin_cases i <;> rfl
theorem role_xr (i : Fin 7) : role (xrS i) = .xr i := by fin_cases i <;> rfl
theorem role_ring : role ringS = .ringS := rfl

/-- Whether a copy is counted at all on device `c`, in round `r`. -/
def active (c : Dev nD) (r : ℕ) : Role → Bool
  | .ringS => decide (r < 3)
  | .ringR _ => decide (r = 0)
  | .ys j => decide (r = 0) && enY j c
  | .yr j => decide (r = 0) && en (lands j) c
  | .xs i => decide (r = 0) && en i c
  | .xr i => decide (r = 0) && en i c
  | .other => false

/-- The directions in which a device has a neighbour: the names of the units it is sent. -/
def comers (c : Dev nD) : Finset (Fin 5) := Finset.univ.filter fun d => has (opp d) c = true

def dutiesOf (c : Dev nD) (r : ℕ) : SemLoc sig → Finset (Fin 5)
  | .reg _ => if r = 0 then comers c else ∅
  | .dma s => if active c r (role s) = true then {0} else ∅

section Values

variable (oV : Dev nD → Vec F S4x128x1024 .bf16) (wV : Dev nD → Vec F S1024x4096 .bf16)

/-- What a copy hands over, by its role. -/
def rolePay (c : Dev nD) : Role → sProp 𝕄
  | .ringS => ringBack c
  | .ringR s => ringPay oV wV s c
  | .ys j => yBack oV wV j c
  | .yr j => yPay oV wV j c
  | .xs i => xBack oV wV i c
  | .xr i => xPay oV wV i c
  | .other => iprop(emp)

def payOf (c : Dev nD) (d : Fin 5) : SemLoc sig → sProp 𝕄
  | .reg s => if s = 0 then barPay c d else iprop(emp)
  | .dma s => rolePay oV wV c (role s)

def talk : Rounds.Schedule (GSem nD τ sig) (Fin 5) 𝕄 where
  duties g r := if g.1.2 = .tc then dutiesOf g.1.1 r g.2 else ∅
  unitless _ := False
  amount g _ _ := match g.2 with | .reg _ => 1 | .dma _ => N
  payload g _ d := payOf oV wV g.1.1 d g.2
  amount_pos g _ _ _ := by
    rcases g with ⟨t, s | s⟩
    · exact Nat.one_pos
    · exact N_pos

instance xIn_storable (i : Fin 7) (g : Dev nD) : BI.Storable (upEmb : UEmb _ 𝕄) (xIn (F := F) i g) := by
  unfold xIn; split <;> infer_instance
instance yIn_storable (j : Fin 6) (g : Dev nD) : BI.Storable (upEmb : UEmb _ 𝕄) (yIn (F := F) j g) := by
  unfold yIn; split <;> infer_instance
instance rIn_storable (s : Fin 3) (g : Dev nD) : BI.Storable (upEmb : UEmb _ 𝕄) (rIn (F := F) s g) := by
  unfold rIn; infer_instance
instance barPay_storable (g : Dev nD) (d : Fin 5) : BI.Storable (upEmb : UEmb _ 𝕄) (barPay (F := F) g d) := by
  unfold barPay; split <;> infer_instance
instance rolePay_storable (c : Dev nD) (ρ : Role) : BI.Storable (upEmb : UEmb _ 𝕄) (rolePay oV wV c ρ) := by
  cases ρ <;> unfold rolePay <;> (try unfold ringBack) <;> (try unfold ringPay) <;> (try unfold yBack) <;> (try unfold yPay)
    <;> (try unfold xBack) <;> (try unfold xPay) <;> infer_instance

instance talk_storable (g : GSem nD τ sig) (r : ℕ) (d : Fin 5) :
    BI.Storable (upEmb : UEmb _ 𝕄) ((talk oV wV).payload g r d) := by
  show BI.Storable upEmb (payOf oV wV g.1.1 d g.2)
  rcases g with ⟨t, s | s⟩
  · show BI.Storable upEmb (if s = 0 then barPay t.1 d else iprop(emp))
    split <;> infer_instance
  · show BI.Storable upEmb (rolePay oV wV t.1 (role s))
    infer_instance

/-! ## The facts the rules ask for -/

variable (c : Dev nD)

theorem duties_reg (s : Sem sig) : (talk oV wV).duties ((c : Thread nD τ), .reg s) 0 = comers c := by
  show (if (Proc.tc : Proc τ) = .tc then dutiesOf c 0 (.reg s) else ∅) = _
  rw [if_pos rfl]; rfl
theorem duties_dma (s : DmaSem sig) (r : ℕ) :
    (talk oV wV).duties ((c : Thread nD τ), .dma s) r = if active c r (role s) = true then {0} else ∅ := by
  show (if (Proc.tc : Proc τ) = .tc then dutiesOf c r (.dma s) else ∅) = _
  rw [if_pos rfl]; rfl
theorem duties_dma_on (s : DmaSem sig) (r : ℕ) (h : active c r (role s) = true) :
    (talk oV wV).duties ((c : Thread nD τ), .dma s) r = {0} := by rw [duties_dma, if_pos h]

theorem expect_reg (s : Sem sig) : (talk oV wV).expect ((c : Thread nD τ), .reg s) 0 = (comers c).card := by
  unfold Schedule.expect Schedule.amountOf
  rw [duties_reg]
  show (∑ d ∈ comers c, 1) = _
  rw [Finset.sum_const, Nat.smul_one_eq_cast]; rfl
theorem expect_dma (s : DmaSem sig) (r : ℕ) (h : active c r (role s) = true) :
    (talk oV wV).expect ((c : Thread nD τ), .dma s) r = N := by
  unfold Schedule.expect Schedule.amountOf
  rw [duties_dma_on oV wV c s r h]
  show (∑ d ∈ ({0} : Finset (Fin 5)), N) = _
  rw [Finset.sum_singleton]

theorem duties_reg_later (s : Sem sig) (r : ℕ) (hr : 1 ≤ r) : (talk oV wV).duties ((c : Thread nD τ), .reg s) r = ∅ := by
  show (if (Proc.tc : Proc τ) = .tc then dutiesOf c r (.reg s) else ∅) = _
  rw [if_pos rfl]
  exact if_neg (by omega)

/-- A semaphore's rounds end at `R`: what closing it asks for. -/
theorem duties_dma_later (s : DmaSem sig) (R : ℕ) (h : ∀ r, R ≤ r → active c r (role s) = false) :
    ∀ r, R ≤ r → (talk oV wV).duties ((c : Thread nD τ), .dma s) r = ∅ := by
  intro r hr
  rw [duties_dma, h r hr]; rfl

theorem rest_dma (s : DmaSem sig) (r : ℕ) (h : active c r (role s) = true) :
    bigSep ((talk oV wV).duties ((c : Thread nD τ), .dma s) r \ ∅) (fun d => (talk oV wV).payload ((c : Thread nD τ), .dma s) r d)
      = rolePay oV wV c (role s) := by
  rw [Finset.sdiff_empty, duties_dma_on oV wV c s r h, bigSep_singleton]; rfl

theorem close_reg (κ : ℕ) (s : Sem sig) :
    iprop(cellInv ER (talk oV wV) κ ((c : Thread nD τ), .reg s) ∗ atPos ER ((c : Thread nD τ), .reg s) 1 ∅ 0)
      ⊢ (|={Set.univ}=> semVal ((c : Thread nD τ), .reg s) 0 : sProp 𝕄) :=
  Rounds.cell_close ER (talk oV wV) (Set.mem_univ κ) id (fun r hr => duties_reg_later oV wV c s r hr)

theorem close_dma (κ : ℕ) (s : DmaSem sig) (R : ℕ) (h : ∀ r, R ≤ r → active c r (role s) = false) :
    iprop(cellInv ER (talk oV wV) κ ((c : Thread nD τ), .dma s) ∗ atPos ER ((c : Thread nD τ), .dma s) R ∅ 0)
      ⊢ (|={Set.univ}=> semVal ((c : Thread nD τ), .dma s) 0 : sProp 𝕄) :=
  Rounds.cell_close ER (talk oV wV) (Set.mem_univ κ) id (duties_dma_later oV wV c s R h)

end Values

end Cert.KernelIdeal.Talk

end
-- ==== Proof.Dues.lean ====
/-
  What a device owes the others, payment by payment; why it may wait where it does; and the credit this gives the
  receivers at launch.
-/
module

public import proofs.«01_k».proof.Proof.Proto

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A semaphore of device `c`. -/
abbrev cell (c : Dev nD) (sm : SemLoc sig) : GSem nD τ sig := ((c : Thread nD τ), sm)

/-- Where a payment goes, and what it adds there. -/
abbrev target (c : Dev nD) (p : Pay) : GSem nD τ sig := cell (nb (pdir p) c) (psem p)
def due (c : Dev nD) (p : Pay) : CellTallies nD τ sig Unit := if pen p c = true then tallyAt (target c p) () (pamt p) else 0

/-- What is still owed when the payments of a list are still to be made. -/
def owedL (c : Dev nD) : List Pay → CellTallies nD τ sig Unit
  | [] => 0
  | p :: l => owedL c l + due c p

/-- The permit to make a payment, and those of a list. -/
def tok (c : Dev nD) (p : Pay) : sProp 𝕄 := dutyTok ER (target c p) 0 (pduty p)
def toksL (c : Dev nD) : List Pay → sProp 𝕄
  | [] => iprop(emp)
  | p :: l => iprop(tok c p ∗ toksL c l)

/-- Device `c` with the payments of a list still to be made. -/
def Dues (c : Dev nD) (l : List Pay) : sProp 𝕄 := iprop((∃ W, owes (c : Thread nD τ) (owedL c l) W) ∗ toksL c l)

/-- A payment that the device does not make drops off the list. -/
theorem Dues_skip (c : Dev nD) (p : Pay) (l : List Pay) (h : pen p c = false) : (Dues c (p :: l) : sProp 𝕄) ⊢ Dues c l := by
  unfold Dues
  rw [show owedL c (p :: l) = owedL c l from by
    show owedL c l + due c p = _; unfold due; rw [h, if_neg (by decide), add_zero]]
  show iprop(_ ∗ (tok c p ∗ toksL c l)) ⊢ _
  iintro ⟨HO, -, Ht⟩
  isplitl [HO]; · iexact HO
  iexact Ht

theorem owedL_due (c : Dev nD) (p : Pay) (l : List Pay) (h : pen p c = true) :
    owedL c (p :: l) = owedL c l + tallyAt (target c p) () (pamt p) := by
  show owedL c l + due c p = _; unfold due; rw [if_pos h]

theorem due_pos {c : Dev nD} {p : Pay} {g : GSem nD τ sig} {u : Unit} (h : 0 < due c p g u) : g = target c p := by
  unfold due at h
  split at h
  · rw [tallyAt_apply] at h
    split at h
    · next hg => exact hg.1
    · exact absurd h (Nat.lt_irrefl 0)
  · exact absurd h (Nat.lt_irrefl 0)

theorem owedL_pos {c : Dev nD} {l : List Pay} {g : GSem nD τ sig} {u : Unit} (h : 0 < owedL c l g u) : ∃ p ∈ l, g = target c p := by
  induction l with
  | nil => exact absurd h (Nat.lt_irrefl 0)
  | cons p l ih =>
    change 0 < (owedL c l + due c p) g u at h
    rw [Pi.add_apply, Finsupp.add_apply] at h
    rcases Nat.add_pos_iff_pos_or_pos.mp h with h | h
    · obtain ⟨p', hp', e⟩ := ih h
      exact ⟨p', List.mem_cons_of_mem _ hp', e⟩
    · exact ⟨p, List.mem_cons_self, due_pos h⟩

/-! ## Levels -/

def L (g : GSem nD τ sig) : Finset Unit := if g.1.2 = .tc then {()} else ∅
def lv (g : GSem nD τ sig) (_ : Unit) : ℕ := lvl g.2

theorem L_of_ne (g : GSem nD τ sig) (h : g.1.2 ≠ .tc) : L g = ∅ := if_neg h
theorem L_tc (c : Dev nD) (sm : SemLoc sig) : L (cell c sm) = {()} := if_pos rfl

/-- A device may wait on a semaphore when all it still owes is waited for later. -/
theorem mayWait (c : Dev nD) (sm : SemLoc sig) (l : List Pay) (h : ∀ p ∈ l, lvl sm < lvl (psem p)) :
    (levAts L lv : sProp 𝕄) ⊢ MayWait (c : Thread nD τ) sm () (owedL c l) :=
  MayOwe.of_cut (L := L) (lev := lv) (lvl sm)
    (fun p hp => by rw [Finset.mem_singleton.mp hp]; exact Finset.mem_singleton_self _)
    (fun g u hg => by
      obtain ⟨p, -, rfl⟩ := owedL_pos hg
      exact Finset.mem_singleton_self _)
    (fun p hp => by rw [Finset.mem_singleton.mp hp]; exact le_refl _)
    (fun g u hg => by
      obtain ⟨p, hp, rfl⟩ := owedL_pos hg
      exact h p hp)

/-! ## The launch's credit -/

/-- What device `c` will be paid by one kind of payment. -/
def incoming (c : Dev nD) (p : Pay) : CellTallies nD τ sig Unit :=
  tallyAt (cell c (psem p)) () (if pen p (nb (opp (pdir p)) c) = true then pamt p else 0)
def credsL (c : Dev nD) : List Pay → sProp 𝕄
  | [] => iprop(emp)
  | p :: l => iprop(cred (incoming c p) ∗ credsL c l)

theorem due_at (c d : Dev nD) (p : Pay) : due d p (cell c (psem p)) ()
    = if d = nb (opp (pdir p)) c then (if pen p d = true then pamt p else 0) else 0 := by
  unfold due
  by_cases h : d = nb (opp (pdir p)) c
  · rw [if_pos h]
    split
    · rw [tallyAt_apply, if_pos]
      refine ⟨?_, rfl⟩
      rw [h, target, nb_opp']
    · rfl
  · rw [if_neg h]
    split
    · rw [tallyAt_apply, if_neg]
      rintro ⟨e, -⟩
      apply h
      have e' : nb (pdir p) d = c := (congrArg (fun g : GSem nD τ sig => g.1.1) e).symm
      rw [← e', nb_opp]
    · rfl

theorem credit_one (c : Dev nD) (p : Pay) : (Pipeline.launchCred (fun d => due d p) c : sProp 𝕄) ⊢ cred (incoming c p) := by
  unfold Pipeline.launchCred
  have e : tallyOn (cell c (psem p)) (launchCredit (Pipeline.owing fun d => due d p) 0 (cell c (psem p))) = incoming c p := by
    unfold incoming tallyAt
    refine congrArg _ (Finsupp.ext fun u => ?_)
    cases u
    rw [Pipeline.launchCredit_owing, Finsupp.single_eq_same, Finset.sum_congr rfl fun d _ => due_at c d p, Finset.sum_ite_eq' Finset.univ,
      if_pos (Finset.mem_univ _)]
  rw [← e]
  exact bigSep_elim (Finset.mem_univ (psem p))

theorem credit_list (c : Dev nD) (l : List Pay) : (Pipeline.launchCred (fun d => owedL d l) c : sProp 𝕄) ⊢ credsL c l := by
  induction l with
  | nil => unfold credsL; iintro -; iempintro
  | cons p l ih =>
    show (Pipeline.launchCred (fun d => owedL d l + due d p) c : sProp 𝕄) ⊢ iprop(cred (incoming c p) ∗ credsL c l)
    rw [Pipeline.launchCred_add]
    iintro ⟨H1, H2⟩
    isplitl [H2]
    · iapply (credit_one c p); iexact H2
    · iapply ih; iexact H1

/-- The units a device is sent on one of the two regular semaphores, all together. -/
theorem units_in (c : Dev nD) : (comers c).card = 3 + (if has 3 c = true then 1 else 0) + (if has 4 c = true then 1 else 0) := by
  revert c; decide +kernel

end Cert.KernelIdeal.Talk

end
-- ==== Proof.Steps.lean ====
/-
  One lemma for each kind of statement with which the devices talk: a unit sent, units waited for, a copy started, a
  copy waited for. Each takes the device's outstanding payments before and gives those after.
-/
module

public import proofs.«01_k».proof.Proof.Dues

@[expose] public section

set_option maxRecDepth 65536

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## What every device knows -/

def barEmb : Dev nD ↪ GSem nD τ sig := ⟨fun d => cell d barL, fun d d' h => congrArg (fun g : GSem nD τ sig => g.1.1) h⟩
def ownEmb : Dev nD × Fin 31 ↪ GSem nD τ sig :=
  ⟨fun p => cell p.1 (osem p.2), fun p p' h => Prod.ext (congrArg (fun g : GSem nD τ sig => g.1.1) h)
    (osem_inj (congrArg (fun g : GSem nD τ sig => g.2) h))⟩
/-- The semaphores of arriving, and the kernel's own, of all devices. -/
def barCells : Finset (GSem nD τ sig) := Finset.univ.map barEmb
def ownCells : Finset (GSem nD τ sig) := Finset.univ.map ownEmb

theorem mem_bar (d : Dev nD) : cell d barL ∈ barCells := Finset.mem_map_of_mem barEmb (Finset.mem_univ d)
theorem mem_own (d : Dev nD) (k : Fin 31) : cell d (osem k) ∈ ownCells := Finset.mem_map_of_mem ownEmb (Finset.mem_univ (d, k))

section Values

variable (oV : Dev nD → Vec F S4x128x1024 .bf16) (wV : Dev nD → Vec F S1024x4096 .bf16)
variable (κ : GSem nD τ sig → ℕ)

/-- The semaphores' invariants, that the ones of arriving stand at their first round, and the order of the waits. -/
def Env : sProp 𝕄 :=
  iprop((bigSep (barCells ∪ ownCells) fun g => cellInv ER (talk oV wV) (κ g) g) ∗ (bigSep barCells fun g => reached ER g 0) ∗ levAts L lv)

instance Env_persistent : BI.Persistent (Env oV wV κ) := by unfold Env; infer_instance

theorem env_bar (d : Dev nD) : Env oV wV κ ⊢ cellInv ER (talk oV wV) (κ (cell d barL)) (cell d barL) := by
  unfold Env
  iintro ⟨H, -, -⟩
  iapply (show (bigSep (barCells ∪ ownCells) (fun g => cellInv ER (talk oV wV) (κ g) g) : sProp 𝕄) ⊢ cellInv ER (talk oV wV) (κ (cell d barL)) (cell d barL) from bigSep_elim (Finset.mem_union_left _ (mem_bar d))); iexact H
theorem env_reached (d : Dev nD) : Env oV wV κ ⊢ reached ER (cell d barL) 0 := by
  unfold Env
  iintro ⟨-, H, -⟩
  iapply (show (bigSep barCells (fun g => reached ER g 0) : sProp 𝕄) ⊢ reached ER (cell d barL) 0 from bigSep_elim (mem_bar d)); iexact H
theorem env_own (d : Dev nD) (k : Fin 31) : Env oV wV κ ⊢ cellInv ER (talk oV wV) (κ (cell d (osem k))) (cell d (osem k)) := by
  unfold Env
  iintro ⟨H, -, -⟩
  iapply (show (bigSep (barCells ∪ ownCells) (fun g => cellInv ER (talk oV wV) (κ g) g) : sProp 𝕄) ⊢ cellInv ER (talk oV wV) (κ (cell d (osem k))) (cell d (osem k)) from bigSep_elim (Finset.mem_union_right _ (mem_own d k))); iexact H
theorem env_lev : Env oV wV κ ⊢ levAts L lv := by
  unfold Env
  iintro ⟨-, -, H⟩; iexact H

theorem env_reg (d : Dev nD) (s : Sem sig) : Env oV wV κ ⊢ cellInv ER (talk oV wV) (κ (cell d (.reg s))) (cell d (.reg s)) := by
  have h : s = 0 ∨ s = 1 := by revert s; decide
  rcases h with rfl | rfl
  · exact env_bar oV wV κ d
  · exact env_own oV wV κ d 0
theorem env_dma (d : Dev nD) (s : DmaSem sig) (h : 3 ≤ s.val) :
    Env oV wV κ ⊢ cellInv ER (talk oV wV) (κ (cell d (.dma s))) (cell d (.dma s)) := by
  have hs : s.val < 33 := s.isLt
  have e : osem ⟨s.val - 2, by omega⟩ = .dma s := by
    unfold osem
    rw [if_neg (by show ¬ s.val - 2 = 0; omega)]
    exact congrArg SemLoc.dma (Fin.ext (by show s.val - 2 + 2 = s.val; omega))
  rw [← e]
  exact env_own oV wV κ d _

variable (c : Dev nD)

theorem env_may (sm : SemLoc sig) (l : List Pay) (hl : ∀ p ∈ l, lvl sm < lvl (psem p)) :
    Env oV wV κ ⊢ MayWait (c : Thread nD τ) sm () (owedL c l) :=
  BIBase.Entails.trans (env_lev oV wV κ) (mayWait c sm l hl)

/-- Two parts of a family of resources make the whole. -/
theorem glue {T S : Finset (Fin 5)} (h : T ⊆ S) (Φ : Fin 5 → sProp 𝕄) : iprop(bigSep T Φ ∗ bigSep (S \ T) Φ) ⊢ bigSep S Φ :=
  Entails.of_eq (bigSep_sdiff_split h).symm

/-- The weakest precondition of a piece of the body on device `c`. -/
abbrev W {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Units -/

theorem talk_payload (d : Dev nD) (sm : SemLoc sig) (r : ℕ) (k : Fin 5) :
    (talk oV wV).payload (cell d sm) r k = payOf oV wV d k sm := rfl

/-- A unit sent to a neighbour. -/
theorem step_unit (p : Pay) (l : List Pay) (s : Sem sig) (hs : psem p = .reg s) (hen : pen p c = true) (dev : Dev nD)
    (hdev : dev = nb (pdir p) c) (sem : Sem sig) (hsem : sem = s) (Q : PUnit → sProp 𝕄) :
    iprop(Env oV wV κ ∗ Dues c (p :: l) ∗ reached ER (target c p) 0 ∗ payOf oV wV (nb (pdir p) c) (pduty p) (psem p)
        ∗ (Dues c l -∗ Q ⟨⟩)) ⊢ W c (semSignalWord dev sem 1#32) Q := by
  subst hdev; subst hsem
  unfold Dues
  rw [owedL_due c p l hen]
  show iprop(_ ∗ ((∃ V, owes (c : Thread nD τ) (owedL c l + tallyAt (target c p) () (pamt p)) V) ∗ (tok c p ∗ toksL c l)) ∗ _) ⊢ _
  unfold tok semSignalWord
  iintro ⟨#HE, ⟨⟨%V, HO⟩, Ht, Hts⟩, Hr, Hp, Hk⟩
  ihave #HI := (env_reg oV wV κ (nb (pdir p) c) sem) $$ HE
  rcases p with k | s' | i | j | k
  case ring => cases hs
  case x => cases hs
  case y => cases hs
  all_goals
    obtain rfl := SemLoc.reg.inj hs
    dsimp only [pdir, pduty, psem, pamt, target]
    iapply (Rounds.wp_signal 𝒱₀ ER (talk oV wV) (c : Thread nD τ) none (dst := (nb k c : Thread nD τ)) (r := 0) (d := k)
        (k' := 1)
        (by rw [duties_reg]; exact Finset.mem_filter.mpr ⟨Finset.mem_univ _, (has_nb k c).trans hen⟩) rfl ()
        (owedL c l) rfl) $$ [HO Ht Hr Hp]
    · isplitr; · iexact HI
      isplitl [HO]; · iexact HO
      isplitl [Ht]; · iexact Ht
      isplitl [Hp]; · rw [talk_payload]; iexact Hp
      iexact Hr
    iintro HO
    rw [wp_ret]
    imodintro
    iapply Hk
    isplitl [HO]; · iexists _; iexact HO
    iexact Hts

/-- Where a device stands with the units it is sent: the last one in, the payloads of all of them are there. -/
def units (s : Sem sig) (n : ℕ) : sProp 𝕄 :=
  if n = (comers c).card then iprop(atPos ER (cell c (.reg s)) 1 ∅ 0 ∗ bigSep (comers c) fun d => payOf oV wV c d (.reg s))
  else iprop(∃ T : Finset (Fin 5), ⌜T ⊆ comers c⌝ ∗ atPos ER (cell c (.reg s)) 0 T n ∗ bigSep T fun d => payOf oV wV c d (.reg s))

theorem units_start (s : Sem sig) : (atPos ER (cell c (.reg s)) 0 ∅ 0 : sProp 𝕄) ⊢ units oV wV c s 0 := by
  unfold units
  rw [if_neg (by rw [units_in]; omega)]
  iintro H
  iexists (∅ : Finset (Fin 5))
  isplitr; · ipureintro; exact Finset.empty_subset _
  isplitl [H]; · iexact H
  rw [bigSep_empty]; iempintro

/-- Some of them waited for. -/
theorem step_units (s : Sem sig) (n k : ℕ) (w : BitVec 32) (hw : w.toInt = k) (hk : 0 < k) (hle : n + k ≤ (comers c).card)
    (l : List Pay) (hl : ∀ p ∈ l, lvl (.reg s) < lvl (psem p)) (sem : Sem sig) (hsem : sem = s) (Q : PUnit → sProp 𝕄) :
    iprop(Env oV wV κ ∗ Dues c l ∗ cred (tallyAt (cell c (.reg s)) () k) ∗ units oV wV c s n
        ∗ (Dues c l ∗ units oV wV c s (n + k) -∗ Q ⟨⟩)) ⊢ W c (semWaitWord sem w) Q := by
  subst hsem
  unfold Dues semWaitWord
  rw [hw]
  unfold units
  rw [if_neg (show ¬ n = (comers c).card by omega)]
  iintro ⟨#HE, ⟨⟨%V, HO⟩, Hts⟩, Hc, ⟨%T, %hT, Hat, HT⟩, Hk⟩
  ihave #HI := (env_reg oV wV κ c sem) $$ HE
  by_cases hf : n + k = (comers c).card
  · rw [if_pos hf]
    iapply (Rounds.wp_wait_rest_token 𝒱₀ ER (talk oV wV) (c : Thread nD τ) none (κ := κ (cell c (.reg sem)))
      (k' := k) (wpE_semWait_eq 𝒱₀ (c : Thread nD τ) none Set.univ) (Set.mem_univ _) () (O := owedL c l) (R := 0) (m := n) (T := T)
      (hf.trans (expect_reg oV wV c sem).symm)) $$ [Hc HO Hat]
    · isplitr; · iexact HI
      isplitl [Hc]; · iexact Hc
      isplitl [HO]; · iexact HO
      isplitr; · iapply (env_may oV wV κ c (.reg sem) l hl); iexact HE
      iexact Hat
    iintro ⟨HO, Hat, -, HR⟩
    rw [wp_ret]
    imodintro
    iapply Hk
    isplitl [HO Hts]
    · isplitl [HO]; · iexists _; iexact HO
      iexact Hts
    isplitl [Hat]; · iexact Hat
    rw [duties_reg]
    iapply (glue hT)
    isplitl [HT]; · iexact HT
    iexact HR
  · rw [if_neg hf]
    iapply (Rounds.wp_wait 𝒱₀ ER (talk oV wV) (c : Thread nD τ) none (κ := κ (cell c (.reg sem)))
      (k' := k) (wpE_semWait_eq 𝒱₀ (c : Thread nD τ) none Set.univ) (Set.mem_univ _) {(SemLoc.reg sem, ())} (cr := Finsupp.single () k)
      (O := owedL c l) (R := 0) (m := n) (T := T) (Util.total_single _ _)
      (image_single_subset _ _ _)) $$ [Hc HO Hat]
    · isplitr; · iexact HI
      isplitl [Hc]; · iexact Hc
      isplitl [HO]; · iexact HO
      isplitr; · iapply (env_may oV wV κ c (.reg sem) l hl); iexact HE
      iexact Hat
    iintro %S ⟨%hS, HO, Hat, HR⟩
    rw [wp_ret]
    imodintro
    iapply Hk
    isplitl [HO Hts]
    · isplitl [HO]; · iexists _; iexact HO
      iexact Hts
    iexists S
    rw [duties_reg] at hS
    isplitr; · ipureintro; exact hS.2.1
    isplitl [Hat]; · iexact Hat
    iapply (glue hS.1)
    isplitl [HT]; · iexact HT
    iexact HR

/-! ## Copies -/

/-- A copy to a neighbour: counted on the sender's semaphore `sS` in its round `r`, and on the receiver's. -/
theorem step_copy (p : Pay) (l : List Pay) (sR : DmaSem sig) (hp : psem p = .dma sR) (h3 : 3 ≤ sR.val) (hd : pduty p = 0) (ha : pamt p = N)
    (hen : pen p c = true) (hr0 : active (nb (pdir p) c) 0 (role sR) = true)
    (sS : DmaSem sig) (h3' : 3 ≤ sS.val) (r : ℕ) (hr : active c r (role sS) = true)
    (src dst : Memref sig .tc .vmem S128x4096 .bf16) (dev : Dev nD) (hdev : dev = nb (pdir p) c) (sem sem' : DmaSem sig) (hsem : sem = sR)
    (hsem' : sem' = sS) (w1 w2 w3)
    (hN : dst.view.dmaCredit = N) (q : PosShare TreeShare) (fs : Buf (Elt F) (src.view.loc (c : Thread nD τ)))
    (fd : Buf (Elt F) (dst.view.loc (nb (pdir p) c : Thread nD τ)))
    (hpay₁ : (src.view.loc (c : Thread nD τ) ↦[src.view.set]{q} fs : sProp 𝕄) ⊢ rolePay oV wV c (role sS))
    (hpay₂ : (dst.view.loc (nb (pdir p) c : Thread nD τ) ↦[dst.view.set]{fullShare}
        (dst.view.write (Elt F) fd (src.view.read (Elt F) fs) Finset.univ) : sProp 𝕄) ⊢ rolePay oV wV (nb (pdir p) c) (role sR))
    (Q : PUnit → sProp 𝕄) :
    iprop(Env oV wV κ ∗ Dues c (p :: l) ∗ dutyTok ER (cell c (.dma sS)) r 0 ∗ reached ER (cell c (.dma sS)) r ∗ reached ER (target c p) 0
        ∗ (src.view.loc (c : Thread nD τ) ↦[src.view.set]{q} fs) ∗ (dst.view.loc (nb (pdir p) c : Thread nD τ) ↦[dst.view.set]{fullShare} fd)
        ∗ (cred (tallyAt (cell c (.dma sS)) () N) ∗ Dues c l -∗ Q ⟨⟩))
      ⊢ W c (Prog.lift (.enqueueDma src (.remote (Dev.tc dev) dst (.dma sem')) (.dma sem) w1 w2 w3)) Q := by
  subst hdev; subst hsem; subst hsem'
  unfold Dues
  rw [owedL_due c p l hen]
  show iprop(_ ∗ ((∃ V, owes (c : Thread nD τ) (owedL c l + tallyAt (target c p) () (pamt p)) V) ∗ (tok c p ∗ toksL c l)) ∗ _) ⊢ _
  unfold tok target Prog.lift
  rw [hp, hd, ha]
  iintro ⟨#HE, ⟨⟨%V, HO⟩, Ht, Hts⟩, HtS, HrS, Hr, Hs, Hd, Hk⟩
  ihave #HI := (env_dma oV wV κ (nb (pdir p) c) sem h3) $$ HE
  ihave #HIS := (env_dma oV wV κ c sem' h3') $$ HE
  iapply (Rounds.wp_send_pointsTo 𝒱₀ ER (talk oV wV) (c : Thread nD τ) none (c' := (nb (pdir p) c : Thread nD τ)) (src := src) (dst := dst)
      (sS := .dma sem') (sem := .dma sem) (q := q) (fs := fs) (κ₁ := κ (cell c (.dma sem'))) (κ₂ := κ (cell (nb (pdir p) c) (.dma sem)))
      (r₁ := r) (r₂ := 0) (d₁ := 0) (d₂ := 0) (fd := fd)
      (by rw [duties_dma_on oV wV c sem' r hr]; exact Finset.mem_singleton_self _)
      (by rw [duties_dma_on oV wV _ sem 0 hr0]; exact Finset.mem_singleton_self _)
      () () N hN rfl rfl (owedL c l) rfl (W := V) hpay₁ hpay₂) $$ [Hs Hd HO HtS HrS Ht Hr]
  · isplitr; · iexact HIS
    isplitr; · iexact HI
    isplitl [Hs]; · iexact Hs
    isplitl [Hd]; · iexact Hd
    isplitl [HO]; · iexact HO
    isplitl [HtS]; · iexact HtS
    isplitl [HrS]; · iexact HrS
    isplitl [Ht]; · iexact Ht
    iexact Hr
  iintro ⟨Hc, HO⟩
  rw [wp_ret]
  imodintro
  iapply Hk
  isplitl [Hc]; · iexact Hc
  isplitl [HO]; · iexists _; iexact HO
  iexact Hts

/-- A copy waited for, sent or landed: what it hands over is there. -/
theorem step_await (s : DmaSem sig) (h3 : 3 ≤ s.val) (r : ℕ) (hr : active c r (role s) = true) (l : List Pay)
    (hl : ∀ p ∈ l, lvl (.dma s) < lvl (psem p)) (src dst : Memref sig .tc .vmem S128x4096 .bf16) (sem : DmaSem sig) (hsem : sem = s) (w1 w2)
    (hN : dst.view.dmaCredit = N) (Q : PUnit → sProp 𝕄) :
    iprop(Env oV wV κ ∗ Dues c l ∗ cred (tallyAt (cell c (.dma s)) () N) ∗ atPos ER (cell c (.dma s)) r ∅ 0
        ∗ (Dues c l ∗ atPos ER (cell c (.dma s)) (r + 1) ∅ 0 ∗ reached ER (cell c (.dma s)) (r + 1) ∗ rolePay oV wV c (role s) -∗ Q ⟨⟩))
      ⊢ W c (Prog.lift (.waitDma2 sem src dst w1 w2)) Q := by
  subst hsem
  unfold Dues Prog.lift
  iintro ⟨#HE, ⟨⟨%V, HO⟩, Hts⟩, Hc, Hat, Hk⟩
  ihave #HI := (env_dma oV wV κ c sem h3) $$ HE
  iapply (Rounds.wp_wait_rest_token 𝒱₀ ER (talk oV wV) (c : Thread nD τ) none (κ := κ (cell c (.dma sem)))
      (k' := dst.view.dmaCredit) (wpE_waitDma2_eq (src := src) (dst := dst) (hsrc := w1) (hdst := w2) 𝒱₀ (c : Thread nD τ) none Set.univ) (Set.mem_univ _) () (O := owedL c l) (W := V) (R := r)
      (m := 0) (T := ∅) ((Nat.zero_add _).trans (hN.trans (expect_dma oV wV c sem r hr).symm))) $$ [Hc HO Hat]
  · isplitr; · iexact HI
    isplitl [Hc]; · rw [hN]; iexact Hc
    isplitl [HO]; · iexact HO
    isplitr; · iapply (env_may oV wV κ c (.dma sem) l hl); iexact HE
    iexact Hat
  iintro ⟨HO, Hat, Hr, HR⟩
  ihave HR := (Entails.of_eq (rest_dma oV wV c sem r hr)) $$ HR
  rw [wp_ret]
  imodintro
  iapply Hk
  isplitl [HO Hts]
  · isplitl [HO]; · iexists _; iexact HO
    iexact Hts
  isplitl [Hat]; · iexact Hat
  isplitl [Hr]; · iexact Hr
  iexact HR

/-- A semaphore whose rounds are over is taken back, at zero. -/
theorem shut (s : DmaSem sig) (h3 : 3 ≤ s.val) (R : ℕ) (h : ∀ r, R ≤ r → active c r (role s) = false) :
    iprop(Env oV wV κ ∗ atPos ER (cell c (.dma s)) R ∅ 0) ⊢ (|={Set.univ}=> semVal (cell c (.dma s)) 0 : sProp 𝕄) := by
  iintro ⟨#HE, Hat⟩
  iapply (close_dma oV wV c (κ (cell c (.dma s))) s R h)
  isplitr
  · iapply (env_dma oV wV κ c s h3); iexact HE
  iexact Hat
theorem shut_reg (s : Sem sig) :
    iprop(Env oV wV κ ∗ atPos ER (cell c (.reg s)) 1 ∅ 0) ⊢ (|={Set.univ}=> semVal (cell c (.reg s)) 0 : sProp 𝕄) := by
  iintro ⟨#HE, Hat⟩
  iapply (close_reg oV wV c (κ (cell c (.reg s))) s)
  isplitr
  · iapply (env_reg oV wV κ c s); iexact HE
  iexact Hat

/-! ## Statements in a row, and statements under a condition -/

/-- A statement, then the rest. -/
theorem seq {α β : Type} (p : Prog (TpuEff nD τ sig (Elt F) Λ₀ .tc) α) (k : α → Prog (TpuEff nD τ sig (Elt F) Λ₀ .tc) β) (Q : β → sProp 𝕄) :
    W c p (fun a => W c (k a) Q) ⊢ W c (p >>= k) Q := by
  unfold W; rw [wp_bind]

/-- Statements under a condition that a flag decides, and the rest: with the flag up they are made, with the flag down
    nothing is but taking semaphores back. -/
theorem step_if {β : Type} {cond : Prop} [Decidable cond] (b : Bool) (hc : cond ↔ b = true) (t : cond → Prog (TpuEff nD τ sig (Elt F) Λ₀ .tc) β)
    (J : Prog (TpuEff nD τ sig (Elt F) Λ₀ .tc) β)
    (P : sProp 𝕄) (Q : β → sProp 𝕄) (ht : ∀ h : cond, b = true → P ⊢ W c (t h) Q) (he : b = false → P ⊢ iprop(|={Set.univ}=> W c J Q)) :
    P ⊢ W c (if h : cond then t h else J) Q := by
  by_cases h : cond
  · rw [dif_pos h]; exact ht h (hc.mp h)
  · rw [dif_neg h]
    have hb : b = false := by cases b; · rfl
                              · exact absurd (hc.mpr rfl) h
    exact BIBase.Entails.trans (he hb) (fupd_wp _ _ _ _ _)

end Values

end Cert.KernelIdeal.Talk

end
-- ==== Proof.Copies.lean ====
/-
  The copies between partners and along the line, one lemma for each kind of statement and not for each statement: a
  copy along the line, a landed block passed on to the partner, and the two kinds of waits at the end.
-/
module

public import proofs.«01_k».proof.Proof.Steps

@[expose] public section

set_option maxRecDepth 65536

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Values

variable (oV : Dev nD → Vec F S4x128x1024 .bf16) (wV : Dev nD → Vec F S1024x4096 .bf16)
variable (κ : GSem nD τ sig → ℕ) (c : Dev nD)

/-! ## Pieces of the result -/

/-- A block of the own half at its final contents, at a share, if the line has that place; of the other half, wholly. -/
def piece (i : Fin 7) (q : PosShare TreeShare) : sProp 𝕄 :=
  if en i c = true then rowsPt c (own c i) q (fin oV wV c) else iprop(emp)
def opiece (i : Fin 7) : sProp 𝕄 :=
  if en i c = true then rowsPt c (oth c i) fullShare (fin oV wV c) else iprop(emp)

theorem piece_on (i : Fin 7) (q : PosShare TreeShare) (h : en i c = true) :
    piece oV wV c i q = rowsPt c (own c i) q (fin oV wV c) := if_pos h
theorem piece_off (i : Fin 7) (q : PosShare TreeShare) (h : en i c = false) : piece oV wV c i q = iprop(emp) :=
  if_neg (by rw [h]; decide)

theorem piece_share (i : Fin 7) (q : PosShare TreeShare) :
    piece oV wV c i q ⊣⊢ iprop(piece oV wV c i q.left ∗ piece oV wV c i q.right) := by
  cases h : en i c
  · rw [piece_off oV wV c i _ h, piece_off oV wV c i _ h, piece_off oV wV c i _ h]
    exact ⟨by iintro -; isplitr <;> iempintro, by iintro -; iempintro⟩
  · rw [piece_on oV wV c i _ h, piece_on oV wV c i _ h, piece_on oV wV c i _ h]
    exact pointsTo_share (PosShare.mem_left_op_right q)

/-- A copy under way, or, where none is made, what it would have taken. -/
def flyY (j : Fin 6) : sProp 𝕄 :=
  if enY j c = true then cred (tallyAt (cell c (.dma (ysS j))) () N) else piece oV wV c (src j) (shY j)
def flyX (i : Fin 7) : sProp 𝕄 := if en i c = true then cred (tallyAt (cell c (.dma (xsS i))) () N) else iprop(emp)

/-- What stays in hand of a copy's own counting semaphore: the permit, and that it stands at the first round. -/
def permit (s : DmaSem sig) : sProp 𝕄 := iprop(dutyTok ER (cell c (.dma s)) 0 0 ∗ reached ER (cell c (.dma s)) 0)

/-- A block of rows as the kernel addresses it. -/
theorem blk_pt (d : Dev nD) (off : Fin 2 → ℕ) (inb) (b : ℕ) (h : off = ![128 * b, 0]) (q : PosShare TreeShare) (f : BlkV F) :
    ((blk off inb).view.loc (d : Thread nD τ) ↦[(blk off inb).view.set]{q} f : sProp 𝕄) = rowsPt d b q f := by
  have e : (blk off inb).view.set = rows b := (View.set_slice_whole _ _).trans (set_blk off inb b h)
  rw [e]

/-- A block copied onto the same rows of another device makes them what they are at the sender. -/
theorem blk_landed (d : Dev nD) (off : Fin 2 → ℕ) (inb) (b : ℕ) (h : off = ![128 * b, 0]) (f g : BlkV F) :
    ((blk off inb).view.loc (d : Thread nD τ) ↦[(blk off inb).view.set]{fullShare}
      ((blk off inb).view.write (Elt F) g ((blk off inb).view.read (Elt F) f) Finset.univ) : sProp 𝕄) = rowsPt d b fullShare f := by
  rw [← blk_pt d off inb b h]
  refine pointsTo_congr fun i hi => ?_
  obtain ⟨x, -, rfl⟩ := Finset.mem_map.mp hi
  rw [View.write_emb_of_mem _ _ (Finset.mem_univ x)]
  rfl

theorem credit_blk (off : Fin 2 → ℕ) (inb) : (blk off inb).view.dmaCredit = N := rfl

theorem ge3_ys : ∀ j, 3 ≤ (ysS j).val := by decide
theorem ge3_yr : ∀ j, 3 ≤ (yrS j).val := by decide
theorem ge3_xs : ∀ i, 3 ≤ (xsS i).val := by decide
theorem ge3_xr : ∀ i, 3 ≤ (xrS i).val := by decide
theorem ge3_rr : ∀ s, 3 ≤ (rrS s).val := by decide

theorem lvl_xs : ∀ i, lvl (.dma (xsS i)) = 0 := by decide
theorem lvl_ys : ∀ j, lvl (.dma (ysS j)) = 0 := by decide

theorem incoming_on (p : Pay) (h : pen p (nb (opp (pdir p)) c) = true) :
    incoming c p = tallyAt (cell c (psem p)) () (pamt p) := by unfold incoming; rw [if_pos h]

theorem act_ys (j : Fin 6) (r : ℕ) : active c r (role (ysS j)) = (decide (r = 0) && enY j c) := by rw [role_ys]; rfl
theorem act_yr (j : Fin 6) (r : ℕ) : active c r (role (yrS j)) = (decide (r = 0) && en (lands j) c) := by rw [role_yr]; rfl
theorem act_xs (i : Fin 7) (r : ℕ) : active c r (role (xsS i)) = (decide (r = 0) && en i c) := by rw [role_xs]; rfl
theorem act_xr (i : Fin 7) (r : ℕ) : active c r (role (xrS i)) = (decide (r = 0) && en i c) := by rw [role_xr]; rfl

/-- Past the first round nothing is counted; where the copy is not made, nothing at all. -/
theorem later {b : Bool} (f : ℕ → Bool) (hf : ∀ r, f r = (decide (r = 0) && b)) (R : ℕ) (h : R = 1 ∨ b = false) :
    ∀ r, R ≤ r → f r = false := by
  intro r hr
  rw [hf]
  rcases h with rfl | h
  · rw [decide_eq_false (by omega)]; rfl
  · rw [h, Bool.and_false]

/-! ## Along the line -/

/-- The copy of a block one step along the line. -/
theorem send_y {β : Type} (j : Fin 6) (l : List Pay) {cond : Prop} [Decidable cond] (hc : cond ↔ enY j c = true)
    (off : cond → Fin 2 → ℕ) (inb : ∀ h a, off h a + S128x4096.size a ≤ S1024x4096.size a) (hoff : ∀ h, off h = ![128 * own c (src j), 0])
    (dev : cond → Dev nD) (hdev : ∀ h, dev h = nb (ydir j) c) (sS sR : DmaSem sig) (hsS : sS = ysS j) (hsR : sR = yrS j)
    (we : ∀ h, (blk (off h) (inb h)).view.WordExact)
    (J : Prog (TpuEff nD τ sig (Elt F) Λ₀ .tc) β) (Q : β → sProp 𝕄) :
    iprop(Env oV wV κ ∗ Dues c (.y j :: l) ∗ permit c (ysS j) ∗ piece oV wV c (src j) (shY j) ∗ yIn j c
        ∗ (Dues c l ∗ flyY oV wV c j -∗ W c J Q))
      ⊢ W c (if h : cond then
          Prog.lift (.enqueueDma (blk (off h) (inb h)) (.remote (Dev.tc (dev h)) (blk (off h) (inb h)) (.dma sS)) (.dma sR) (we h) (we h) ⟨⟨rfl, Or.inl rfl⟩, ⟨⟩⟩)
            >>= fun _ => J else J) Q := by
  refine step_if c (enY j c) hc _ _ _ _ (fun h hb => ?_) (fun hb => ?_)
  · have hen : en (src j) c = true := by
      have := hb; unfold enY at this; exact (Bool.and_eq_true_iff.mp this).2
    rw [piece_on oV wV c _ _ hen]
    unfold yIn permit
    rw [if_pos hb]
    iintro ⟨#HE, HD, ⟨Ht, Hr⟩, Hp, ⟨⟨%g, Hg⟩, Hr'⟩, Hk⟩
    iapply (seq c)
    iapply (step_copy oV wV κ c (.y j) l (yrS j) rfl (ge3_yr j) rfl rfl hb
      (by rw [act_yr]; exact (en_lands j c).mpr hb) (ysS j) (ge3_ys j) 0 (by rw [act_ys]; exact hb)
      _ _ (dev h) (hdev h) sR sS hsR hsS _ _ _ (credit_blk _ _) (shY j) (fin oV wV c) g
      (by rw [blk_pt c _ _ _ (hoff h), role_ys]; exact .rfl)
      (by
        rw [blk_landed _ _ _ _ (hoff h), role_yr]
        show _ ⊢ rowsPt (nb (ydir j) c) (own (nb (ydir j) c) (lands j)) fullShare (fin oV wV (nb (ydir j) c))
        rw [own_lands j c hb, fin_line]
        exact .rfl) _)
    isplitr; · iexact HE
    isplitl [HD]; · iexact HD
    isplitl [Ht]; · iexact Ht
    isplitl [Hr]; · iexact Hr
    isplitl [Hr']; · iexact Hr'
    isplitl [Hp]; · rw [blk_pt c _ _ _ (hoff h)]; iexact Hp
    isplitl [Hg]
    · ihave Hg := (Entails.of_eq (blk_pt (nb (ydir j) c) (off h) (inb h) _ (hoff h) fullShare g).symm) $$ Hg
      iexact Hg
    iintro ⟨Hc, HD⟩
    iapply Hk
    isplitl [HD]; · iexact HD
    unfold flyY
    rw [if_pos hb]
    iexact Hc
  · iintro ⟨-, HD, -, Hp, -, Hk⟩
    imodintro
    iapply Hk
    isplitl [HD]
    · iapply (Dues_skip c (.y j) l hb); iexact HD
    unfold flyY
    rw [if_neg (by rw [hb]; decide)]
    iexact Hp

/-! ## To the partner -/

/-- The copy of a block to the partner. -/
theorem send_x (i : Fin 7) (l : List Pay) (hen : en i c = true) (off : Fin 2 → ℕ)
    (inb : ∀ a, off a + S128x4096.size a ≤ S1024x4096.size a) (hoff : off = ![128 * own c i, 0])
    (dev : Dev nD) (hdev : dev = nb 2 c) (sS sR : DmaSem sig) (hsS : sS = xsS i) (hsR : sR = xrS i)
    (we : (blk off inb).view.WordExact) (Q : PUnit → sProp 𝕄) :
    iprop(Env oV wV κ ∗ Dues c (.x i :: l) ∗ permit c (xsS i) ∗ rowsPt c (own c i) fullShare.left (fin oV wV c) ∗ xIn i c
        ∗ (Dues c l ∗ flyX c i -∗ Q ⟨⟩))
      ⊢ W c (Prog.lift (.enqueueDma (blk off inb) (.remote (Dev.tc dev) (blk off inb) (.dma sS)) (.dma sR) we we ⟨⟨rfl, Or.inl rfl⟩, ⟨⟩⟩)) Q := by
  unfold xIn permit
  rw [if_pos hen]
  iintro ⟨#HE, HD, ⟨Ht, Hr⟩, Hp, ⟨⟨%g, Hg⟩, Hr'⟩, Hk⟩
  iapply (step_copy oV wV κ c (.x i) l (xrS i) rfl (ge3_xr i) rfl rfl hen
    (by rw [act_xr]; exact (en_partner i c).trans hen) (xsS i) (ge3_xs i) 0 (by rw [act_xs]; exact hen)
    _ _ dev hdev sR sS hsR hsS _ _ _ (credit_blk _ _) fullShare.left (fin oV wV c) g
    (by rw [blk_pt c _ _ _ hoff, role_xs]; exact .rfl)
    (by
      rw [blk_landed _ _ _ _ hoff, role_xr]
      show _ ⊢ rowsPt (nb 2 c) (oth (nb 2 c) i) fullShare (fin oV wV (nb 2 c))
      rw [oth_partner, fin_partner]
      exact .rfl) _)
  isplitr; · iexact HE
  isplitl [HD]; · iexact HD
  isplitl [Ht]; · iexact Ht
  isplitl [Hr]; · iexact Hr
  isplitl [Hr']; · iexact Hr'
  isplitl [Hp]; · rw [blk_pt c _ _ _ hoff]; iexact Hp
  isplitl [Hg]
  · ihave Hg := (Entails.of_eq (blk_pt (nb 2 c) off inb _ hoff fullShare g).symm) $$ Hg
    iexact Hg
  iintro ⟨Hc, HD⟩
  iapply Hk
  isplitl [HD]; · iexact HD
  unfold flyX
  rw [if_pos hen]
  iexact Hc

/-- A block landed from along the line, and passed on to the partner. -/
theorem pass_on {β : Type} (j : Fin 6) (l : List Pay) {cond : Prop} [Decidable cond] (hc : cond ↔ en (lands j) c = true)
    (hl : ∀ p ∈ (.x (lands j) :: l), lvl (.dma (yrS j)) < lvl (psem p))
    (off : cond → Fin 2 → ℕ) (inb : ∀ h a, off h a + S128x4096.size a ≤ S1024x4096.size a)
    (hoff : ∀ h, off h = ![128 * own c (lands j), 0])
    (dev : cond → Dev nD) (hdev : ∀ h, dev h = nb 2 c) (sW sS sR : DmaSem sig) (hsW : sW = yrS j) (hsS : sS = xsS (lands j))
    (hsR : sR = xrS (lands j)) (we : ∀ h, (blk (off h) (inb h)).view.WordExact)
    (J : Prog (TpuEff nD τ sig (Elt F) Λ₀ .tc) β) (Q : β → sProp 𝕄) :
    iprop(Env oV wV κ ∗ Dues c (.x (lands j) :: l) ∗ cred (incoming c (.y j)) ∗ atPos ER (cell c (.dma (yrS j))) 0 ∅ 0
        ∗ permit c (xsS (lands j)) ∗ xIn (lands j) c
        ∗ (Dues c l ∗ flyX c (lands j) ∗ piece oV wV c (lands j) fullShare.right ∗ semVal (cell c (.dma (yrS j))) 0 -∗ W c J Q))
      ⊢ W c (if h : cond then
          Prog.lift (.waitDma2 sW (blk (off h) (inb h)) (blk (off h) (inb h)) (we h) (we h)) >>= fun _ =>
          Prog.lift (.enqueueDma (blk (off h) (inb h)) (.remote (Dev.tc (dev h)) (blk (off h) (inb h)) (.dma sS)) (.dma sR) (we h) (we h) ⟨⟨rfl, Or.inl rfl⟩, ⟨⟩⟩)
            >>= fun _ => J else J) Q := by
  refine step_if c (en (lands j) c) hc _ _ _ _ (fun h hb => ?_) (fun hb => ?_)
  · have hi : incoming c (.y j) = tallyAt (cell c (.dma (yrS j))) () N := incoming_on c (.y j) ((en_lands' j c).trans hb)
    rw [hi, piece_on oV wV c _ _ hb]
    iintro ⟨#HE, HD, Hc, Hat, Hpm, Hx, Hk⟩
    iapply (seq c)
    iapply (step_await oV wV κ c (yrS j) (ge3_yr j) 0 (by rw [act_yr]; exact hb) _ hl _ _ sW hsW _ _ (credit_blk _ _) _)
    isplitr; · iexact HE
    isplitl [HD]; · iexact HD
    isplitl [Hc]; · iexact Hc
    isplitl [Hat]; · iexact Hat
    iintro ⟨HD, Hat, -, Hp⟩
    rw [role_yr]
    ihave Hp := (show rolePay oV wV c (.yr j) ⊢ rowsPt c (own c (lands j)) fullShare (fin oV wV c) from .rfl) $$ Hp
    ihave ⟨Hpl, Hpr⟩ := (pointsTo_share (PosShare.mem_left_op_right fullShare)).1 $$ Hp
    iapply (fupd_wp _ _ _ _ _)
    imod (shut oV wV κ c (yrS j) (ge3_yr j) 1 (later _ (act_yr c j) 1 (.inl rfl))) $$ [Hat] with Hv
    · isplitr; · iexact HE
      iexact Hat
    imodintro
    iapply (seq c)
    iapply (send_x oV wV κ c (lands j) l hb (off h) (inb h) (hoff h) (dev h) (hdev h) sS sR hsS hsR (we h) _)
    isplitr; · iexact HE
    isplitl [HD]; · iexact HD
    isplitl [Hpm]; · iexact Hpm
    isplitl [Hpl]; · iexact Hpl
    isplitl [Hx]; · iexact Hx
    iintro ⟨HD, HF⟩
    iapply Hk
    isplitl [HD]; · iexact HD
    isplitl [HF]; · iexact HF
    isplitl [Hpr]; · iexact Hpr
    iexact Hv
  · rw [piece_off oV wV c _ _ hb]
    iintro ⟨#HE, HD, -, Hat, -, -, Hk⟩
    imod (shut oV wV κ c (yrS j) (ge3_yr j) 0 (later _ (act_yr c j) 0 (.inr hb))) $$ [Hat] with Hv
    · isplitr; · iexact HE
      iexact Hat
    imodintro
    iapply Hk
    isplitl [HD]
    · iapply (Dues_skip c (.x (lands j)) l hb); iexact HD
    unfold flyX
    rw [if_neg (by rw [hb]; decide)]
    isplitr; · iempintro
    isplitr; · iempintro
    iexact Hv

/-! ## The waits at the end -/

/-- The two waits for the copies from and to the partner of one block. -/
theorem both_x {β : Type} (i : Fin 7) (l : List Pay) (hen : en i c = true) (hl : ∀ p ∈ l, lvl (.dma (xrS i)) < lvl (psem p))
    (off off' : Fin 2 → ℕ) (inb : ∀ a, off a + S128x4096.size a ≤ S1024x4096.size a) (inb' : ∀ a, off' a + S128x4096.size a ≤ S1024x4096.size a)
    (sS sR : DmaSem sig) (hsS : sS = xsS i) (hsR : sR = xrS i)
    (we : (blk off inb).view.WordExact) (we' : (blk off' inb').view.WordExact)
    (J : Prog (TpuEff nD τ sig (Elt F) Λ₀ .tc) β) (Q : β → sProp 𝕄) :
    iprop(Env oV wV κ ∗ Dues c l ∗ flyX c i ∗ atPos ER (cell c (.dma (xsS i))) 0 ∅ 0 ∗ cred (incoming c (.x i))
        ∗ atPos ER (cell c (.dma (xrS i))) 0 ∅ 0
        ∗ (Dues c l ∗ piece oV wV c i fullShare.left ∗ opiece oV wV c i ∗ semVal (cell c (.dma (xsS i))) 0 ∗ semVal (cell c (.dma (xrS i))) 0
            -∗ W c J Q))
      ⊢ W c (Prog.lift (.waitDma2 sS (blk off inb) (blk off inb) we we) >>= fun _ =>
          Prog.lift (.waitDma2 sR (blk off' inb') (blk off' inb') we' we') >>= fun _ => J) Q := by
  have hi : incoming c (.x i) = tallyAt (cell c (.dma (xrS i))) () N := incoming_on c (.x i) ((en_partner i c).trans hen)
  have hl' : ∀ p ∈ l, lvl (.dma (xsS i)) < lvl (psem p) := fun p hp => by
    rw [lvl_xs i]; exact lvl_psem_pos p
  unfold flyX opiece
  rw [hi, piece_on oV wV c _ _ hen, if_pos hen, if_pos hen]
  iintro ⟨#HE, HD, Hc, Hat, Hc', Hat', Hk⟩
  iapply (seq c)
  iapply (step_await oV wV κ c (xsS i) (ge3_xs i) 0 (by rw [act_xs]; exact hen) _ hl' _ _ sS hsS _ _ (credit_blk _ _) _)
  isplitr; · iexact HE
  isplitl [HD]; · iexact HD
  isplitl [Hc]; · iexact Hc
  isplitl [Hat]; · iexact Hat
  iintro ⟨HD, Hat, -, Hp⟩
  rw [role_xs]
  ihave Hp := (show rolePay oV wV c (.xs i) ⊢ rowsPt c (own c i) fullShare.left (fin oV wV c) from .rfl) $$ Hp
  iapply (seq c)
  iapply (step_await oV wV κ c (xrS i) (ge3_xr i) 0 (by rw [act_xr]; exact hen) _ hl _ _ sR hsR _ _ (credit_blk _ _) _)
  isplitr; · iexact HE
  isplitl [HD]; · iexact HD
  isplitl [Hc']; · iexact Hc'
  isplitl [Hat']; · iexact Hat'
  iintro ⟨HD, Hat', -, Hp'⟩
  rw [role_xr]
  ihave Hp' := (show rolePay oV wV c (.xr i) ⊢ rowsPt c (oth c i) fullShare (fin oV wV c) from .rfl) $$ Hp'
  iapply (fupd_wp _ _ _ _ _)
  imod (shut oV wV κ c (xsS i) (ge3_xs i) 1 (later _ (act_xs c i) 1 (.inl rfl))) $$ [Hat] with Hv
  · isplitr; · iexact HE
    iexact Hat
  imod (shut oV wV κ c (xrS i) (ge3_xr i) 1 (later _ (act_xr c i) 1 (.inl rfl))) $$ [Hat'] with Hv'
  · isplitr; · iexact HE
    iexact Hat'
  imodintro
  iapply Hk
  isplitl [HD]; · iexact HD
  isplitl [Hp]; · iexact Hp
  isplitl [Hp']; · iexact Hp'
  isplitl [Hv]; · iexact Hv
  iexact Hv'

/-- The same under the condition that the line has the block's place. -/
theorem await_x {β : Type} (i : Fin 7) (l : List Pay) {cond : Prop} [Decidable cond] (hc : cond ↔ en i c = true)
    (hl : ∀ p ∈ l, lvl (.dma (xrS i)) < lvl (psem p))
    (off off' : cond → Fin 2 → ℕ) (inb : ∀ h a, off h a + S128x4096.size a ≤ S1024x4096.size a)
    (inb' : ∀ h a, off' h a + S128x4096.size a ≤ S1024x4096.size a)
    (sS sR : DmaSem sig) (hsS : sS = xsS i) (hsR : sR = xrS i)
    (we : ∀ h, (blk (off h) (inb h)).view.WordExact) (we' : ∀ h, (blk (off' h) (inb' h)).view.WordExact)
    (J : Prog (TpuEff nD τ sig (Elt F) Λ₀ .tc) β) (Q : β → sProp 𝕄) :
    iprop(Env oV wV κ ∗ Dues c l ∗ flyX c i ∗ atPos ER (cell c (.dma (xsS i))) 0 ∅ 0 ∗ cred (incoming c (.x i))
        ∗ atPos ER (cell c (.dma (xrS i))) 0 ∅ 0
        ∗ (Dues c l ∗ piece oV wV c i fullShare.left ∗ opiece oV wV c i ∗ semVal (cell c (.dma (xsS i))) 0 ∗ semVal (cell c (.dma (xrS i))) 0
            -∗ W c J Q))
      ⊢ W c (if h : cond then
          Prog.lift (.waitDma2 sS (blk (off h) (inb h)) (blk (off h) (inb h)) (we h) (we h)) >>= fun _ =>
          Prog.lift (.waitDma2 sR (blk (off' h) (inb' h)) (blk (off' h) (inb' h)) (we' h) (we' h)) >>= fun _ => J else J) Q := by
  refine step_if c (en i c) hc _ _ _ _ (fun h hb => both_x oV wV κ c i l hb hl _ _ _ _ sS sR hsS hsR _ _ J Q) (fun hb => ?_)
  unfold opiece
  rw [piece_off oV wV c _ _ hb, if_neg (by rw [hb]; decide)]
  iintro ⟨#HE, HD, -, Hat, -, Hat', Hk⟩
  imod (shut oV wV κ c (xsS i) (ge3_xs i) 0 (later _ (act_xs c i) 0 (.inr hb))) $$ [Hat] with Hv
  · isplitr; · iexact HE
    iexact Hat
  imod (shut oV wV κ c (xrS i) (ge3_xr i) 0 (later _ (act_xr c i) 0 (.inr hb))) $$ [Hat'] with Hv'
  · isplitr; · iexact HE
    iexact Hat'
  imodintro
  iapply Hk
  isplitl [HD]; · iexact HD
  isplitr; · iempintro
  isplitr; · iempintro
  isplitl [Hv]; · iexact Hv
  iexact Hv'

/-- The wait for the device's own copy along the line. -/
theorem await_y {β : Type} (j : Fin 6) (l : List Pay) {cond : Prop} [Decidable cond] (hc : cond ↔ enY j c = true)
    (off : cond → Fin 2 → ℕ) (inb : ∀ h a, off h a + S128x4096.size a ≤ S1024x4096.size a)
    (sS : DmaSem sig) (hsS : sS = ysS j) (we : ∀ h, (blk (off h) (inb h)).view.WordExact)
    (J : Prog (TpuEff nD τ sig (Elt F) Λ₀ .tc) β) (Q : β → sProp 𝕄) :
    iprop(Env oV wV κ ∗ Dues c l ∗ flyY oV wV c j ∗ atPos ER (cell c (.dma (ysS j))) 0 ∅ 0
        ∗ (Dues c l ∗ piece oV wV c (src j) (shY j) ∗ semVal (cell c (.dma (ysS j))) 0 -∗ W c J Q))
      ⊢ W c (if h : cond then
          Prog.lift (.waitDma2 sS (blk (off h) (inb h)) (blk (off h) (inb h)) (we h) (we h)) >>= fun _ => J else J) Q := by
  have hl' : ∀ p ∈ l, lvl (.dma (ysS j)) < lvl (psem p) := fun p hp => by
    rw [lvl_ys j]; exact lvl_psem_pos p
  refine step_if c (enY j c) hc _ _ _ _ (fun h hb => ?_) (fun hb => ?_)
  · have hen : en (src j) c = true := by
      have := hb; unfold enY at this; exact (Bool.and_eq_true_iff.mp this).2
    unfold flyY
    rw [if_pos hb, piece_on oV wV c _ _ hen]
    iintro ⟨#HE, HD, Hc, Hat, Hk⟩
    iapply (seq c)
    iapply (step_await oV wV κ c (ysS j) (ge3_ys j) 0 (by rw [act_ys]; exact hb) _ hl' _ _ sS hsS _ _ (credit_blk _ _) _)
    isplitr; · iexact HE
    isplitl [HD]; · iexact HD
    isplitl [Hc]; · iexact Hc
    isplitl [Hat]; · iexact Hat
    iintro ⟨HD, Hat, -, Hp⟩
    rw [role_ys]
    ihave Hp := (show rolePay oV wV c (.ys j) ⊢ rowsPt c (own c (src j)) (shY j) (fin oV wV c) from .rfl) $$ Hp
    iapply (fupd_wp _ _ _ _ _)
    imod (shut oV wV κ c (ysS j) (ge3_ys j) 1 (later _ (act_ys c j) 1 (.inl rfl))) $$ [Hat] with Hv
    · isplitr; · iexact HE
      iexact Hat
    imodintro
    iapply Hk
    isplitl [HD]; · iexact HD
    isplitl [Hp]; · iexact Hp
    iexact Hv
  · unfold flyY
    rw [if_neg (by rw [hb]; decide)]
    iintro ⟨#HE, HD, Hp, Hat, Hk⟩
    imod (shut oV wV κ c (ysS j) (ge3_ys j) 0 (later _ (act_ys c j) 0 (.inr hb))) $$ [Hat] with Hv
    · isplitr; · iexact HE
      iexact Hat
    imodintro
    iapply Hk
    isplitl [HD]; · iexact HD
    isplitl [Hp]; · iexact Hp
    iexact Hv

end Values

end Cert.KernelIdeal.Talk

end
-- ==== Proof.Ring.lean ====
/-
  The round the ring makes: every device multiplies a slab of its left operand with its right operand, adds what its lower
  neighbour sent, and sends the sum up. Three lemmas for the three stretches a round consists of.
-/
module

public import proofs.«01_k».proof.Proof.Copies

@[expose] public section

set_option maxRecDepth 65536

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Values

variable (oV : Dev nD → Vec F S4x128x1024 .bf16) (wV : Dev nD → Vec F S1024x4096 .bf16)
variable (κ : GSem nD τ sig → ℕ) (c : Dev nD)

/-! ## Memory -/

/-- The operands, the buffer of one product, and the device's own block holding a running sum. -/
abbrev oPt : sProp 𝕄 := oM.view.loc (c : Thread nD τ) ↦{fullShare} (oV c)
abbrev wPt : sProp 𝕄 := wM.view.loc (c : Thread nD τ) ↦{fullShare} (wV c)
abbrev tmpPt (f : Vec F S128x4096 .bf16) : sProp 𝕄 := tmpM.view.loc (c : Thread nD τ) ↦{fullShare} f
def sumPt (s : ℕ) : sProp 𝕄 :=
  iprop(∃ f : BlkV F, ⌜∀ x, f (put (own c 0) x) = acc oV wV s c x⌝ ∗ rowsPt c (own c 0) fullShare f)

theorem read_o (off : Fin 3 → ℕ) (inb : ∀ a, off a + S1x128x1024.size a ≤ S4x128x1024.size a) (z : ℕ) (h : off = ![z % 4, 0, 0]) (v : Vec F S4x128x1024 .bf16) :
    (oM.access (Rect.unit (s := S4x128x1024) off S1x128x1024.size inb)).read (Elt F) v = chunk v z := by
  subst h
  funext x
  refine congrArg v (funext fun a => Fin.ext ?_)
  refine Eq.trans (ValueKit.view_emb_slice_whole_unit_val cc0_stg0_0 _ _ inb x a) ?_
  have h0 : (x 0).val < 1 := (x 0).isLt
  refine Fin.cases ?_ (fun a => ?_) a
  · show z % 4 + (x 0).val = z % 4; omega
  · refine Fin.cases ?_ (fun a => ?_) a
    · show 0 + (x 1).val = (x 1).val; omega
    · rw [show a = 0 from Subsingleton.elim _ _]
      show 0 + (x 2).val = (x 2).val; omega

theorem load_o (off : Fin 3 → ℕ) (inb) (z : ℕ) (h : off = ![z % 4, 0, 0]) (hl) (Q : Vec F S1x128x1024 .bf16 → sProp 𝕄) :
    iprop(oPt oV c ∗ (oPt oV c -∗ Q (chunk (oV c) z)))
      ⊢ W c (Prog.lift (.load oM (Rect.unit (s := S4x128x1024) off S1x128x1024.size inb).toLoadRect hl)) Q := by
  unfold Prog.lift
  iintro ⟨Ho, Hk⟩
  iapply (wp_load_rect 𝒱₀ (c : Thread nD τ) none Set.univ (m := oM) (r := Rect.unit (s := S4x128x1024) off S1x128x1024.size inb)
    (S := Finset.univ) (q := fullShare) (f := oV c) (Finset.subset_univ _)) $$ [Ho]
  · iexact Ho
  iintro Ho
  rw [wp_ret]
  imodintro
  ihave Hq := Hk $$ Ho
  iapply (Entails.of_eq (congrArg Q (read_o off inb z h (oV c)).symm)); iexact Hq

theorem load_w (inb) (hl) (Q : Vec F S1024x4096 .bf16 → sProp 𝕄) :
    iprop(wPt wV c ∗ (wPt wV c -∗ Q (wV c)))
      ⊢ W c (Prog.lift (.load wM (Rect.unit (s := S1024x4096) ![0, 0] S1024x4096.size inb).toLoadRect hl)) Q := by
  unfold Prog.lift
  iintro ⟨Ho, Hk⟩
  iapply (wp_load_rect 𝒱₀ (c : Thread nD τ) none Set.univ (m := wM) (r := Rect.unit (s := S1024x4096) ![0, 0] S1024x4096.size inb)
    (S := Finset.univ) (q := fullShare) (f := wV c) (Finset.subset_univ _)) $$ [Ho]
  · iexact Ho
  iintro Ho
  rw [wp_ret]
  imodintro
  ihave Hq := Hk $$ Ho
  iapply (Entails.of_eq (congrArg Q (Memref.read_access_unit_zero (Elt F) cc0_stg1_0 (by decide) inb (wV c)).symm)); iexact Hq

theorem load_tmp (f : Vec F S128x4096 .bf16) (inb) (hl) (Q : Vec F S128x4096 .bf16 → sProp 𝕄) :
    iprop(tmpPt c f ∗ (tmpPt c f -∗ Q f))
      ⊢ W c (Prog.lift (.load tmpM (Rect.unit (s := S128x4096) ![0, 0] S128x4096.size inb).toLoadRect hl)) Q := by
  unfold Prog.lift
  iintro ⟨Ho, Hk⟩
  iapply (wp_load_rect 𝒱₀ (c : Thread nD τ) none Set.univ (m := tmpM) (r := Rect.unit (s := S128x4096) ![0, 0] S128x4096.size inb)
    (S := Finset.univ) (q := fullShare) (f := f) (Finset.subset_univ _)) $$ [Ho]
  · iexact Ho
  iintro Ho
  rw [wp_ret]
  imodintro
  ihave Hq := Hk $$ Ho
  iapply (Entails.of_eq (congrArg Q (Memref.read_access_unit_zero (Elt F) cc0_scratch1 (by decide) inb f).symm)); iexact Hq

theorem store_tmp (f w : Vec F S128x4096 .bf16) (inb) (hx) (hm) (Q : PUnit → sProp 𝕄) :
    iprop(tmpPt c f ∗ (tmpPt c w -∗ Q ⟨⟩))
      ⊢ W c (Prog.lift (.store tmpM (Rect.unit (s := S128x4096) ![0, 0] S128x4096.size inb) w Finset.univ hx hm)) Q := by
  unfold Prog.lift
  iintro ⟨Ho, Hk⟩
  iapply (wp_store 𝒱₀ (c : Thread nD τ) none Set.univ (m := tmpM) (r := Rect.unit (s := S128x4096) ![0, 0] S128x4096.size inb)
    (S := Finset.univ) (f := f) (Finset.subset_univ _)) $$ [Ho]
  · iexact Ho
  iintro Ho
  rw [wp_ret]
  imodintro
  iapply Hk
  iapply (Entails.of_eq (congrArg (tmpPt (F := F) c) (Memref.write_access_unit_zero_univ (Elt F) cc0_scratch1 (by decide) inb f w))); iexact Ho

/-- A read of a block of the result that nothing depends on. -/
theorem load_out (b : ℕ) (f : BlkV F) (off : Fin 2 → ℕ) (inb) (h : off = ![128 * b, 0]) (hl) (Q : Vec F S128x4096 .bf16 → sProp 𝕄) :
    iprop(rowsPt c b fullShare f ∗ (∀ v, rowsPt c b fullShare f -∗ Q v)) ⊢ W c (Prog.lift (.load outM (blkR off inb).toLoadRect hl)) Q := by
  unfold Prog.lift
  iintro ⟨Ho, Hk⟩
  iapply (wp_load_rect 𝒱₀ (c : Thread nD τ) none Set.univ (m := outM) (r := blkR off inb)
    (S := rows b) (q := fullShare) (f := f) (by rw [← set_blk off inb b h]; exact (View.set_slice_whole _ _).subset)) $$ [Ho]
  · iexact Ho
  iintro Ho
  rw [wp_ret]
  imodintro
  iapply Hk; iexact Ho

/-- A block of the result written. -/
theorem store_out (b : ℕ) (f : BlkV F) (w : Vec F S128x4096 .bf16) (off : Fin 2 → ℕ) (inb) (h : off = ![128 * b, 0]) (hx) (hm) (Q : PUnit → sProp 𝕄) :
    iprop(rowsPt c b fullShare f ∗ (∀ g : BlkV F, ⌜∀ x, g (put b x) = w x⌝ ∗ rowsPt c b fullShare g -∗ Q ⟨⟩))
      ⊢ W c (Prog.lift (.store outM (blkR off inb) w Finset.univ hx hm)) Q := by
  unfold Prog.lift
  iintro ⟨Ho, Hk⟩
  iapply (wp_store 𝒱₀ (c : Thread nD τ) none Set.univ (m := outM) (r := blkR off inb)
    (S := rows b) (f := f) (by rw [← set_blk off inb b h]; exact (View.set_slice_whole _ _).subset)) $$ [Ho]
  · iexact Ho
  iintro Ho
  rw [wp_ret]
  imodintro
  iapply Hk
  isplitr
  · ipureintro
    intro x
    rw [← emb_blk off inb b h x]
    exact View.write_emb_of_mem (v := (blk off inb).view) f w (Finset.mem_univ x)
  iexact Ho

theorem set_slot (s : Fin 3) : (slot s).view.set = place s := by
  refine Eq.trans (View.set_reshape _ _) ?_
  exact View.set_slice_whole _ _

/-- A landing place read: what the copy over the ring brought, in the shape the sum takes it. -/
theorem load_slot (s : Fin 3) (f : S3x128x4096.Idx → Elt F .bf16) (hl) (Q : Vec F S1x128x4096 .bf16 → sProp 𝕄) :
    iprop(placePt c s f ∗ (placePt c s f -∗ Q ((comM.access (slotR s)).read (Elt F) f)))
      ⊢ W c (Prog.lift (.load comM (slotR s).toLoadRect hl)) Q := by
  unfold Prog.lift
  iintro ⟨Ho, Hk⟩
  iapply (wp_load_rect 𝒱₀ (c : Thread nD τ) none Set.univ (m := comM) (r := slotR s)
    (S := place s) (q := fullShare) (f := f) (View.set_slice_whole _ _).subset) $$ [Ho]
  · iexact Ho
  iintro Ho
  rw [wp_ret]
  imodintro
  iapply Hk; iexact Ho

/-! ## The stretches of a round -/

/-- One product: a slab of the left operand times the right operand, put in its buffer. -/
theorem mul (z : ℕ) (pay : Vec F S1x128x1024 .bf16 → Vec F S1024x4096 .bf16 → Vec F S128x4096 .bf16) (hpay : pay = k0_pay2)
    (off : Fin 3 → ℕ) (inb) (h : off = ![z % 4, 0, 0]) (inb' inb'' inb₃) (hl hl' hl'' hx hm) {α : Type} (J : Prog (TpuEff nD τ sig (Elt F) Λ₀ .tc) α)
    (Q : α → sProp 𝕄) :
    iprop(oPt oV c ∗ wPt wV c ∗ (∃ f, tmpPt c f)
        ∗ (oPt oV c ∗ wPt wV c ∗ tmpPt c (k0_pay2 (chunk (oV c) z) (wV c)) -∗ W c J Q))
      ⊢ W c (Prog.lift (.load oM (Rect.unit (s := S4x128x1024) off S1x128x1024.size inb).toLoadRect hl) >>= fun v =>
          Prog.lift (.load wM (Rect.unit (s := S1024x4096) ![0, 0] S1024x4096.size inb').toLoadRect hl') >>= fun v' =>
          Prog.lift (.load tmpM (Rect.unit (s := S128x4096) ![0, 0] S128x4096.size inb'').toLoadRect hl'') >>= fun _ =>
          Prog.lift (.store tmpM (Rect.unit (s := S128x4096) ![0, 0] S128x4096.size inb₃) (pay v v') Finset.univ hx hm) >>= fun _ => J) Q := by
  subst hpay
  iintro ⟨Ho, Hw, ⟨%f, Ht⟩, Hk⟩
  iapply (seq c)
  iapply (load_o oV c off inb z h)
  isplitl [Ho]; · iexact Ho
  iintro Ho
  iapply (seq c)
  iapply (load_w wV c)
  isplitl [Hw]; · iexact Hw
  iintro Hw
  iapply (seq c)
  iapply (load_tmp c f)
  isplitl [Ht]; · iexact Ht
  iintro Ht
  iapply (seq c)
  iapply (store_tmp c f)
  isplitl [Ht]; · iexact Ht
  iintro Ht
  iapply Hk
  isplitl [Ho]; · iexact Ho
  isplitl [Hw]; · iexact Hw
  iexact Ht

/-- The product and what the copy brought, added into the own block. -/
theorem add (s : Fin 3) (pay : Vec F S128x4096 .bf16 → Vec F S1x128x4096 .bf16 → Vec F S128x4096 .bf16) (hpay : pay = k0_pay3)
    (off : Fin 2 → ℕ) (hoff : off = ![128 * own c 0, 0])
    (inb inb₂ inb₃) (off' : Fin 3 → ℕ) (hoff' : off' = ![s.val, 0, 0]) (inb₄) (hl hl' hl'' hx hm) {α : Type} (J : Prog (TpuEff nD τ sig (Elt F) Λ₀ .tc) α)
    (Q : α → sProp 𝕄) :
    iprop(ringPay oV wV s c ∗ tmpPt c (k0_pay2 (chunk (oV c) (mz c + 2 + 3 * s.val)) (wV c)) ∗ rowsAny c (own c 0)
        ∗ (placeAny c s ∗ (∃ f, tmpPt c f) ∗ sumPt oV wV c (s.val + 1) -∗ W c J Q))
      ⊢ W c (Prog.lift (.load tmpM (Rect.unit (s := S128x4096) ![0, 0] S128x4096.size inb).toLoadRect hl) >>= fun v =>
          Prog.lift (.load comM (Rect.unit (s := S3x128x4096) off' S1x128x4096.size inb₄).toLoadRect hl') >>= fun v' =>
          Prog.lift (.load outM (blkR off inb₂).toLoadRect hl'') >>= fun _ =>
          Prog.lift (.store outM (blkR off inb₃) (pay v v') Finset.univ hx hm) >>= fun _ => J) Q := by
  subst hpay; subst hoff'
  unfold ringPay
  iintro ⟨⟨%g, %hg, Hg⟩, Ht, ⟨%f, Hf⟩, Hk⟩
  iapply (seq c)
  iapply (load_tmp c _)
  isplitl [Ht]; · iexact Ht
  iintro Ht
  iapply (seq c)
  iapply (load_slot c s g)
  isplitl [Hg]; · iexact Hg
  iintro Hg
  iapply (seq c)
  iapply (load_out c _ f off _ hoff)
  isplitl [Hf]; · iexact Hf
  iintro %v Hf
  iapply (seq c)
  iapply (store_out c _ f _ off _ hoff)
  isplitl [Hf]; · iexact Hf
  iintro %w ⟨%hw, Hf⟩
  iapply Hk
  isplitl [Hg]; · iexists g; iexact Hg
  isplitl [Ht]; · iexists _; iexact Ht
  unfold sumPt
  iexists w
  isplitr
  · ipureintro
    intro x
    rw [hw x]
    show addf _ ((slot s).view.read (Elt F) g) x = _
    rw [hg]
    rfl
  iexact Hf

/-- The copy of the running sum to the ring neighbour above. -/
theorem send_ring (s : Fin 3) (l : List Pay) (off : Fin 2 → ℕ) (inb) (hoff : off = ![128 * own c 0, 0])
    (dev : Dev nD) (hdev : dev = nb 1 c) (dst : Memref sig .tc .vmem S128x4096 .bf16) (hdst : dst = slot s)
    (sS sR : DmaSem sig) (hsS : sS = ringS) (hsR : sR = rrS s) (w1 w2 w3) (Q : PUnit → sProp 𝕄) :
    iprop(Env oV wV κ ∗ Dues c (.ring s :: l) ∗ dutyTok ER (cell c (.dma ringS)) s.val 0 ∗ reached ER (cell c (.dma ringS)) s.val
        ∗ sumPt oV wV c s.val ∗ rIn s c
        ∗ (Dues c l ∗ cred (tallyAt (cell c (.dma ringS)) () N) -∗ Q ⟨⟩))
      ⊢ W c (Prog.lift (.enqueueDma (blk off inb) (.remote (Dev.tc dev) dst (.dma sS)) (.dma sR) w1 w2 w3)) Q := by
  subst hdst
  unfold sumPt rIn
  iintro ⟨#HE, HD, Ht, Hr, ⟨%f, %hf, Hf⟩, ⟨⟨%g, Hg⟩, Hr'⟩, Hk⟩
  iapply (step_copy oV wV κ c (.ring s) l (rrS s) rfl (ge3_rr s) rfl rfl rfl
    (by rw [role_rr]; rfl) ringS (by decide) s.val (by rw [role_ring]; exact decide_eq_true s.isLt)
    (blk off inb) (slot s) dev hdev sR sS hsR hsS _ _ _ rfl fullShare f g
    (by
      rw [blk_pt c _ _ _ hoff, role_ring]
      show _ ⊢ rowsAny c (own c 0)
      iintro H; iexists f; iexact H)
    (by
      rw [role_rr, set_slot]
      show _ ⊢ ringPay oV wV s (nb 1 c)
      unfold ringPay
      iintro H
      iexists _
      isplitr
      swap
      · iexact H
      ipureintro
      rw [View.read_write_univ, show nb 0 (nb 1 c) = c from nb_opp 1 c]
      funext x
      rw [← hf x]
      exact congrArg f (emb_blk off inb _ hoff x)) _)
  isplitr; · iexact HE
  isplitl [HD]; · iexact HD
  isplitl [Ht]; · iexact Ht
  isplitl [Hr]; · iexact Hr
  isplitl [Hr']; · iexact Hr'
  isplitl [Hf]; · rw [blk_pt c _ _ _ hoff]; iexact Hf
  isplitl [Hg]; · rw [set_slot]; iexact Hg
  iintro ⟨Hc, HD⟩
  iapply Hk
  isplitl [HD]; · iexact HD
  iexact Hc

/-- The wait for the own block to be free again. -/
theorem await_sent (s : Fin 3) (l : List Pay) (src dst : Memref sig .tc .vmem S128x4096 .bf16) (off : Fin 2 → ℕ) (inb) (hdst : dst = blk off inb) (sem : DmaSem sig) (hsem : sem = ringS) (w1 w2)
    (Q : PUnit → sProp 𝕄) :
    iprop(Env oV wV κ ∗ Dues c l ∗ cred (tallyAt (cell c (.dma ringS)) () N) ∗ atPos ER (cell c (.dma ringS)) s.val ∅ 0
        ∗ (Dues c l ∗ atPos ER (cell c (.dma ringS)) (s.val + 1) ∅ 0 ∗ reached ER (cell c (.dma ringS)) (s.val + 1) ∗ rowsAny c (own c 0) -∗ Q ⟨⟩))
      ⊢ W c (Prog.lift (.waitDma2 sem src dst w1 w2)) Q := by
  subst hdst
  exact step_await oV wV κ c ringS (by decide) s.val (by rw [role_ring]; exact decide_eq_true s.isLt) l
    (fun p _ => lvl_psem_pos p) src (blk off inb) sem hsem w1 w2 (credit_blk off inb) Q

/-- The wait for the lower neighbour's sum. -/
theorem await_ring (s : Fin 3) (l : List Pay) (hl : ∀ p ∈ l, lvl (.dma (rrS s)) < lvl (psem p))
    (src dst : Memref sig .tc .vmem S128x4096 .bf16) (sem : DmaSem sig) (hsem : sem = rrS s) (w1 w2)
    (hdst : dst = slot s) (Q : PUnit → sProp 𝕄) :
    iprop(Env oV wV κ ∗ Dues c l ∗ cred (incoming c (.ring s)) ∗ atPos ER (cell c (.dma (rrS s))) 0 ∅ 0
        ∗ (Dues c l ∗ atPos ER (cell c (.dma (rrS s))) 1 ∅ 0 ∗ ringPay oV wV s c -∗ Q ⟨⟩))
      ⊢ W c (Prog.lift (.waitDma2 sem src dst w1 w2)) Q := by
  subst hdst
  rw [incoming_on c (.ring s) rfl]
  iintro ⟨#HE, HD, Hc, Hat, Hk⟩
  iapply (step_await oV wV κ c (rrS s) (ge3_rr s) 0 (by rw [role_rr]; rfl) l hl src (slot s) sem hsem w1 w2 rfl)
  isplitr; · iexact HE
  isplitl [HD]; · iexact HD
  isplitl [Hc]; · iexact Hc
  isplitl [Hat]; · iexact Hat
  iintro ⟨HD, Hat, -, HP⟩
  iapply Hk
  isplitl [HD]; · iexact HD
  isplitl [Hat]; · iexact Hat
  ihave HP := (show rolePay oV wV c (role (rrS s)) ⊢ ringPay oV wV s c by rw [role_rr]; exact .rfl) $$ HP
  iexact HP

/-- After three rounds the own block holds its final contents. -/
theorem sum_fin : sumPt oV wV c 3 ⊢ rowsPt c (own c 0) fullShare (fin oV wV c) := by
  unfold sumPt
  iintro ⟨%f, %hf, Hf⟩
  iapply (Entails.of_eq (pointsTo_congr (fin_own oV wV c f hf))); iexact Hf

end Values

end Cert.KernelIdeal.Talk

end
-- ==== Proof.Words.lean ====
/-
  The words the program computes of its device number: which neighbour a copy goes to, which rows it carries, and which
  copies are made at all.
-/
module

public import proofs.«01_k».proof.Proof.Ring

@[expose] public section

set_option maxRecDepth 65536

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Neighbours, conditions, rows -/

theorem dev1_eq : ∀ d : Dev nD, (⟨k0_dev1 d, k0_dev1_lt d⟩ : Dev nD) = nb 0 d := by decide +kernel
theorem dev2_eq : ∀ d : Dev nD, (⟨k0_dev2 d, k0_dev2_lt d⟩ : Dev nD) = nb 1 d := by decide +kernel
theorem dev3_eq : ∀ d : Dev nD, (⟨k0_dev3 d, k0_dev3_lt d⟩ : Dev nD) = nb 2 d := by decide +kernel
theorem dev6_eq : ∀ d : Dev nD, (⟨k0_dev6 d, k0_dev6_lt d⟩ : Dev nD) = nb 1 d := by decide +kernel
theorem dev7_eq : ∀ d : Dev nD, (⟨k0_dev7 d, k0_dev7_lt d⟩ : Dev nD) = nb 1 d := by decide +kernel
theorem dev8_eq : ∀ d : Dev nD, (⟨k0_dev8 d, k0_dev8_lt d⟩ : Dev nD) = nb 1 d := by decide +kernel
theorem dev9_eq : ∀ d : Dev nD, (⟨k0_dev9 d, k0_dev9_lt d⟩ : Dev nD) = nb 2 d := by decide +kernel
theorem dev22_eq : ∀ d : Dev nD, (⟨k0_dev22 d, k0_dev22_lt d⟩ : Dev nD) = nb 0 d := by decide +kernel
theorem dev23_eq : ∀ d : Dev nD, (⟨k0_dev23 d, k0_dev23_lt d⟩ : Dev nD) = nb 1 d := by decide +kernel
theorem dev24_eq : ∀ d : Dev nD, (⟨k0_dev24 d, k0_dev24_lt d⟩ : Dev nD) = nb 2 d := by decide +kernel
theorem cond1_iff : ∀ d : Dev nD, k0_cond1 d = 1#1 ↔ has 3 d = true := by decide +kernel
theorem cond2_iff : ∀ d : Dev nD, k0_cond2 d = 1#1 ↔ has 4 d = true := by decide +kernel
theorem cond5_iff : ∀ d : Dev nD, k0_cond5 d = 1#1 ↔ enY 0 d = true := by decide +kernel
theorem cond6_iff : ∀ d : Dev nD, k0_cond6 d = 1#1 ↔ enY 3 d = true := by decide +kernel
theorem cond7_iff : ∀ d : Dev nD, k0_cond7 d = 1#1 ↔ en 1 d = true := by decide +kernel
theorem cond8_iff : ∀ d : Dev nD, k0_cond8 d = 1#1 ↔ en 4 d = true := by decide +kernel
theorem cond9_iff : ∀ d : Dev nD, k0_cond9 d = 1#1 ↔ enY 1 d = true := by decide +kernel
theorem cond10_iff : ∀ d : Dev nD, k0_cond10 d = 1#1 ↔ enY 4 d = true := by decide +kernel
theorem cond11_iff : ∀ d : Dev nD, k0_cond11 d = 1#1 ↔ en 2 d = true := by decide +kernel
theorem cond12_iff : ∀ d : Dev nD, k0_cond12 d = 1#1 ↔ en 5 d = true := by decide +kernel
theorem cond13_iff : ∀ d : Dev nD, k0_cond13 d = 1#1 ↔ enY 2 d = true := by decide +kernel
theorem cond14_iff : ∀ d : Dev nD, k0_cond14 d = 1#1 ↔ enY 5 d = true := by decide +kernel
theorem cond15_iff : ∀ d : Dev nD, k0_cond15 d = 1#1 ↔ en 3 d = true := by decide +kernel
theorem cond16_iff : ∀ d : Dev nD, k0_cond16 d = 1#1 ↔ en 6 d = true := by decide +kernel
theorem cond17_iff : ∀ d : Dev nD, k0_cond17 d = 1#1 ↔ en 1 d = true := by decide +kernel
theorem cond18_iff : ∀ d : Dev nD, k0_cond18 d = 1#1 ↔ en 4 d = true := by decide +kernel
theorem cond19_iff : ∀ d : Dev nD, k0_cond19 d = 1#1 ↔ en 2 d = true := by decide +kernel
theorem cond20_iff : ∀ d : Dev nD, k0_cond20 d = 1#1 ↔ en 5 d = true := by decide +kernel
theorem cond21_iff : ∀ d : Dev nD, k0_cond21 d = 1#1 ↔ en 3 d = true := by decide +kernel
theorem cond22_iff : ∀ d : Dev nD, k0_cond22 d = 1#1 ↔ en 6 d = true := by decide +kernel
theorem cond23_iff : ∀ d : Dev nD, k0_cond23 d = 1#1 ↔ enY 0 d = true := by decide +kernel
theorem cond24_iff : ∀ d : Dev nD, k0_cond24 d = 1#1 ↔ enY 3 d = true := by decide +kernel
theorem cond25_iff : ∀ d : Dev nD, k0_cond25 d = 1#1 ↔ enY 1 d = true := by decide +kernel
theorem cond26_iff : ∀ d : Dev nD, k0_cond26 d = 1#1 ↔ enY 4 d = true := by decide +kernel
theorem cond27_iff : ∀ d : Dev nD, k0_cond27 d = 1#1 ↔ enY 2 d = true := by decide +kernel
theorem cond28_iff : ∀ d : Dev nD, k0_cond28 d = 1#1 ↔ enY 5 d = true := by decide +kernel
theorem cond29_iff : ∀ d : Dev nD, k0_cond29 d = 1#1 ↔ has 3 d = true := by decide +kernel
theorem cond30_iff : ∀ d : Dev nD, k0_cond30 d = 1#1 ↔ has 4 d = true := by decide +kernel
theorem dev4_eq : ∀ (d : Dev nD) (h : k0_cond1 d = 1#1), (⟨k0_dev4 d, k0_dev4_lt d h⟩ : Dev nD) = nb 3 d := by decide +kernel
theorem dev5_eq : ∀ (d : Dev nD) (h : k0_cond2 d = 1#1), (⟨k0_dev5 d, k0_dev5_lt d h⟩ : Dev nD) = nb 4 d := by decide +kernel
theorem dev10_eq : ∀ (d : Dev nD) (h : k0_cond5 d = 1#1), (⟨k0_dev10 d, k0_dev10_lt d h⟩ : Dev nD) = nb 4 d := by decide +kernel
theorem dev11_eq : ∀ (d : Dev nD) (h : k0_cond6 d = 1#1), (⟨k0_dev11 d, k0_dev11_lt d h⟩ : Dev nD) = nb 3 d := by decide +kernel
theorem dev12_eq : ∀ (d : Dev nD) (h : k0_cond7 d = 1#1), (⟨k0_dev12 d, k0_dev12_lt d h⟩ : Dev nD) = nb 2 d := by decide +kernel
theorem dev13_eq : ∀ (d : Dev nD) (h : k0_cond8 d = 1#1), (⟨k0_dev13 d, k0_dev13_lt d h⟩ : Dev nD) = nb 2 d := by decide +kernel
theorem dev14_eq : ∀ (d : Dev nD) (h : k0_cond9 d = 1#1), (⟨k0_dev14 d, k0_dev14_lt d h⟩ : Dev nD) = nb 4 d := by decide +kernel
theorem dev15_eq : ∀ (d : Dev nD) (h : k0_cond10 d = 1#1), (⟨k0_dev15 d, k0_dev15_lt d h⟩ : Dev nD) = nb 3 d := by decide +kernel
theorem dev16_eq : ∀ (d : Dev nD) (h : k0_cond11 d = 1#1), (⟨k0_dev16 d, k0_dev16_lt d h⟩ : Dev nD) = nb 2 d := by decide +kernel
theorem dev17_eq : ∀ (d : Dev nD) (h : k0_cond12 d = 1#1), (⟨k0_dev17 d, k0_dev17_lt d h⟩ : Dev nD) = nb 2 d := by decide +kernel
theorem dev18_eq : ∀ (d : Dev nD) (h : k0_cond13 d = 1#1), (⟨k0_dev18 d, k0_dev18_lt d h⟩ : Dev nD) = nb 4 d := by decide +kernel
theorem dev19_eq : ∀ (d : Dev nD) (h : k0_cond14 d = 1#1), (⟨k0_dev19 d, k0_dev19_lt d h⟩ : Dev nD) = nb 3 d := by decide +kernel
theorem dev20_eq : ∀ (d : Dev nD) (h : k0_cond15 d = 1#1), (⟨k0_dev20 d, k0_dev20_lt d h⟩ : Dev nD) = nb 2 d := by decide +kernel
theorem dev21_eq : ∀ (d : Dev nD) (h : k0_cond16 d = 1#1), (⟨k0_dev21 d, k0_dev21_lt d h⟩ : Dev nD) = nb 2 d := by decide +kernel
theorem dev25_eq : ∀ (d : Dev nD) (h : k0_cond29 d = 1#1), (⟨k0_dev25 d, k0_dev25_lt d h⟩ : Dev nD) = nb 3 d := by decide +kernel
theorem dev26_eq : ∀ (d : Dev nD) (h : k0_cond30 d = 1#1), (⟨k0_dev26 d, k0_dev26_lt d h⟩ : Dev nD) = nb 4 d := by decide +kernel
theorem off1_eq : ∀ d : Dev nD, k0_off1 d = ![(mz d + 3) % 4, 0, 0] := by decide +kernel
theorem off4_eq0 : ∀ d : Dev nD, k0_off4 d 0#32 = ![(mz d + 2 + 3 * 0) % 4, 0, 0] := by decide +kernel
theorem off4_eq1 : ∀ d : Dev nD, k0_off4 d 1#32 = ![(mz d + 2 + 3 * 1) % 4, 0, 0] := by decide +kernel
theorem off4_eq2 : ∀ d : Dev nD, k0_off4 d 2#32 = ![(mz d + 2 + 3 * 2) % 4, 0, 0] := by decide +kernel
theorem off2_eq : ∀ d : Dev nD, k0_off2 d = ![128 * own d 0, 0] := by decide +kernel
theorem off3_eq : ∀ d : Dev nD, k0_off3 d = ![128 * own d 0, 0] := by decide +kernel
theorem off5_eq : ∀ d : Dev nD, k0_cond5 d = 1#1 → k0_off5 d = ![128 * own d (src 0), 0] := by decide +kernel
theorem off6_eq : ∀ d : Dev nD, k0_cond6 d = 1#1 → k0_off6 d = ![128 * own d (src 3), 0] := by decide +kernel
theorem off7_eq : ∀ d : Dev nD, k0_cond7 d = 1#1 → k0_off7 d = ![128 * own d (lands 0), 0] := by decide +kernel
theorem off8_eq : ∀ d : Dev nD, k0_cond8 d = 1#1 → k0_off8 d = ![128 * own d (lands 3), 0] := by decide +kernel
theorem off9_eq : ∀ d : Dev nD, k0_cond9 d = 1#1 → k0_off9 d = ![128 * own d (src 1), 0] := by decide +kernel
theorem off10_eq : ∀ d : Dev nD, k0_cond10 d = 1#1 → k0_off10 d = ![128 * own d (src 4), 0] := by decide +kernel
theorem off11_eq : ∀ d : Dev nD, k0_cond11 d = 1#1 → k0_off11 d = ![128 * own d (lands 1), 0] := by decide +kernel
theorem off12_eq : ∀ d : Dev nD, k0_cond12 d = 1#1 → k0_off12 d = ![128 * own d (lands 4), 0] := by decide +kernel
theorem off13_eq : ∀ d : Dev nD, k0_cond13 d = 1#1 → k0_off13 d = ![128 * own d (src 2), 0] := by decide +kernel
theorem off14_eq : ∀ d : Dev nD, k0_cond14 d = 1#1 → k0_off14 d = ![128 * own d (src 5), 0] := by decide +kernel
theorem off15_eq : ∀ d : Dev nD, k0_cond15 d = 1#1 → k0_off15 d = ![128 * own d (lands 2), 0] := by decide +kernel
theorem off16_eq : ∀ d : Dev nD, k0_cond16 d = 1#1 → k0_off16 d = ![128 * own d (lands 5), 0] := by decide +kernel

/-- The device's place along the line as a word, and the two flags kept of it. -/
abbrev wordY (d : Dev nD) : BitVec 32 := Scalar.remsi (Scalar.divsi (Dev.word d) 4#32) 4#32
abbrev flagL (d : Dev nD) : BitVec 1 := Scalar.cmpi .sge (wordY d) 1#32
abbrev flagR (d : Dev nD) : BitVec 1 := Scalar.cmpi .sle (wordY d) 2#32

theorem flagL_iff : ∀ d : Dev nD, Scalar.cmpi .ne (Scalar.extui (flagL d) : BitVec 32) 0#32 = 1#1 ↔ has 3 d = true := by decide +kernel
theorem flagR_iff : ∀ d : Dev nD, Scalar.cmpi .ne (Scalar.extui (flagR d) : BitVec 32) 0#32 = 1#1 ↔ has 4 d = true := by decide +kernel

end Cert.KernelIdeal.Talk

end
-- ==== Proof.Round.lean ====
/-
  The parts of the program that make the ring, each with what it needs and what it leaves.
-/
module

public import proofs.«01_k».proof.Proof.Words

@[expose] public section

set_option maxRecDepth 65536

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The parts of the program, at this launch's buffers and semaphores -/

abbrev at7 := k0_part7 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at8 := k0_part8 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at9 := k0_part9 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at10 := k0_part10 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at11 := k0_part11 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at12 := k0_part12 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at13 := k0_part13 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at14 := k0_part14 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at15 := k0_part15 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at16 := k0_part16 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at17 := k0_part17 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at18 := k0_part18 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0
abbrev at19 := k0_part19 (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0

section Values

variable (oV : Dev nD → Vec F S4x128x1024 .bf16) (wV : Dev nD → Vec F S1024x4096 .bf16)
variable (κ : GSem nD τ sig → ℕ) (c : Dev nD)

/-- What a send over the ring takes up. -/
def ringTok (s : ℕ) : sProp 𝕄 := dutyTok ER (cell c (.dma ringS)) s 0

theorem part9 (v2 v5 v8 v30 v33 w : BitVec 32) (Q) :
    iprop(Env oV wV κ ∗ Dues c (order.drop 5) ∗ oPt oV c ∗ wPt wV c ∗ rowsAny c (own c 0) ∗ ringTok c 0
        ∗ reached ER (cell c (.dma ringS)) 0 ∗ rIn 0 c
        ∗ (Dues c (order.drop 6) ∗ oPt oV c ∗ wPt wV c ∗ cred (tallyAt (cell c (.dma ringS)) () N) -∗ ∀ r, Q r))
      ⊢ W c (at9 (F := F) c v2 v5 v8 v30 v33 w) Q := by
  unfold at9
  rw [k0_part9_eq_skeleton]
  unfold k0_part9_skel ringTok
  iintro ⟨#HE, HD, Ho, Hw, ⟨%f, Hf⟩, Ht, Hr, Hin, Hk⟩
  iapply (seq c)
  iapply (load_o oV c _ _ _ (off1_eq c))
  isplitl [Ho]; · iexact Ho
  iintro Ho
  iapply (seq c)
  iapply (load_w wV c)
  isplitl [Hw]; · iexact Hw
  iintro Hw
  iapply (seq c)
  iapply (load_out c _ f _ _ (off2_eq c))
  isplitl [Hf]; · iexact Hf
  iintro %v Hf
  iapply (seq c)
  iapply (store_out c _ f _ _ _ (off2_eq c))
  isplitl [Hf]; · iexact Hf
  iintro %g ⟨%hg, Hf⟩
  iapply (seq c)
  iapply (send_ring oV wV κ c 0 (order.drop 6) _ _ (off3_eq c) _ (dev6_eq c) _ rfl _ _ rfl rfl)
  isplitr; · iexact HE
  isplitl [HD]; · iexact HD
  isplitl [Ht]; · iexact Ht
  isplitl [Hr]; · iexact Hr
  isplitl [Hf]
  · unfold sumPt
    iexists g
    isplitr
    · ipureintro; exact hg
    iexact Hf
  isplitl [Hin]; · iexact Hin
  iintro ⟨HD, Hc⟩
  unfold W
  rw [wp_pure]
  imodintro
  ihave Hk := Hk $$ [HD Ho Hw Hc]
  · isplitl [HD]; · iexact HD
    isplitl [Ho]; · iexact Ho
    isplitl [Hw]; · iexact Hw
    iexact Hc
  iapply Hk

theorem part10 (v2 v5 v30 v96 w w' : BitVec 32) (Q) :
    iprop(Env oV wV κ ∗ Dues c (order.drop 6) ∗ oPt oV c ∗ wPt wV c ∗ (∃ f, tmpPt c f) ∗ cred (tallyAt (cell c (.dma ringS)) () N)
        ∗ atPos ER (cell c (.dma ringS)) 0 ∅ 0
        ∗ (Dues c (order.drop 6) ∗ oPt oV c ∗ wPt wV c ∗ tmpPt c (k0_pay2 (chunk (oV c) (mz c + 2 + 3 * 0)) (wV c))
          ∗ atPos ER (cell c (.dma ringS)) 1 ∅ 0 ∗ reached ER (cell c (.dma ringS)) 1 ∗ rowsAny c (own c 0) -∗ Q ⟨⟩))
      ⊢ W c (at10 (F := F) c v2 v5 v30 v96 w w') Q := by
  unfold at10
  rw [k0_part10_eq_skeleton]
  unfold k0_part10_skel
  iintro ⟨#HE, HD, Ho, Hw, Ht, Hc, Hat, Hk⟩
  iapply (mul oV wV c _ _ rfl _ _ (off4_eq0 c))
  isplitl [Ho]; · iexact Ho
  isplitl [Hw]; · iexact Hw
  isplitl [Ht]; · iexact Ht
  iintro ⟨Ho, Hw, Ht⟩
  iapply (seq c)
  iapply (await_sent oV wV κ c 0 (order.drop 6) _ _ _ _ rfl _ rfl)
  isplitr; · iexact HE
  isplitl [HD]; · iexact HD
  isplitl [Hc]; · iexact Hc
  isplitl [Hat]; · iexact Hat
  iintro ⟨HD, Hat, Hr, Hf⟩
  unfold W
  rw [wp_pure]
  imodintro
  iapply Hk
  isplitl [HD]; · iexact HD
  isplitl [Ho]; · iexact Ho
  isplitl [Hw]; · iexact Hw
  isplitl [Ht]; · iexact Ht
  isplitl [Hat]; · iexact Hat
  isplitl [Hr]; · iexact Hr
  iexact Hf

theorem part11 (v2 v5 v8 v30 v33 : BitVec 32) (Q) :
    iprop(Env oV wV κ ∗ Dues c (order.drop 6) ∗ cred (incoming c (.ring 0)) ∗ atPos ER (cell c (.dma (rrS 0))) 0 ∅ 0
        ∗ tmpPt c (k0_pay2 (chunk (oV c) (mz c + 2 + 3 * 0)) (wV c)) ∗ rowsAny c (own c 0) ∗ ringTok c 1
        ∗ reached ER (cell c (.dma ringS)) 1 ∗ rIn 1 c
        ∗ (Dues c (order.drop 7) ∗ atPos ER (cell c (.dma (rrS 0))) 1 ∅ 0 ∗ placeAny c 0 ∗ (∃ f, tmpPt c f)
            ∗ cred (tallyAt (cell c (.dma ringS)) () N) -∗ Q ⟨⟩))
      ⊢ W c (at11 (F := F) c v2 v5 v8 v30 v33) Q := by
  unfold at11
  rw [k0_part11_eq_skeleton]
  unfold k0_part11_skel ringTok
  iintro ⟨#HE, HD, Hc, Hat, Ht, Hf, Htk, Hr, Hin, Hk⟩
  iapply (seq c)
  iapply (await_ring oV wV κ c 0 (order.drop 6) (by decide) _ _ _ rfl _ _ rfl)
  isplitr; · iexact HE
  isplitl [HD]; · iexact HD
  isplitl [Hc]; · iexact Hc
  isplitl [Hat]; · iexact Hat
  iintro ⟨HD, Hat, HP⟩
  iapply (add oV wV c 0 _ rfl _ (off2_eq c) _ _ _ _ rfl)
  isplitl [HP]; · iexact HP
  isplitl [Ht]; · iexact Ht
  isplitl [Hf]; · iexact Hf
  iintro ⟨Hpl, Ht, Hs⟩
  iapply (seq c)
  iapply (send_ring oV wV κ c 1 (order.drop 7) _ _ (off3_eq c) _ (dev7_eq c) _ rfl _ _ rfl rfl)
  isplitr; · iexact HE
  isplitl [HD]; · iexact HD
  isplitl [Htk]; · iexact Htk
  isplitl [Hr]; · iexact Hr
  isplitl [Hs]; · iexact Hs
  isplitl [Hin]; · iexact Hin
  iintro ⟨HD, Hc⟩
  unfold W
  rw [wp_pure]
  imodintro
  iapply Hk
  isplitl [HD]; · iexact HD
  isplitl [Hat]; · iexact Hat
  isplitl [Hpl]; · iexact Hpl
  isplitl [Ht]; · iexact Ht
  iexact Hc

theorem part12 (v2 v5 v30 v33 : BitVec 32) (Q) :
    iprop(Env oV wV κ ∗ Dues c (order.drop 7) ∗ oPt oV c ∗ wPt wV c ∗ (∃ f, tmpPt c f) ∗ cred (tallyAt (cell c (.dma ringS)) () N)
        ∗ atPos ER (cell c (.dma ringS)) 1 ∅ 0 ∗ cred (incoming c (.ring 1)) ∗ atPos ER (cell c (.dma (rrS 1))) 0 ∅ 0
        ∗ (Dues c (order.drop 7) ∗ oPt oV c ∗ wPt wV c ∗ (∃ f, tmpPt c f) ∗ atPos ER (cell c (.dma ringS)) 2 ∅ 0
            ∗ reached ER (cell c (.dma ringS)) 2 ∗ atPos ER (cell c (.dma (rrS 1))) 1 ∅ 0 ∗ placeAny c 1 ∗ sumPt oV wV c 2 -∗ Q ⟨⟩))
      ⊢ W c (at12 (F := F) c v2 v5 v30 v33) Q := by
  unfold at12
  rw [k0_part12_eq_skeleton]
  unfold k0_part12_skel
  iintro ⟨#HE, HD, Ho, Hw, Ht, Hc, Hat, Hc', Hat', Hk⟩
  iapply (mul oV wV c _ _ rfl _ _ (off4_eq1 c))
  isplitl [Ho]; · iexact Ho
  isplitl [Hw]; · iexact Hw
  isplitl [Ht]; · iexact Ht
  iintro ⟨Ho, Hw, Ht⟩
  iapply (seq c)
  iapply (await_sent oV wV κ c 1 (order.drop 7) _ _ _ _ rfl _ rfl)
  isplitr; · iexact HE
  isplitl [HD]; · iexact HD
  isplitl [Hc]; · iexact Hc
  isplitl [Hat]; · iexact Hat
  iintro ⟨HD, Hat, Hr, Hf⟩
  iapply (seq c)
  iapply (await_ring oV wV κ c 1 (order.drop 7) (by decide) _ _ _ rfl _ _ rfl)
  isplitr; · iexact HE
  isplitl [HD]; · iexact HD
  isplitl [Hc']; · iexact Hc'
  isplitl [Hat']; · iexact Hat'
  iintro ⟨HD, Hat', HP⟩
  iapply (add oV wV c 1 _ rfl _ (off2_eq c) _ _ _ _ rfl)
  isplitl [HP]; · iexact HP
  isplitl [Ht]; · iexact Ht
  isplitl [Hf]; · iexact Hf
  iintro ⟨Hpl, Ht, Hs⟩
  unfold W
  rw [wp_pure]
  imodintro
  iapply Hk
  isplitl [HD]; · iexact HD
  isplitl [Ho]; · iexact Ho
  isplitl [Hw]; · iexact Hw
  isplitl [Ht]; · iexact Ht
  isplitl [Hat]; · iexact Hat
  isplitl [Hr]; · iexact Hr
  isplitl [Hat']; · iexact Hat'
  isplitl [Hpl]; · iexact Hpl
  iexact Hs

theorem part13 (v2 v5 v8 v30 : BitVec 32) (Q) :
    iprop(Env oV wV κ ∗ Dues c (order.drop 7) ∗ oPt oV c ∗ wPt wV c ∗ (∃ f, tmpPt c f) ∗ sumPt oV wV c 2 ∗ ringTok c 2
        ∗ reached ER (cell c (.dma ringS)) 2 ∗ rIn 2 c
        ∗ (Dues c (order.drop 8) ∗ oPt oV c ∗ wPt wV c ∗ tmpPt c (k0_pay2 (chunk (oV c) (mz c + 2 + 3 * 2)) (wV c))
            ∗ cred (tallyAt (cell c (.dma ringS)) () N) -∗ Q ⟨⟩))
      ⊢ W c (at13 (F := F) c v2 v5 v8 v30) Q := by
  unfold at13
  rw [k0_part13_eq_skeleton]
  unfold k0_part13_skel ringTok
  iintro ⟨#HE, HD, Ho, Hw, Ht, Hs, Htk, Hr, Hin, Hk⟩
  iapply (seq c)
  iapply (send_ring oV wV κ c 2 (order.drop 8) _ _ (off3_eq c) _ (dev8_eq c) _ rfl _ _ rfl rfl)
  isplitr; · iexact HE
  isplitl [HD]; · iexact HD
  isplitl [Htk]; · iexact Htk
  isplitl [Hr]; · iexact Hr
  isplitl [Hs]; · iexact Hs
  isplitl [Hin]; · iexact Hin
  iintro ⟨HD, Hc⟩
  iapply (mul oV wV c _ _ rfl _ _ (off4_eq2 c))
  isplitl [Ho]; · iexact Ho
  isplitl [Hw]; · iexact Hw
  isplitl [Ht]; · iexact Ht
  iintro ⟨Ho, Hw, Ht⟩
  unfold W
  rw [wp_pure]
  imodintro
  iapply Hk
  isplitl [HD]; · iexact HD
  isplitl [Ho]; · iexact Ho
  isplitl [Hw]; · iexact Hw
  isplitl [Ht]; · iexact Ht
  iexact Hc

theorem part14 (v2 v5 v30 v31 v33 : BitVec 32) (Q) :
    iprop(Env oV wV κ ∗ Dues c (order.drop 8) ∗ tmpPt c (k0_pay2 (chunk (oV c) (mz c + 2 + 3 * 2)) (wV c))
        ∗ cred (tallyAt (cell c (.dma ringS)) () N) ∗ atPos ER (cell c (.dma ringS)) 2 ∅ 0
        ∗ cred (incoming c (.ring 2)) ∗ atPos ER (cell c (.dma (rrS 2))) 0 ∅ 0
        ∗ (Dues c (order.drop 8) ∗ (∃ f, tmpPt c f) ∗ atPos ER (cell c (.dma ringS)) 3 ∅ 0
            ∗ atPos ER (cell c (.dma (rrS 2))) 1 ∅ 0 ∗ placeAny c 2 ∗ rowsPt c (own c 0) fullShare (fin oV wV c) -∗ ∀ r, Q r))
      ⊢ W c (at14 (F := F) c v2 v5 v30 v31 v33) Q := by
  unfold at14
  rw [k0_part14_eq_skeleton]
  unfold k0_part14_skel
  iintro ⟨#HE, HD, Ht, Hc, Hat, Hc', Hat', Hk⟩
  iapply (seq c)
  iapply (await_sent oV wV κ c 2 (order.drop 8) _ _ _ _ rfl _ rfl)
  isplitr; · iexact HE
  isplitl [HD]; · iexact HD
  isplitl [Hc]; · iexact Hc
  isplitl [Hat]; · iexact Hat
  iintro ⟨HD, Hat, -, Hf⟩
  iapply (seq c)
  iapply (await_ring oV wV κ c 2 (order.drop 8) (by decide) _ _ _ rfl _ _ rfl)
  isplitr; · iexact HE
  isplitl [HD]; · iexact HD
  isplitl [Hc']; · iexact Hc'
  isplitl [Hat']; · iexact Hat'
  iintro ⟨HD, Hat', HP⟩
  iapply (add oV wV c 2 _ rfl _ (off2_eq c) _ _ _ _ rfl)
  isplitl [HP]; · iexact HP
  isplitl [Ht]; · iexact Ht
  isplitl [Hf]; · iexact Hf
  iintro ⟨Hpl, Ht, Hs⟩
  ihave Hs := (show sumPt oV wV c ((2 : Fin 3).val + 1) ⊢ rowsPt c (own c 0) fullShare (fin oV wV c) from sum_fin oV wV c) $$ Hs
  unfold W
  rw [wp_pure]
  imodintro
  ihave Hk := Hk $$ [HD Ht Hat Hat' Hpl Hs]
  · isplitl [HD]; · iexact HD
    isplitl [Ht]; · iexact Ht
    isplitl [Hat]; · iexact Hat
    isplitl [Hat']; · iexact Hat'
    isplitl [Hpl]; · iexact Hpl
    iexact Hs
  iapply Hk

end Values

end Cert.KernelIdeal.Talk

end
-- ==== Proof.Cross.lean ====
/-
  The parts of the program in which the finished blocks travel: to the partner and along the line, each passed on as it
  lands, and the waits for all of them.
-/
module

public import proofs.«01_k».proof.Proof.Round

@[expose] public section

set_option maxRecDepth 65536

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Values

variable (oV : Dev nD → Vec F S4x128x1024 .bf16) (wV : Dev nD → Vec F S1024x4096 .bf16)
variable (κ : GSem nD τ sig → ℕ) (c : Dev nD)

/-! ## What the copies take and leave, by copy -/

/-- For a copy along the line going out: the permit and the place it goes to. -/
def outY (j : Fin 6) : sProp 𝕄 := iprop(permit c (ysS j) ∗ yIn j c)
/-- For one coming in and passed to the partner. -/
def passY (j : Fin 6) : sProp 𝕄 :=
  iprop(cred (incoming c (.y j)) ∗ atPos ER (cell c (.dma (yrS j))) 0 ∅ 0 ∗ permit c (xsS (lands j)) ∗ xIn (lands j) c)
/-- Once it is passed on: a share of it kept to send further, and its semaphore counted out. -/
def gotY (j : Fin 6) : sProp 𝕄 := iprop(piece oV wV c (lands j) fullShare.right)
def passedY (j : Fin 6) : sProp 𝕄 := iprop(flyX c (lands j) ∗ semVal (cell c (.dma (yrS j))) 0)
/-- For the two ends of an exchange with the partner, and what they give in the end. -/
def openX (i : Fin 7) : sProp 𝕄 :=
  iprop(atPos ER (cell c (.dma (xsS i))) 0 ∅ 0 ∗ cred (incoming c (.x i)) ∗ atPos ER (cell c (.dma (xrS i))) 0 ∅ 0)
def doneX (i : Fin 7) : sProp 𝕄 :=
  iprop((piece oV wV c i fullShare.left ∗ opiece oV wV c i) ∗ semVal (cell c (.dma (xsS i))) 0 ∗ semVal (cell c (.dma (xrS i))) 0)
def openY (j : Fin 6) : sProp 𝕄 := atPos ER (cell c (.dma (ysS j))) 0 ∅ 0
def doneY (j : Fin 6) : sProp 𝕄 := iprop(piece oV wV c (src j) (shY j) ∗ semVal (cell c (.dma (ysS j))) 0)

theorem y_out {β : Type} (j : Fin 6) (l : List Pay) {cond : Prop} [Decidable cond] (hc : cond ↔ enY j c = true)
    (off : cond → Fin 2 → ℕ) (inb : ∀ h a, off h a + S128x4096.size a ≤ S1024x4096.size a) (hoff : ∀ h, off h = ![128 * own c (src j), 0])
    (dev : cond → Dev nD) (hdev : ∀ h, dev h = nb (ydir j) c) (sS sR : DmaSem sig) (hsS : sS = ysS j) (hsR : sR = yrS j)
    (we : ∀ h, (blk (off h) (inb h)).view.WordExact)
    (J : Prog (TpuEff nD τ sig (Elt F) Λ₀ .tc) β) (Q : β → sProp 𝕄) :
    iprop(Env oV wV κ ∗ Dues c (.y j :: l) ∗ outY c j ∗ piece oV wV c (src j) (shY j) ∗ (Dues c l ∗ flyY oV wV c j -∗ W c J Q))
      ⊢ W c (if h : cond then
          Prog.lift (.enqueueDma (blk (off h) (inb h)) (.remote (Dev.tc (dev h)) (blk (off h) (inb h)) (.dma sS)) (.dma sR) (we h) (we h) ⟨⟨rfl, Or.inl rfl⟩, ⟨⟩⟩)
            >>= fun _ => J else J) Q := by
  unfold outY
  iintro ⟨#HE, HD, ⟨Hp, Hy⟩, Hpc, Hk⟩
  iapply (send_y oV wV κ c j l hc off inb hoff dev hdev sS sR hsS hsR we J Q)
  isplitr; · iexact HE
  isplitl [HD]; · iexact HD
  isplitl [Hp]; · iexact Hp
  isplitl [Hpc]; · iexact Hpc
  isplitl [Hy]; · iexact Hy
  iexact Hk

theorem y_pass {β : Type} (j : Fin 6) (l : List Pay) {cond : Prop} [Decidable cond] (hc : cond ↔ en (lands j) c = true)
    (hl : ∀ p ∈ (.x (lands j) :: l), lvl (.dma (yrS j)) < lvl (psem p))
    (off : cond → Fin 2 → ℕ) (inb : ∀ h a, off h a + S128x4096.size a ≤ S1024x4096.size a)
    (hoff : ∀ h, off h = ![128 * own c (lands j), 0])
    (dev : cond → Dev nD) (hdev : ∀ h, dev h = nb 2 c) (sW sS sR : DmaSem sig) (hsW : sW = yrS j) (hsS : sS = xsS (lands j))
    (hsR : sR = xrS (lands j)) (we : ∀ h, (blk (off h) (inb h)).view.WordExact)
    (t : cond → Prog (TpuEff nD τ sig (Elt F) Λ₀ .tc) PUnit)
    (ht : ∀ h, t h = (Prog.lift (.waitDma2 sW (blk (off h) (inb h)) (blk (off h) (inb h)) (we h) (we h)) >>= fun _ =>
          Prog.lift (.enqueueDma (blk (off h) (inb h)) (.remote (Dev.tc (dev h)) (blk (off h) (inb h)) (.dma sS)) (.dma sR) (we h) (we h) ⟨⟨rfl, Or.inl rfl⟩, ⟨⟩⟩)
            >>= fun _ => pure ⟨⟩))
    (J : Prog (TpuEff nD τ sig (Elt F) Λ₀ .tc) β) (Q : β → sProp 𝕄) :
    iprop(Env oV wV κ ∗ Dues c (.x (lands j) :: l) ∗ passY c j
        ∗ (Dues c l ∗ passedY c j ∗ gotY oV wV c j -∗ W c J Q))
      ⊢ W c (if h : cond then t h >>= fun _ => J else J) Q := by
  unfold passY passedY gotY
  simp only [ht]
  refine BIBase.Entails.trans ?_ (pass_on oV wV κ c j l hc hl off inb hoff dev hdev sW sS sR hsW hsS hsR we J Q)
  iintro ⟨#HE, HD, ⟨Hc, Ha, Hp, Hx⟩, Hk⟩
  isplitr; · iexact HE
  isplitl [HD]; · iexact HD
  isplitl [Hc]; · iexact Hc
  isplitl [Ha]; · iexact Ha
  isplitl [Hp]; · iexact Hp
  isplitl [Hx]; · iexact Hx
  iintro ⟨HD, Hf, Hpc, Hv⟩
  iapply Hk
  isplitl [HD]; · iexact HD
  isplitl [Hf Hv]
  · isplitl [Hf]; · iexact Hf
    iexact Hv
  iexact Hpc

theorem x_wait {β : Type} (i : Fin 7) (l : List Pay) {cond : Prop} [Decidable cond] (hc : cond ↔ en i c = true)
    (hl : ∀ p ∈ l, lvl (.dma (xrS i)) < lvl (psem p))
    (off off' : cond → Fin 2 → ℕ) (inb : ∀ h a, off h a + S128x4096.size a ≤ S1024x4096.size a)
    (inb' : ∀ h a, off' h a + S128x4096.size a ≤ S1024x4096.size a)
    (sS sR : DmaSem sig) (hsS : sS = xsS i) (hsR : sR = xrS i)
    (we : ∀ h, (blk (off h) (inb h)).view.WordExact) (we' : ∀ h, (blk (off' h) (inb' h)).view.WordExact)
    (J : Prog (TpuEff nD τ sig (Elt F) Λ₀ .tc) β) (Q : β → sProp 𝕄) :
    iprop(Env oV wV κ ∗ Dues c l ∗ flyX c i ∗ openX c i ∗ (Dues c l ∗ doneX oV wV c i -∗ W c J Q))
      ⊢ W c (if h : cond then
          Prog.lift (.waitDma2 sS (blk (off h) (inb h)) (blk (off h) (inb h)) (we h) (we h)) >>= fun _ =>
          Prog.lift (.waitDma2 sR (blk (off' h) (inb' h)) (blk (off' h) (inb' h)) (we' h) (we' h)) >>= fun _ => J else J) Q := by
  unfold openX doneX
  iintro ⟨#HE, HD, Hf, ⟨Ha, Hc, Ha'⟩, Hk⟩
  iapply (await_x oV wV κ c i l hc hl off off' inb inb' sS sR hsS hsR we we' J Q)
  isplitr; · iexact HE
  isplitl [HD]; · iexact HD
  isplitl [Hf]; · iexact Hf
  isplitl [Ha]; · iexact Ha
  isplitl [Hc]; · iexact Hc
  isplitl [Ha']; · iexact Ha'
  iintro ⟨HD, Hp, Ho, Hv, Hv'⟩
  iapply Hk
  isplitl [HD]; · iexact HD
  isplitl [Hp Ho]
  · isplitl [Hp]; · iexact Hp
    iexact Ho
  isplitl [Hv]; · iexact Hv
  iexact Hv'

theorem y_wait {β : Type} (j : Fin 6) (l : List Pay) {cond : Prop} [Decidable cond] (hc : cond ↔ enY j c = true)
    (off : cond → Fin 2 → ℕ) (inb : ∀ h a, off h a + S128x4096.size a ≤ S1024x4096.size a)
    (sS : DmaSem sig) (hsS : sS = ysS j) (we : ∀ h, (blk (off h) (inb h)).view.WordExact)
    (J : Prog (TpuEff nD τ sig (Elt F) Λ₀ .tc) β) (Q : β → sProp 𝕄) :
    iprop(Env oV wV κ ∗ Dues c l ∗ flyY oV wV c j ∗ openY c j ∗ (Dues c l ∗ doneY oV wV c j -∗ W c J Q))
      ⊢ W c (if h : cond then
          Prog.lift (.waitDma2 sS (blk (off h) (inb h)) (blk (off h) (inb h)) (we h) (we h)) >>= fun _ => J else J) Q := by
  unfold openY doneY
  exact await_y oV wV κ c j l hc off inb sS hsS we J Q

/-! ## The parts -/

theorem part15 (v2 v5 v8 v31 : BitVec 32) (v34 v35 : BitVec 1) (v251 v252 : BitVec 32) (Q) :
    iprop(Env oV wV κ ∗ Dues c (order.drop 8) ∗ permit c (xsS 0) ∗ piece oV wV c 0 fullShare.left ∗ xIn 0 c
        ∗ outY c 0 ∗ piece oV wV c (src 0) (shY 0)
        ∗ (Dues c (order.drop 10) ∗ flyX c 0 ∗ flyY oV wV c 0 -∗ ∀ r, Q r))
      ⊢ W c (at15 (F := F) c v2 v5 v8 v31 v34 v35 v251 v252) Q := by
  unfold at15
  rw [k0_part15_eq_skeleton]
  unfold k0_part15_skel
  iintro ⟨#HE, HD, Hp, Hpc, Hx, Ho, Hpc', Hk⟩
  iapply (seq c)
  iapply (send_x oV wV κ c 0 (order.drop 9) rfl _ _ (off3_eq c) _ (dev9_eq c) _ _ rfl rfl)
  isplitr; · iexact HE
  isplitl [HD]; · iexact HD
  isplitl [Hp]; · iexact Hp
  isplitl [Hpc]; · iapply (Entails.of_eq (piece_on oV wV c 0 fullShare.left rfl)); iexact Hpc
  isplitl [Hx]; · iexact Hx
  iintro ⟨HD, Hf⟩
  iapply (y_out oV wV κ c 0 (order.drop 10) (cond5_iff c) _ _ (off5_eq c) _ (dev10_eq c) _ _ rfl rfl)
  isplitr; · iexact HE
  isplitl [HD]; · iexact HD
  isplitl [Ho]; · iexact Ho
  isplitl [Hpc']; · iexact Hpc'
  iintro ⟨HD, Hf'⟩
  unfold W
  rw [wp_pure]
  imodintro
  ihave Hk := Hk $$ [HD Hf Hf']
  · isplitl [HD]; · iexact HD
    isplitl [Hf]; · iexact Hf
    iexact Hf'
  iapply Hk

theorem part16 (v2 v5 v8 v31 : BitVec 32) (v34 v35 v261 v265 v273 v277 : BitVec 1) (Q) :
    iprop(Env oV wV κ ∗ Dues c (order.drop 10) ∗ piece oV wV c (src 3) (shY 3) ∗ outY c 3 ∗ passY c 0 ∗ passY c 3 ∗ outY c 1 ∗ outY c 4
        ∗ passY c 1 ∗ passY c 4 ∗ outY c 2
        ∗ (Dues c (order.drop 18) ∗ flyY oV wV c 3 ∗ passedY c 0 ∗ passedY c 3 ∗ flyY oV wV c 1 ∗ flyY oV wV c 4 ∗ passedY c 1 ∗ passedY c 4
            ∗ flyY oV wV c 2 ∗ piece oV wV c (src 5) (shY 5) -∗ Q ⟨⟩))
      ⊢ W c (at16 (F := F) c v2 v5 v8 v31 v34 v35 v261 v265 v273 v277) Q := by
  unfold at16
  rw [k0_part16_eq_skeleton]
  unfold k0_part16_skel
  iintro ⟨#HE, HD, Hg3, Ho3, Hi0, Hi3, Ho1, Ho4, Hi1, Hi4, Ho2, Hk⟩
  iapply (y_out oV wV κ c 3 (order.drop 11) (cond6_iff c) _ _ (off6_eq c) _ (dev11_eq c) _ _ rfl rfl)
  isplitr; · iexact HE
  isplitl [HD]; · iexact HD
  isplitl [Ho3]; · iexact Ho3
  isplitl [Hg3]; · iexact Hg3
  iintro ⟨HD, Hf3⟩
  iapply (y_pass oV wV κ c 0 (order.drop 12) (cond7_iff c) (by decide) _ _ (off7_eq c) _ (dev12_eq c) _ _ _ rfl rfl rfl
    _ _ (fun h => by rw [k0_part1_eq_skeleton]; rfl))
  isplitr; · iexact HE
  isplitl [HD]; · iexact HD
  isplitl [Hi0]; · iexact Hi0
  iintro ⟨HD, Hd0, Hn0⟩
  iapply (y_pass oV wV κ c 3 (order.drop 13) (cond8_iff c) (by decide) _ _ (off8_eq c) _ (dev13_eq c) _ _ _ rfl rfl rfl
    _ _ (fun h => by rw [k0_part2_eq_skeleton]; rfl))
  isplitr; · iexact HE
  isplitl [HD]; · iexact HD
  isplitl [Hi3]; · iexact Hi3
  iintro ⟨HD, Hd3, Hn3⟩
  ihave Hg1 := (show gotY oV wV c 0 ⊢ piece oV wV c (src 1) (shY 1) from .rfl) $$ Hn0
  ihave Hg4 := (show gotY oV wV c 3 ⊢ piece oV wV c (src 4) (shY 4) from .rfl) $$ Hn3
  iapply (y_out oV wV κ c 1 (order.drop 14) (cond9_iff c) _ _ (off9_eq c) _ (dev14_eq c) _ _ rfl rfl)
  isplitr; · iexact HE
  isplitl [HD]; · iexact HD
  isplitl [Ho1]; · iexact Ho1
  isplitl [Hg1]; · iexact Hg1
  iintro ⟨HD, Hf1⟩
  iapply (y_out oV wV κ c 4 (order.drop 15) (cond10_iff c) _ _ (off10_eq c) _ (dev15_eq c) _ _ rfl rfl)
  isplitr; · iexact HE
  isplitl [HD]; · iexact HD
  isplitl [Ho4]; · iexact Ho4
  isplitl [Hg4]; · iexact Hg4
  iintro ⟨HD, Hf4⟩
  iapply (y_pass oV wV κ c 1 (order.drop 16) (cond11_iff c) (by decide) _ _ (off11_eq c) _ (dev16_eq c) _ _ _ rfl rfl rfl
    _ _ (fun h => by rw [k0_part3_eq_skeleton]; rfl))
  isplitr; · iexact HE
  isplitl [HD]; · iexact HD
  isplitl [Hi1]; · iexact Hi1
  iintro ⟨HD, Hd1, Hn1⟩
  iapply (y_pass oV wV κ c 4 (order.drop 17) (cond12_iff c) (by decide) _ _ (off12_eq c) _ (dev17_eq c) _ _ _ rfl rfl rfl
    _ _ (fun h => by rw [k0_part4_eq_skeleton]; rfl))
  isplitr; · iexact HE
  isplitl [HD]; · iexact HD
  isplitl [Hi4]; · iexact Hi4
  iintro ⟨HD, Hd4, Hn4⟩
  ihave Hg2 := (show gotY oV wV c 1 ⊢ piece oV wV c (src 2) (shY 2) from .rfl) $$ Hn1
  ihave Hg5 := (show gotY oV wV c 4 ⊢ piece oV wV c (src 5) (shY 5) from .rfl) $$ Hn4
  iapply (y_out oV wV κ c 2 (order.drop 18) (cond13_iff c) _ _ (off13_eq c) _ (dev18_eq c) _ _ rfl rfl)
  isplitr; · iexact HE
  isplitl [HD]; · iexact HD
  isplitl [Ho2]; · iexact Ho2
  isplitl [Hg2]; · iexact Hg2
  iintro ⟨HD, Hf2⟩
  unfold W
  rw [wp_pure]
  imodintro
  iapply Hk
  isplitl [HD]; · iexact HD
  isplitl [Hf3]; · iexact Hf3
  isplitl [Hd0]; · iexact Hd0
  isplitl [Hd3]; · iexact Hd3
  isplitl [Hf1]; · iexact Hf1
  isplitl [Hf4]; · iexact Hf4
  isplitl [Hd1]; · iexact Hd1
  isplitl [Hd4]; · iexact Hd4
  isplitl [Hf2]; · iexact Hf2
  iexact Hg5

theorem part17 (v2 v5 v8 v31 v244 : BitVec 32) (v261 v265 v269 v273 v277 v281 : BitVec 1) (Q) :
    iprop(Env oV wV κ ∗ Dues c (order.drop 18) ∗ piece oV wV c (src 5) (shY 5) ∗ outY c 5 ∗ passY c 2 ∗ passY c 5
        ∗ flyX c 0 ∗ openX c 0 ∗ flyX c 1 ∗ openX c 1 ∗ flyX c 4 ∗ openX c 4 ∗ flyX c 2 ∗ openX c 2
        ∗ (Dues c (order.drop 21) ∗ flyY oV wV c 5 ∗ (passedY c 2 ∗ gotY oV wV c 2) ∗ (passedY c 5 ∗ gotY oV wV c 5)
            ∗ doneX oV wV c 0 ∗ doneX oV wV c 1 ∗ doneX oV wV c 4 ∗ doneX oV wV c 2 -∗ ∀ r, Q r))
      ⊢ W c (at17 (F := F) c v2 v5 v8 v31 v244 v261 v265 v269 v273 v277 v281) Q := by
  unfold at17
  rw [k0_part17_eq_skeleton]
  unfold k0_part17_skel
  iintro ⟨#HE, HD, Hg5, Ho5, Hi2, Hi5, Hx0, Hw0, Hx1, Hw1, Hx4, Hw4, Hx2, Hw2, Hk⟩
  iapply (y_out oV wV κ c 5 (order.drop 19) (cond14_iff c) _ _ (off14_eq c) _ (dev19_eq c) _ _ rfl rfl)
  isplitr; · iexact HE
  isplitl [HD]; · iexact HD
  isplitl [Ho5]; · iexact Ho5
  isplitl [Hg5]; · iexact Hg5
  iintro ⟨HD, Hf5⟩
  iapply (y_pass oV wV κ c 2 (order.drop 20) (cond15_iff c) (by decide) _ _ (off15_eq c) _ (dev20_eq c) _ _ _ rfl rfl rfl
    _ _ (fun h => by rw [k0_part5_eq_skeleton]; rfl))
  isplitr; · iexact HE
  isplitl [HD]; · iexact HD
  isplitl [Hi2]; · iexact Hi2
  iintro ⟨HD, Hd2, Hn2⟩
  iapply (y_pass oV wV κ c 5 (order.drop 21) (cond16_iff c) (by decide) _ _ (off16_eq c) _ (dev21_eq c) _ _ _ rfl rfl rfl
    _ _ (fun h => by rw [k0_part6_eq_skeleton]; rfl))
  isplitr; · iexact HE
  isplitl [HD]; · iexact HD
  isplitl [Hi5]; · iexact Hi5
  iintro ⟨HD, Hd5, Hn5⟩
  ihave Hw0 := (show openX (F := F) c 0 ⊢ iprop(atPos ER (cell c (.dma (xsS 0))) 0 ∅ 0 ∗ cred (incoming c (.x 0)) ∗ atPos ER (cell c (.dma (xrS 0))) 0 ∅ 0) from .rfl) $$ Hw0
  icases Hw0 with ⟨Ha, Hc, Ha'⟩
  iapply (both_x oV wV κ c 0 (order.drop 21) rfl (by decide) _ _ _ _ _ _ rfl rfl)
  isplitr; · iexact HE
  isplitl [HD]; · iexact HD
  isplitl [Hx0]; · iexact Hx0
  isplitl [Ha]; · iexact Ha
  isplitl [Hc]; · iexact Hc
  isplitl [Ha']; · iexact Ha'
  iintro ⟨HD, Hp, Hop, Hv, Hv'⟩
  iapply (x_wait oV wV κ c 1 (order.drop 21) (cond17_iff c) (by decide) _ _ _ _ _ _ rfl rfl)
  isplitr; · iexact HE
  isplitl [HD]; · iexact HD
  isplitl [Hx1]; · iexact Hx1
  isplitl [Hw1]; · iexact Hw1
  iintro ⟨HD, He1⟩
  iapply (x_wait oV wV κ c 4 (order.drop 21) (cond18_iff c) (by decide) _ _ _ _ _ _ rfl rfl)
  isplitr; · iexact HE
  isplitl [HD]; · iexact HD
  isplitl [Hx4]; · iexact Hx4
  isplitl [Hw4]; · iexact Hw4
  iintro ⟨HD, He4⟩
  iapply (x_wait oV wV κ c 2 (order.drop 21) (cond19_iff c) (by decide) _ _ _ _ _ _ rfl rfl)
  isplitr; · iexact HE
  isplitl [HD]; · iexact HD
  isplitl [Hx2]; · iexact Hx2
  isplitl [Hw2]; · iexact Hw2
  iintro ⟨HD, He2⟩
  icombine Hd2 Hn2 as Hy2
  icombine Hd5 Hn5 as Hy5
  unfold W
  rw [wp_pure]
  imodintro
  ihave Hk := Hk $$ [HD Hf5 Hy2 Hy5 Hp Hop Hv Hv' He1 He4 He2]
  · isplitl [HD]; · iexact HD
    isplitl [Hf5]; · iexact Hf5
    isplitl [Hy2]; · iexact Hy2
    isplitl [Hy5]; · iexact Hy5
    isplitl [Hp Hop Hv Hv']
    · unfold doneX
      isplitl [Hp Hop]
      · isplitl [Hp]; · iexact Hp
        iexact Hop
      isplitl [Hv]; · iexact Hv
      iexact Hv'
    isplitl [He1]; · iexact He1
    isplitl [He4]; · iexact He4
    iexact He2
  iapply Hk

theorem part18 (v2 v5 v8 v31 : BitVec 32) (v34 v35 : BitVec 1) (v244 : BitVec 32) (v269 v281 : BitVec 1) (v350 w : BitVec 32) (Q) :
    iprop(Env oV wV κ ∗ Dues c (order.drop 21) ∗ flyX c 5 ∗ openX c 5 ∗ flyX c 3 ∗ openX c 3 ∗ flyX c 6 ∗ openX c 6
        ∗ flyY oV wV c 0 ∗ openY c 0 ∗ flyY oV wV c 3 ∗ openY c 3 ∗ flyY oV wV c 1 ∗ openY c 1 ∗ flyY oV wV c 4 ∗ openY c 4
        ∗ flyY oV wV c 2 ∗ openY c 2
        ∗ (Dues c (order.drop 21) ∗ doneX oV wV c 5 ∗ doneX oV wV c 3 ∗ doneX oV wV c 6 ∗ doneY oV wV c 0 ∗ doneY oV wV c 3
            ∗ doneY oV wV c 1 ∗ doneY oV wV c 4 ∗ doneY oV wV c 2 -∗ ∀ r, Q r))
      ⊢ W c (at18 (F := F) c v2 v5 v8 v31 v34 v35 v244 v269 v281 v350 w) Q := by
  unfold at18
  rw [k0_part18_eq_skeleton]
  unfold k0_part18_skel
  iintro ⟨#HE, HD, Hx5, Hw5, Hx3, Hw3, Hx6, Hw6, Hf0, Hs0, Hf3, Hs3, Hf1, Hs1, Hf4, Hs4, Hf2, Hs2, Hk⟩
  iapply (x_wait oV wV κ c 5 (order.drop 21) (cond20_iff c) (by decide) _ _ _ _ _ _ rfl rfl)
  isplitr; · iexact HE
  isplitl [HD]; · iexact HD
  isplitl [Hx5]; · iexact Hx5
  isplitl [Hw5]; · iexact Hw5
  iintro ⟨HD, He5⟩
  iapply (x_wait oV wV κ c 3 (order.drop 21) (cond21_iff c) (by decide) _ _ _ _ _ _ rfl rfl)
  isplitr; · iexact HE
  isplitl [HD]; · iexact HD
  isplitl [Hx3]; · iexact Hx3
  isplitl [Hw3]; · iexact Hw3
  iintro ⟨HD, He3⟩
  iapply (x_wait oV wV κ c 6 (order.drop 21) (cond22_iff c) (by decide) _ _ _ _ _ _ rfl rfl)
  isplitr; · iexact HE
  isplitl [HD]; · iexact HD
  isplitl [Hx6]; · iexact Hx6
  isplitl [Hw6]; · iexact Hw6
  iintro ⟨HD, He6⟩
  iapply (y_wait oV wV κ c 0 (order.drop 21) (cond23_iff c) _ _ _ rfl)
  isplitr; · iexact HE
  isplitl [HD]; · iexact HD
  isplitl [Hf0]; · iexact Hf0
  isplitl [Hs0]; · iexact Hs0
  iintro ⟨HD, Hr0⟩
  iapply (y_wait oV wV κ c 3 (order.drop 21) (cond24_iff c) _ _ _ rfl)
  isplitr; · iexact HE
  isplitl [HD]; · iexact HD
  isplitl [Hf3]; · iexact Hf3
  isplitl [Hs3]; · iexact Hs3
  iintro ⟨HD, Hr3⟩
  iapply (y_wait oV wV κ c 1 (order.drop 21) (cond25_iff c) _ _ _ rfl)
  isplitr; · iexact HE
  isplitl [HD]; · iexact HD
  isplitl [Hf1]; · iexact Hf1
  isplitl [Hs1]; · iexact Hs1
  iintro ⟨HD, Hr1⟩
  iapply (y_wait oV wV κ c 4 (order.drop 21) (cond26_iff c) _ _ _ rfl)
  isplitr; · iexact HE
  isplitl [HD]; · iexact HD
  isplitl [Hf4]; · iexact Hf4
  isplitl [Hs4]; · iexact Hs4
  iintro ⟨HD, Hr4⟩
  iapply (y_wait oV wV κ c 2 (order.drop 21) (cond27_iff c) _ _ _ rfl)
  isplitr; · iexact HE
  isplitl [HD]; · iexact HD
  isplitl [Hf2]; · iexact Hf2
  isplitl [Hs2]; · iexact Hs2
  iintro ⟨HD, Hr2⟩
  unfold W
  rw [wp_pure]
  imodintro
  ihave Hk := Hk $$ [HD He5 He3 He6 Hr0 Hr3 Hr1 Hr4 Hr2]
  · isplitl [HD]; · iexact HD
    isplitl [He5]; · iexact He5
    isplitl [He3]; · iexact He3
    isplitl [He6]; · iexact He6
    isplitl [Hr0]; · iexact Hr0
    isplitl [Hr3]; · iexact Hr3
    isplitl [Hr1]; · iexact Hr1
    isplitl [Hr4]; · iexact Hr4
    iexact Hr2
  iapply Hk

end Values

end Cert.KernelIdeal.Talk

end
-- ==== Proof.Meet.lean ====
/-
  Arriving and leaving: each device sends a unit to every neighbour and waits for theirs. With the units of arriving go
  the rights to write into the sender's memory.
-/
module

public import proofs.«01_k».proof.Proof.Cross

@[expose] public section

set_option maxRecDepth 65536

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The contents of the landing places. -/
abbrev PlaceV (F : FTy → Type) : Type := S3x128x4096.Idx → Elt F .bf16

section Values

variable (oV : Dev nD → Vec F S4x128x1024 .bf16) (wV : Dev nD → Vec F S1024x4096 .bf16)
variable (κ : GSem nD τ sig → ℕ) (c : Dev nD)

/-! ## The result and the landing places cut into pieces -/

def seven (Φ : Fin 7 → sProp 𝕄) : sProp 𝕄 := iprop(Φ 0 ∗ Φ 1 ∗ Φ 2 ∗ Φ 3 ∗ Φ 4 ∗ Φ 5 ∗ Φ 6)

/-- A block by the half it lies in and its place. -/
def blkNo (p : Bool × Fin 7) : ℕ := if p.1 = true then own c p.2 else oth c p.2
def held7 : Finset (Bool × Fin 7) := Finset.univ.filter fun p => en p.2 c = true

theorem blkNo_inj : ∀ (c : Dev nD), ∀ p ∈ held7 c, ∀ p' ∈ held7 c, p ≠ p' → blkNo c p ≠ blkNo c p' := by decide +kernel
theorem blkNo_onto : ∀ (c : Dev nD) (b : Fin 8), ∃ p ∈ held7 c, blkNo c p = b.val := by decide +kernel

theorem cover : (held7 c).biUnion (fun p => rows (blkNo c p)) = Finset.univ := by
  ext x
  simp only [Finset.mem_biUnion, Finset.mem_univ, iff_true]
  have hx : (x 0).val < 1024 := (x 0).isLt
  obtain ⟨p, hp, e⟩ := blkNo_onto c ⟨(x 0).val / 128, by omega⟩
  exact ⟨p, hp, by rw [e, rows, Finset.mem_filter]; exact ⟨Finset.mem_univ _, rfl⟩⟩

/-- A block of either half, if the line has its place. -/
def blkPt (h : Bool) (f : BlkV F) (i : Fin 7) : sProp 𝕄 :=
  if en i c = true then rowsPt c (blkNo c (h, i)) fullShare f else iprop(emp)

theorem bigSep_cases {I : Type} [Fintype I] [DecidableEq I] (p : I → Prop) [DecidablePred p] (Φ : I → sProp 𝕄) :
    bigSep (Finset.univ.filter p) Φ = bigSep Finset.univ fun i => if p i then Φ i else iprop(emp) := by
  have he : bigSep (Finset.univ.filter fun i => ¬ p i) (fun i => if p i then Φ i else iprop(emp)) = (iprop(emp) : sProp 𝕄) :=
    (bigSep_congr fun i hi => if_neg (Finset.mem_filter.mp hi).2).trans (bigSep_emp_const _)
  rw [BI.bigSep_filter_split Finset.univ p (Φ := fun i => if p i then Φ i else iprop(emp)), he, bigSep_congr (s := Finset.univ.filter p) (Φ := fun i => if p i then Φ i else iprop(emp)) (Ψ := Φ) (fun i hi => if_pos (Finset.mem_filter.mp hi).2)]
  exact (equiv_iff.mp Idealize.SL.BI.sep_emp).symm

theorem out_split (f : BlkV F) :
    (outL c ↦{fullShare} f : sProp 𝕄) = iprop(seven (blkPt c true f) ∗ seven (blkPt c false f)) := by
  rw [← cover c, pointsTo_biUnion _ _ (fun p hp p' hp' hne => rows_disjoint (blkNo_inj c p hp p' hp' hne))]
  unfold held7
  rw [bigSep_cases, BI.bigSep_univ_prod, bigSep_univ_eq_bigSepL [true, false] (by decide) (by decide)]
  show iprop(bigSep _ _ ∗ bigSep _ _) = _
  rw [bigSep_univ_eq_bigSepL [(0 : Fin 7), 1, 2, 3, 4, 5, 6] (by decide) (by decide),
    bigSep_univ_eq_bigSepL [(0 : Fin 7), 1, 2, 3, 4, 5, 6] (by decide) (by decide)]
  rfl

theorem places_cover : (Finset.univ : Finset (Fin 3)).biUnion place = Finset.univ := place_cover

theorem com_split (f : S3x128x4096.Idx → Elt F .bf16) :
    (comL c ↦{fullShare} f : sProp 𝕄) = iprop(placePt c 0 f ∗ placePt c 1 f ∗ placePt c 2 f) := by
  rw [← places_cover, pointsTo_biUnion _ _ (fun s _ s' _ hne => place_disjoint hne),
    bigSep_univ_eq_bigSepL [(0 : Fin 3), 1, 2] (by decide) (by decide)]
  rfl

/-! ## What is given on arriving -/

/-- Every semaphore of the device's own stands at its first round. -/
def Stand : sProp 𝕄 := bigSep Finset.univ fun k : Fin 31 => reached ER (cell c (osem k)) 0

instance : BI.Persistent (Stand (F := F) c) := by unfold Stand; infer_instance

theorem stand_lv : Stand (F := F) c ⊢ reached ER (cell c lvL) 0 :=
  bigSep_elim (Φ := fun k : Fin 31 => (reached ER (cell c (osem k)) 0 : sProp 𝕄)) (Finset.mem_univ (0 : Fin 31))

theorem stand_dma (s : DmaSem sig) (h : 3 ≤ s.val) : Stand (F := F) c ⊢ reached ER (cell c (.dma s)) 0 := by
  have hs : s.val < 33 := s.isLt
  have e : osem ⟨s.val - 2, by omega⟩ = .dma s := by
    unfold osem
    rw [if_neg (by show ¬ s.val - 2 = 0; omega)]
    exact congrArg SemLoc.dma (Fin.ext (by show s.val - 2 + 2 = s.val; omega))
  rw [← e]
  exact bigSep_elim (Φ := fun k : Fin 31 => (reached ER (cell c (osem k)) 0 : sProp 𝕄)) (Finset.mem_univ _)

theorem give_y (j : Fin 6) (f : BlkV F) : iprop(Stand c ∗ blkPt c true f (lands j)) ⊢ yIn j (nb (opp (ydir j)) c) := by
  unfold yIn blkPt
  rw [en_lands']
  cases h : en (lands j) c
  · rw [if_neg (by decide), if_neg (by decide)]
    iintro -; iempintro
  · rw [if_pos rfl, if_pos rfl, nb_opp', own_lands' j c h]
    show iprop(Stand c ∗ rowsPt c (own c (lands j)) fullShare f) ⊢ _
    iintro ⟨#HS, H⟩
    isplitl [H]
    · iexists f; iexact H
    iapply (stand_dma c (yrS j) (ge3_yr j)); iexact HS

theorem give_x (i : Fin 7) (f : BlkV F) : iprop(Stand c ∗ blkPt c false f i) ⊢ xIn i (nb 2 c) := by
  unfold xIn blkPt
  rw [en_partner]
  cases h : en i c
  · rw [if_neg (by decide), if_neg (by decide)]
    iintro -; iempintro
  · rw [if_pos rfl, if_pos rfl, own_partner, show nb 2 (nb 2 c) = c from nb_opp 2 c]
    show iprop(Stand c ∗ rowsPt c (oth c i) fullShare f) ⊢ _
    iintro ⟨#HS, H⟩
    isplitl [H]
    · iexists f; iexact H
    iapply (stand_dma c (xrS i) (ge3_xr i)); iexact HS

theorem give_ring (s : Fin 3) (f : PlaceV F) : iprop(Stand c ∗ placePt c s f) ⊢ rIn s (nb 0 c) := by
  unfold rIn
  rw [show nb 1 (nb 0 c) = c from nb_opp 0 c]
  iintro ⟨#HS, H⟩
  isplitl [H]
  · iexists f; iexact H
  iapply (stand_dma c (rrS s) (ge3_rr s)); iexact HS

/-- What goes with the unit in a direction, if there is a neighbour. -/
def give (k : Fin 5) : sProp 𝕄 := if has k c = true then barPay (nb k c) k else iprop(emp)

theorem give_of (k : Fin 5) (P : sProp 𝕄) (h : P ⊢ barPay (nb k c) k) : P ⊢ give c k := by
  unfold give
  split
  · exact h
  · iintro -; iempintro

theorem give_all (f : BlkV F) (g : PlaceV F) :
    iprop(Stand c ∗ (outL c ↦{fullShare} f) ∗ (comL c ↦{fullShare} g))
      ⊢ iprop((give c 0 ∗ give c 1 ∗ give c 2 ∗ give c 3 ∗ give c 4) ∗ rowsAny c (own c 0)) := by
  rw [out_split, com_split]
  unfold seven
  iintro ⟨#HS, ⟨⟨T0, T1, T2, T3, T4, T5, T6⟩, F0, F1, F2, F3, F4, F5, F6⟩, P0, P1, P2⟩
  isplitr [T0]
  · isplitl [P0 P1 P2]
    · iapply (give_of c 0 iprop(Stand c ∗ placePt c 0 g ∗ placePt c 1 g ∗ placePt c 2 g) (by
        show _ ⊢ iprop(reached ER (cell (nb 1 (nb 0 c)) lvL) 0 ∗ rIn 0 (nb 0 c) ∗ rIn 1 (nb 0 c) ∗ rIn 2 (nb 0 c))
        rw [show nb 1 (nb 0 c) = c from nb_opp 0 c]
        iintro ⟨#HS, P0, P1, P2⟩
        isplitr; · iapply (stand_lv c); iexact HS
        isplitl [P0]; · iapply (give_ring c 0 g); isplitr; · iexact HS
                        iexact P0
        isplitl [P1]; · iapply (give_ring c 1 g); isplitr; · iexact HS
                        iexact P1
        iapply (give_ring c 2 g); isplitr; · iexact HS
        iexact P2))
      isplitr; · iexact HS
      isplitl [P0]; · iexact P0
      isplitl [P1]; · iexact P1
      iexact P2
    isplitr
    · iapply (give_of c 1 iprop(Stand c) (by
        show _ ⊢ reached ER (cell (nb 0 (nb 1 c)) lvL) 0
        rw [show nb 0 (nb 1 c) = c from nb_opp 1 c]
        exact stand_lv c))
      iexact HS
    isplitl [F0 F1 F2 F3 F4 F5 F6]
    · iapply (give_of c 2 iprop(Stand c ∗ seven (blkPt c false f)) (by
        show _ ⊢ iprop(reached ER (cell (nb 2 (nb 2 c)) lvL) 0 ∗ xIn 0 (nb 2 c) ∗ xIn 1 (nb 2 c) ∗ xIn 2 (nb 2 c) ∗ xIn 3 (nb 2 c) ∗ xIn 4 (nb 2 c)
          ∗ xIn 5 (nb 2 c) ∗ xIn 6 (nb 2 c))
        rw [show nb 2 (nb 2 c) = c from nb_opp 2 c]
        unfold seven
        iintro ⟨#HS, F0, F1, F2, F3, F4, F5, F6⟩
        isplitr; · iapply (stand_lv c); iexact HS
        isplitl [F0]; · iapply (give_x c 0 f); isplitr; · iexact HS
                        iexact F0
        isplitl [F1]; · iapply (give_x c 1 f); isplitr; · iexact HS
                        iexact F1
        isplitl [F2]; · iapply (give_x c 2 f); isplitr; · iexact HS
                        iexact F2
        isplitl [F3]; · iapply (give_x c 3 f); isplitr; · iexact HS
                        iexact F3
        isplitl [F4]; · iapply (give_x c 4 f); isplitr; · iexact HS
                        iexact F4
        isplitl [F5]; · iapply (give_x c 5 f); isplitr; · iexact HS
                        iexact F5
        iapply (give_x c 6 f); isplitr; · iexact HS
        iexact F6))
      unfold seven
      isplitr; · iexact HS
      isplitl [F0]; · iexact F0
      isplitl [F1]; · iexact F1
      isplitl [F2]; · iexact F2
      isplitl [F3]; · iexact F3
      isplitl [F4]; · iexact F4
      isplitl [F5]; · iexact F5
      iexact F6
    isplitl [T1 T2 T3]
    · iapply (give_of c 3 iprop(Stand c ∗ blkPt c true f 1 ∗ blkPt c true f 2 ∗ blkPt c true f 3) (by
        show _ ⊢ iprop(reached ER (cell (nb 4 (nb 3 c)) lvL) 0 ∗ yIn 0 (nb 3 c) ∗ yIn 1 (nb 3 c) ∗ yIn 2 (nb 3 c))
        rw [show nb 4 (nb 3 c) = c from nb_opp 3 c]
        iintro ⟨#HS, F0, F1, F2⟩
        isplitr; · iapply (stand_lv c); iexact HS
        isplitl [F0]; · iapply (give_y c 0 f); isplitr; · iexact HS
                        iexact F0
        isplitl [F1]; · iapply (give_y c 1 f); isplitr; · iexact HS
                        iexact F1
        iapply (give_y c 2 f); isplitr; · iexact HS
        iexact F2))
      isplitr; · iexact HS
      isplitl [T1]; · iexact T1
      isplitl [T2]; · iexact T2
      iexact T3
    iapply (give_of c 4 iprop(Stand c ∗ blkPt c true f 4 ∗ blkPt c true f 5 ∗ blkPt c true f 6) (by
      show _ ⊢ iprop(reached ER (cell (nb 3 (nb 4 c)) lvL) 0 ∗ yIn 3 (nb 4 c) ∗ yIn 4 (nb 4 c) ∗ yIn 5 (nb 4 c))
      rw [show nb 3 (nb 4 c) = c from nb_opp 4 c]
      iintro ⟨#HS, F0, F1, F2⟩
      isplitr; · iapply (stand_lv c); iexact HS
      isplitl [F0]; · iapply (give_y c 3 f); isplitr; · iexact HS
                      iexact F0
      isplitl [F1]; · iapply (give_y c 4 f); isplitr; · iexact HS
                      iexact F1
      iapply (give_y c 5 f); isplitr; · iexact HS
      iexact F2))
    isplitr; · iexact HS
    isplitl [T4]; · iexact T4
    isplitl [T5]; · iexact T5
    iexact T6
  iexists f
  iapply (show blkPt c true f 0 ⊢ rowsPt c (own c 0) fullShare f from Entails.of_eq (if_pos rfl)); iexact T0

/-! ## The units sent -/

/-- What a unit takes along, if it is sent. -/
def tell (p : Pay) : sProp 𝕄 :=
  if pen p c = true then iprop(reached ER (target c p) 0 ∗ payOf oV wV (nb (pdir p) c) (pduty p) (psem p)) else iprop(emp)

theorem signal (p : Pay) (l : List Pay) (s : Sem sig) (hs : psem p = .reg s) (hen : pen p c = true) (dev : Dev nD)
    (hdev : dev = nb (pdir p) c) (sem : Sem sig) (hsem : sem = s) (Q : PUnit → sProp 𝕄) :
    iprop(Env oV wV κ ∗ Dues c (p :: l) ∗ tell oV wV c p ∗ (Dues c l -∗ Q ⟨⟩)) ⊢ W c (semSignalWord dev sem 1#32) Q := by
  unfold tell
  rw [if_pos hen]
  iintro ⟨#HE, HD, ⟨Hr, Hp⟩, Hk⟩
  iapply (step_unit oV wV κ c p l s hs hen dev hdev sem hsem Q)
  isplitr; · iexact HE
  isplitl [HD]; · iexact HD
  isplitl [Hr]; · iexact Hr
  isplitl [Hp]; · iexact Hp
  iexact Hk

theorem signal_if {β : Type} (p : Pay) (l : List Pay) {cond : Prop} [Decidable cond] (hc : cond ↔ pen p c = true) (s : Sem sig)
    (hs : psem p = .reg s) (dev : cond → Dev nD) (hdev : ∀ h, dev h = nb (pdir p) c) (sem : Sem sig) (hsem : sem = s)
    (J : Prog (TpuEff nD τ sig (Elt F) Λ₀ .tc) β) (Q : β → sProp 𝕄) :
    iprop(Env oV wV κ ∗ Dues c (p :: l) ∗ tell oV wV c p ∗ (Dues c l -∗ W c J Q))
      ⊢ W c (if h : cond then semSignalWord (dev h) sem 1#32 >>= fun _ => J else J) Q := by
  refine step_if c (pen p c) hc _ _ _ _ (fun h hb => ?_) (fun hb => ?_)
  · iintro ⟨#HE, HD, Ht, Hk⟩
    iapply (seq c)
    iapply (signal oV wV κ c p l s hs hb (dev h) (hdev h) sem hsem _)
    isplitr; · iexact HE
    isplitl [HD]; · iexact HD
    isplitl [Ht]; · iexact Ht
    iexact Hk
  · iintro ⟨#HE, HD, -, Hk⟩
    imodintro
    iapply Hk
    iapply (Dues_skip c p l hb); iexact HD

/-! ## The units waited for -/

/-- Credit for a unit that may come. -/
def mayCome (s : Sem sig) (b : Bool) : sProp 𝕄 := cred (tallyAt (cell c (.reg s)) () (if b = true then 1 else 0))

theorem wait_first (s : Sem sig) (l : List Pay) (hl : ∀ p ∈ l, lvl (.reg s) < lvl (psem p)) (sem : Sem sig) (hsem : sem = s) (Q : PUnit → sProp 𝕄) :
    iprop(Env oV wV κ ∗ Dues c l ∗ (mayCome c s true ∗ mayCome c s true ∗ mayCome c s true) ∗ atPos ER (cell c (.reg s)) 0 ∅ 0
        ∗ (Dues c l ∗ units oV wV c s 3 -∗ Q ⟨⟩)) ⊢ W c (semWaitWord sem 3#32) Q := by
  have e3 : iprop(mayCome c s true ∗ mayCome c s true ∗ mayCome c s true) ⊢ (cred (tallyAt (cell c (.reg s)) () 3) : sProp 𝕄) := by
    unfold mayCome
    rw [if_pos rfl, show (3 : ℕ) = 1 + (1 + 1) from rfl, ← tallyAt_add, ← tallyAt_add]
    iintro ⟨A, B, C⟩
    iapply (cred_add _ _).2
    isplitl [A]; · iexact A
    iapply (cred_add _ _).2
    isplitl [B]; · iexact B
    iexact C
  iintro ⟨#HE, HD, Hc, Hat, Hk⟩
  ihave Hc := e3 $$ Hc
  ihave Hu := (units_start oV wV c s) $$ Hat
  iapply (step_units oV wV κ c s 0 3 3#32 rfl (by decide) (by rw [units_in]; omega) l hl sem hsem Q)
  isplitr; · iexact HE
  isplitl [HD]; · iexact HD
  isplitl [Hc]; · iexact Hc
  isplitl [Hu]; · iexact Hu
  iexact Hk

theorem wait_if {β : Type} (s : Sem sig) (n : ℕ) (b : Bool) {cond : Prop} [Decidable cond] (hc : cond ↔ b = true)
    (hle : n + (if b = true then 1 else 0) ≤ (comers c).card) (l : List Pay) (hl : ∀ p ∈ l, lvl (.reg s) < lvl (psem p))
    (sem : Sem sig) (hsem : sem = s) (J : Prog (TpuEff nD τ sig (Elt F) Λ₀ .tc) β) (Q : β → sProp 𝕄) :
    iprop(Env oV wV κ ∗ Dues c l ∗ mayCome c s b ∗ units oV wV c s n
        ∗ (Dues c l ∗ units oV wV c s (n + if b = true then 1 else 0) -∗ W c J Q))
      ⊢ W c (if h : cond then semWaitWord sem 1#32 >>= fun _ => J else J) Q := by
  refine step_if c b hc _ _ _ _ (fun h hb => ?_) (fun hb => ?_)
  · rw [if_pos hb] at hle
    unfold mayCome
    rw [if_pos hb]
    iintro ⟨#HE, HD, Hc, Hu, Hk⟩
    iapply (seq c)
    iapply (step_units oV wV κ c s n 1 1#32 rfl (by decide) hle l hl sem hsem _)
    isplitr; · iexact HE
    isplitl [HD]; · iexact HD
    isplitl [Hc]; · iexact Hc
    isplitl [Hu]; · iexact Hu
    iexact Hk
  · rw [if_neg (by rw [hb]; decide), Nat.add_zero]
    iintro ⟨-, HD, -, Hu, Hk⟩
    imodintro
    iapply Hk
    isplitl [HD]; · iexact HD
    iexact Hu

theorem units_all (s : Sem sig) :
    units oV wV c s (3 + (if has 3 c = true then 1 else 0) + (if has 4 c = true then 1 else 0))
      ⊢ iprop(atPos ER (cell c (.reg s)) 1 ∅ 0 ∗ bigSep (comers c) fun d => payOf oV wV c d (.reg s)) := by
  unfold units
  rw [if_pos (units_in c).symm]

/-! ## What arriving brings -/

/-- The neighbours' own counters stand at their first round, so that they may be told on leaving. -/
def leaveOk : sProp 𝕄 :=
  iprop(reached ER (cell (nb 0 c) lvL) 0 ∗ reached ER (cell (nb 1 c) lvL) 0 ∗ reached ER (cell (nb 2 c) lvL) 0
    ∗ (if has 3 c = true then reached ER (cell (nb 3 c) lvL) 0 else iprop(emp))
    ∗ (if has 4 c = true then reached ER (cell (nb 4 c) lvL) 0 else iprop(emp)))

def gains : sProp 𝕄 :=
  iprop((rIn 0 c ∗ rIn 1 c ∗ rIn 2 c) ∗ seven (fun i => xIn i c) ∗ (yIn 0 c ∗ yIn 1 c ∗ yIn 2 c ∗ yIn 3 c ∗ yIn 4 c ∗ yIn 5 c) ∗ leaveOk c)

theorem no_y (j : Fin 6) (h : has (ydir j) c = false) : (iprop(emp) : sProp 𝕄) ⊢ yIn j c := by
  unfold yIn
  rw [if_neg (by unfold enY; rw [h, Bool.false_and]; decide)]

theorem got_side (h : Bool) (P A B C R : sProp 𝕄) (hP : P ⊢ iprop(R ∗ A ∗ B ∗ C)) (ha : h = false → iprop(emp) ⊢ A) (hb : h = false → iprop(emp) ⊢ B)
    (hc : h = false → iprop(emp) ⊢ C) :
    (if h = true then P else iprop(emp)) ⊢ iprop((if h = true then R else iprop(emp)) ∗ A ∗ B ∗ C) := by
  cases h
  · rw [if_neg (by decide), if_neg (by decide)]
    iintro -
    isplitr; · iempintro
    isplitr; · iapply (ha rfl); iempintro
    isplitr; · iapply (hb rfl); iempintro
    iapply (hc rfl); iempintro
  · rw [if_pos rfl, if_pos rfl]; exact hP

theorem bar_got : (bigSep (comers c) fun d => payOf oV wV c d barL) ⊢ gains c := by
  unfold comers
  rw [bigSep_cases, bigSep_univ_eq_bigSepL [(0 : Fin 5), 1, 2, 3, 4] (by decide) (by decide)]
  show iprop(barPay c 0 ∗ barPay c 1 ∗ barPay c 2 ∗ (if has 4 c = true then barPay c 3 else iprop(emp))
    ∗ (if has 3 c = true then barPay c 4 else iprop(emp))) ⊢ _
  unfold gains leaveOk seven
  iintro ⟨H0, H1, H2, H3, H4⟩
  ihave H0 := (show barPay c 0 ⊢ iprop(reached ER (cell (nb 1 c) lvL) 0 ∗ rIn 0 c ∗ rIn 1 c ∗ rIn 2 c) from .rfl) $$ H0
  ihave H1 := (show barPay c 1 ⊢ reached ER (cell (nb 0 c) lvL) 0 from .rfl) $$ H1
  ihave H2 := (show barPay c 2 ⊢ iprop(reached ER (cell (nb 2 c) lvL) 0 ∗ xIn 0 c ∗ xIn 1 c ∗ xIn 2 c ∗ xIn 3 c ∗ xIn 4 c
      ∗ xIn 5 c ∗ xIn 6 c) from .rfl) $$ H2
  ihave H3 := (got_side (has 4 c) (barPay c 3) (yIn 0 c) (yIn 1 c) (yIn 2 c) (reached ER (cell (nb 4 c) lvL) 0) .rfl
    (no_y c 0) (no_y c 1) (no_y c 2)) $$ H3
  ihave H4 := (got_side (has 3 c) (barPay c 4) (yIn 3 c) (yIn 4 c) (yIn 5 c) (reached ER (cell (nb 3 c) lvL) 0) .rfl
    (no_y c 3) (no_y c 4) (no_y c 5)) $$ H4
  icases H0 with ⟨R1, A0, A1, A2⟩
  icases H2 with ⟨R2, X0, X1, X2, X3, X4, X5, X6⟩
  icases H3 with ⟨R4, Y0, Y1, Y2⟩
  icases H4 with ⟨R3, Y3, Y4, Y5⟩
  isplitl [A0 A1 A2]
  · isplitl [A0]; · iexact A0
    isplitl [A1]; · iexact A1
    iexact A2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  isplitl [Y0 Y1 Y2 Y3 Y4 Y5]
  · isplitl [Y0]; · iexact Y0
    isplitl [Y1]; · iexact Y1
    isplitl [Y2]; · iexact Y2
    isplitl [Y3]; · iexact Y3
    isplitl [Y4]; · iexact Y4
    iexact Y5
  isplitl [H1]; · iexact H1
  isplitl [R1]; · iexact R1
  isplitl [R2]; · iexact R2
  isplitl [R3]; · iexact R3
  iexact R4

theorem tell_bar (k : Fin 5) : iprop(Env oV wV κ ∗ give c k) ⊢ tell oV wV c (.bar k) := by
  unfold tell give
  show _ ⊢ if has k c = true then iprop(reached ER (cell (nb k c) barL) 0 ∗ barPay (nb k c) k) else iprop(emp)
  cases h : has k c
  · rw [if_neg (by decide), if_neg (by decide)]
    iintro -; iempintro
  · rw [if_pos rfl, if_pos rfl]
    iintro ⟨#HE, H⟩
    isplitr; · iapply (env_reached oV wV κ (nb k c)); iexact HE
    iexact H

theorem tell_leave (k : Fin 5) (h : has k c = true) : (reached ER (cell (nb k c) lvL) 0 : sProp 𝕄) ⊢ tell oV wV c (.leave k) := by
  unfold tell
  rw [if_pos (show pen (.leave k) c = true from h)]
  iintro H
  isplitl [H]; · iexact H
  iapply (show (iprop(emp) : sProp 𝕄) ⊢ payOf oV wV (nb (pdir (.leave k)) c) (pduty (.leave k)) (psem (.leave k)) from .rfl)
  iempintro

theorem tell_leave_if (k : Fin 5) :
    (if has k c = true then reached ER (cell (nb k c) lvL) 0 else iprop(emp)) ⊢ tell oV wV c (.leave k) := by
  cases h : has k c
  · rw [if_neg (by decide)]
    unfold tell
    rw [if_neg (by show ¬ has k c = true; rw [h]; decide)]
  · rw [if_pos rfl]; exact tell_leave oV wV c k h

/-! ## The parts -/

theorem ret {α : Type} (a : α) (Q : α → sProp 𝕄) : Q a ⊢ W c (pure a) Q := by
  unfold W
  rw [wp_pure]
  iintro H
  imodintro
  iexact H

theorem part7 (Q) :
    iprop(∀ v2 v8 v19 v30 v31 v33, Q ⟨c, v2, wordY c, v8, v19, v30, v31, v33, flagL c, 2#32⟩) ⊢ W c (at7 (F := F)) Q := by
  unfold at7
  rw [k0_part7_eq_skeleton]
  unfold k0_part7_skel
  refine BIBase.Entails.trans ?_ (seq c _ _ _)
  unfold W Prog.lift
  rw [wp_deviceId]
  iintro Hk
  iapply (ret c _ _)
  iapply (ret c _ _)
  iapply Hk

/-- The credit of the units of one meeting. -/
def allCome (s : Sem sig) : sProp 𝕄 :=
  iprop((mayCome c s true ∗ mayCome c s true ∗ mayCome c s true) ∗ mayCome c s (has 4 c) ∗ mayCome c s (has 3 c))

theorem part8 (v2 v8 v19 v30 : BitVec 32) (Q) :
    iprop(Env oV wV κ ∗ Dues c order ∗ (give c 0 ∗ give c 1 ∗ give c 2 ∗ give c 3 ∗ give c 4) ∗ allCome c 0
        ∗ atPos ER (cell c barL) 0 ∅ 0
        ∗ (Dues c (order.drop 5) ∗ gains c ∗ semVal (cell c barL) 0 -∗ Q ⟨flagR c, 1#32⟩))
      ⊢ W c (at8 (F := F) c v2 (wordY c) v8 v19 v30 (flagL c) 2#32) Q := by
  unfold at8
  rw [k0_part8_eq_skeleton]
  unfold k0_part8_skel allCome
  iintro ⟨#HE, HD, ⟨G0, G1, G2, G3, G4⟩, ⟨C012, C3, C4⟩, Hat, Hk⟩
  iapply (seq c)
  iapply (signal oV wV κ c (.bar 0) (order.drop 1) 0 rfl rfl _ (dev1_eq c) _ rfl)
  isplitr; · iexact HE
  isplitl [HD]; · iexact HD
  isplitl [G0]; · iapply (tell_bar oV wV κ c 0); isplitr; · iexact HE
                  iexact G0
  iintro HD
  iapply (seq c)
  iapply (signal oV wV κ c (.bar 1) (order.drop 2) 0 rfl rfl _ (dev2_eq c) _ rfl)
  isplitr; · iexact HE
  isplitl [HD]; · iexact HD
  isplitl [G1]; · iapply (tell_bar oV wV κ c 1); isplitr; · iexact HE
                  iexact G1
  iintro HD
  iapply (seq c)
  iapply (signal oV wV κ c (.bar 2) (order.drop 3) 0 rfl rfl _ (dev3_eq c) _ rfl)
  isplitr; · iexact HE
  isplitl [HD]; · iexact HD
  isplitl [G2]; · iapply (tell_bar oV wV κ c 2); isplitr; · iexact HE
                  iexact G2
  iintro HD
  iapply (signal_if oV wV κ c (.bar 3) (order.drop 4) (cond1_iff c) 0 rfl _ (dev4_eq c) _ rfl)
  isplitr; · iexact HE
  isplitl [HD]; · iexact HD
  isplitl [G3]; · iapply (tell_bar oV wV κ c 3); isplitr; · iexact HE
                  iexact G3
  iintro HD
  iapply (signal_if oV wV κ c (.bar 4) (order.drop 5) (cond2_iff c) 0 rfl _ (dev5_eq c) _ rfl)
  isplitr; · iexact HE
  isplitl [HD]; · iexact HD
  isplitl [G4]; · iapply (tell_bar oV wV κ c 4); isplitr; · iexact HE
                  iexact G4
  iintro HD
  iapply (seq c)
  iapply (wait_first oV wV κ c 0 (order.drop 5) (by decide) _ rfl)
  isplitr; · iexact HE
  isplitl [HD]; · iexact HD
  isplitl [C012]; · iexact C012
  isplitl [Hat]; · iexact Hat
  iintro ⟨HD, Hu⟩
  iapply (wait_if oV wV κ c 0 3 (has 3 c) (flagL_iff c) (by rw [units_in]; omega) (order.drop 5) (by decide) _ rfl)
  isplitr; · iexact HE
  isplitl [HD]; · iexact HD
  isplitl [C4]; · iexact C4
  isplitl [Hu]; · iexact Hu
  iintro ⟨HD, Hu⟩
  iapply (wait_if oV wV κ c 0 _ (has 4 c) (flagR_iff c) (by rw [units_in]) (order.drop 5) (by decide) _ rfl)
  isplitr; · iexact HE
  isplitl [HD]; · iexact HD
  isplitl [C3]; · iexact C3
  isplitl [Hu]; · iexact Hu
  iintro ⟨HD, Hu⟩
  ihave Hu := (units_all oV wV c 0) $$ Hu
  icases Hu with ⟨Hat, Hg⟩
  ihave Hg := (bar_got oV wV c) $$ Hg
  iapply (fupd_wp _ _ _ _ _)
  imod (shut_reg oV wV κ c 0) $$ [Hat] with Hv
  · isplitr; · iexact HE
    iexact Hat
  imodintro
  iapply (ret c _ _)
  iapply Hk
  isplitl [HD]; · iexact HD
  isplitl [Hg]; · iexact Hg
  iexact Hv

/-- The last part and the statement after it. -/
theorem part19 (v2 v5 v8 v19 v30 v31 : BitVec 32) (w : BitVec 1) (Q : PUnit → sProp 𝕄) :
    iprop(Env oV wV κ ∗ Dues c (order.drop 21) ∗ flyY oV wV c 5 ∗ openY c 5 ∗ leaveOk c ∗ allCome c 1
        ∗ atPos ER (cell c lvL) 0 ∅ 0
        ∗ (Dues c [] ∗ doneY oV wV c 5 ∗ semVal (cell c lvL) 0 -∗ Q ⟨⟩))
      ⊢ W c (at19 (F := F) c v2 v5 v8 v19 v30 v31 (flagL c) (flagR c) w >>= fun r =>
          if h : r = 1#1 then semWaitWord cc0_scoped0.sem 1#32 >>= fun _ => pure ⟨⟩ else pure ⟨⟩) Q := by
  unfold at19
  rw [k0_part19_eq_skeleton]
  unfold k0_part19_skel allCome leaveOk
  iintro ⟨#HE, HD, Hf5, Hs5, ⟨R0, R1, R2, R3, R4⟩, ⟨C012, C3, C4⟩, Hat, Hk⟩
  iapply (seq c)
  iapply (y_wait oV wV κ c 5 (order.drop 21) (cond28_iff c) _ _ _ rfl)
  isplitr; · iexact HE
  isplitl [HD]; · iexact HD
  isplitl [Hf5]; · iexact Hf5
  isplitl [Hs5]; · iexact Hs5
  iintro ⟨HD, Hd5⟩
  iapply (seq c)
  iapply (signal oV wV κ c (.leave 0) (order.drop 22) 1 rfl rfl _ (dev22_eq c) _ rfl)
  isplitr; · iexact HE
  isplitl [HD]; · iexact HD
  isplitl [R0]; · iapply (tell_leave oV wV c 0 rfl); iexact R0
  iintro HD
  iapply (seq c)
  iapply (signal oV wV κ c (.leave 1) (order.drop 23) 1 rfl rfl _ (dev23_eq c) _ rfl)
  isplitr; · iexact HE
  isplitl [HD]; · iexact HD
  isplitl [R1]; · iapply (tell_leave oV wV c 1 rfl); iexact R1
  iintro HD
  iapply (seq c)
  iapply (signal oV wV κ c (.leave 2) (order.drop 24) 1 rfl rfl _ (dev24_eq c) _ rfl)
  isplitr; · iexact HE
  isplitl [HD]; · iexact HD
  isplitl [R2]; · iapply (tell_leave oV wV c 2 rfl); iexact R2
  iintro HD
  iapply (signal_if oV wV κ c (.leave 3) (order.drop 25) (cond29_iff c) 1 rfl _ (dev25_eq c) _ rfl)
  isplitr; · iexact HE
  isplitl [HD]; · iexact HD
  isplitl [R3]; · iapply (tell_leave_if oV wV c 3); iexact R3
  iintro HD
  iapply (signal_if oV wV κ c (.leave 4) [] (cond30_iff c) 1 rfl _ (dev26_eq c) _ rfl)
  isplitr; · iexact HE
  isplitl [HD]; · iexact HD
  isplitl [R4]; · iapply (tell_leave_if oV wV c 4); iexact R4
  iintro HD
  iapply (seq c)
  iapply (wait_first oV wV κ c 1 [] (by decide) _ rfl)
  isplitr; · iexact HE
  isplitl [HD]; · iexact HD
  isplitl [C012]; · iexact C012
  isplitl [Hat]; · iexact Hat
  iintro ⟨HD, Hu⟩
  iapply (wait_if oV wV κ c 1 3 (has 3 c) (flagL_iff c) (by rw [units_in]; omega) [] (by decide) _ rfl)
  isplitr; · iexact HE
  isplitl [HD]; · iexact HD
  isplitl [C4]; · iexact C4
  isplitl [Hu]; · iexact Hu
  iintro ⟨HD, Hu⟩
  iapply (ret c _ _)
  iapply (wait_if oV wV κ c 1 _ (has 4 c) (flagR_iff c) (by rw [units_in]) [] (by decide) _ rfl)
  isplitr; · iexact HE
  isplitl [HD]; · iexact HD
  isplitl [C3]; · iexact C3
  isplitl [Hu]; · iexact Hu
  iintro ⟨HD, Hu⟩
  ihave Hu := (units_all oV wV c 1) $$ Hu
  icases Hu with ⟨Hat, -⟩
  iapply (fupd_wp _ _ _ _ _)
  imod (shut_reg oV wV κ c 1) $$ [Hat] with Hv
  · isplitr; · iexact HE
    iexact Hat
  imodintro
  iapply (ret c _ _)
  iapply Hk
  isplitl [HD]; · iexact HD
  isplitl [Hd5]; · iexact Hd5
  iexact Hv

end Values

end Cert.KernelIdeal.Talk

end
-- ==== Proof.Body.lean ====
/-
  The whole kernel body on one device.
-/
module

public import proofs.«01_k».proof.Proof.Meet

@[expose] public section

set_option maxRecDepth 65536

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Values

variable (oV : Dev nD → Vec F S4x128x1024 .bf16) (wV : Dev nD → Vec F S1024x4096 .bf16)
variable (κ : GSem nD τ sig → ℕ) (c : Dev nD)

/-! ## The device's own semaphores by their use -/

def three (Φ : Fin 3 → sProp 𝕄) : sProp 𝕄 := iprop(Φ 0 ∗ Φ 1 ∗ Φ 2)
def six (Φ : Fin 6 → sProp 𝕄) : sProp 𝕄 := iprop(Φ 0 ∗ Φ 1 ∗ Φ 2 ∗ Φ 3 ∗ Φ 4 ∗ Φ 5)

theorem three_eq (Φ : Fin 3 → sProp 𝕄) : bigSep Finset.univ Φ = three Φ :=
  bigSep_univ_eq_bigSepL [(0 : Fin 3), 1, 2] (by decide) (by decide) Φ
theorem six_eq (Φ : Fin 6 → sProp 𝕄) : bigSep Finset.univ Φ = six Φ :=
  bigSep_univ_eq_bigSepL [(0 : Fin 6), 1, 2, 3, 4, 5] (by decide) (by decide) Φ
theorem seven_eq (Φ : Fin 7 → sProp 𝕄) : bigSep Finset.univ Φ = seven Φ :=
  bigSep_univ_eq_bigSepL [(0 : Fin 7), 1, 2, 3, 4, 5, 6] (by decide) (by decide) Φ

/-- The counting semaphores of copies by their use: landings over the ring, the two ends along the line, the two ends
    with the partner. -/
abbrev Use : Type := Fin 3 ⊕ (Fin 6 ⊕ Fin 6) ⊕ (Fin 7 ⊕ Fin 7)
def useSem : Use → DmaSem sig
  | .inl s => rrS s
  | .inr (.inl (.inl j)) => ysS j
  | .inr (.inl (.inr j)) => yrS j
  | .inr (.inr (.inl i)) => xsS i
  | .inr (.inr (.inr i)) => xrS i
def useNo (u : Fin 2 ⊕ Use) : Fin 31 :=
  match u with
  | .inl k => ⟨k.val, by omega⟩
  | .inr u => ⟨(useSem u).val - 2, by have : (useSem u).val < 33 := (useSem u).isLt; omega⟩

theorem useNo_bij : Function.Bijective useNo := by decide +kernel
theorem useNo_sem : ∀ u : Use, osem (useNo (.inr u)) = .dma (useSem u) := by decide +kernel

/-- Something of every own semaphore, by use. -/
theorem by_use (Φ : SemLoc sig → sProp 𝕄) :
    (bigSep Finset.univ fun k : Fin 31 => Φ (osem k))
      = iprop((Φ lvL ∗ Φ (.dma ringS)) ∗ three (fun s => Φ (.dma (rrS s)))
          ∗ (six (fun j => Φ (.dma (ysS j))) ∗ six (fun j => Φ (.dma (yrS j))))
          ∗ seven (fun i => Φ (.dma (xsS i))) ∗ seven (fun i => Φ (.dma (xrS i)))) := by
  rw [BI.bigSep_univ_equiv (Equiv.ofBijective useNo useNo_bij), BI.bigSep_univ_sum]
  rw [show (fun u : Use => Φ (osem (Equiv.ofBijective useNo useNo_bij (.inr u)))) = fun u => Φ (.dma (useSem u)) from
    funext fun u => congrArg Φ (useNo_sem u), BI.bigSep_univ_sum, BI.bigSep_univ_sum, BI.bigSep_univ_sum, BI.bigSep_univ_sum,
    bigSep_univ_eq_bigSepL [(0 : Fin 2), 1] (by decide) (by decide)]
  rw [← three_eq, ← six_eq, ← six_eq, ← seven_eq, ← seven_eq]
  rfl

/-! ## The memory put together again -/

theorem com_join : iprop(placeAny c 0 ∗ placeAny c 1 ∗ placeAny c 2) ⊢ (iprop(∃ g : PlaceV F, comL c ↦{fullShare} g) : sProp 𝕄) := by
  iintro ⟨⟨%f, Hf⟩, ⟨%g, Hg⟩, %h, Hh⟩
  ihave H := (pointsTo_biUnion_join (ℓ := comL c) (q := fullShare) (Finset.univ : Finset (Fin 3)) place (fun s => if s = 0 then f else if s = 1 then g else h) f
    (fun s _ s' _ hne => place_disjoint hne)) $$ [Hf Hg Hh]
  · rw [three_eq]
    unfold three
    isplitl [Hf]; · iexact Hf
    isplitl [Hg]; · iexact Hg
    iexact Hh
  icases H with ⟨%k, -, H⟩
  iexists k
  rw [← places_cover]
  iexact H

theorem piece_full (i : Fin 7) : iprop(piece oV wV c i fullShare.left ∗ piece oV wV c i fullShare.right) ⊢ blkPt c true (fin oV wV c) i :=
  (piece_share oV wV c i fullShare).2

theorem opiece_full (i : Fin 7) : opiece oV wV c i ⊢ blkPt c false (fin oV wV c) i := .rfl

/-- All the shares of all the blocks. -/
theorem out_join :
    iprop(seven (fun i => iprop(piece oV wV c i fullShare.left ∗ opiece oV wV c i)) ∗ six (fun j => piece oV wV c (src j) (shY j))
        ∗ gotY oV wV c 2 ∗ gotY oV wV c 5) ⊢ (outL c ↦{fullShare} fin oV wV c : sProp 𝕄) := by
  rw [out_split]
  unfold seven six gotY
  iintro ⟨⟨⟨A0, B0⟩, ⟨A1, B1⟩, ⟨A2, B2⟩, ⟨A3, B3⟩, ⟨A4, B4⟩, ⟨A5, B5⟩, A6, B6⟩, ⟨Y0, Y1, Y2, Y3, Y4, Y5⟩, G2, G5⟩
  ihave C0 := (piece_share oV wV c 0 fullShare.right).2 $$ [Y0 Y3]
  · isplitl [Y0]; · iexact Y0
    iexact Y3
  isplitr [B0 B1 B2 B3 B4 B5 B6]
  · isplitl [A0 C0]; · iapply (piece_full oV wV c 0); isplitl [A0]; · iexact A0
                       iexact C0
    isplitl [A1 Y1]; · iapply (piece_full oV wV c 1); isplitl [A1]; · iexact A1
                       iexact Y1
    isplitl [A2 Y2]; · iapply (piece_full oV wV c 2); isplitl [A2]; · iexact A2
                       iexact Y2
    isplitl [A3 G2]; · iapply (piece_full oV wV c 3); isplitl [A3]; · iexact A3
                       iexact G2
    isplitl [A4 Y4]; · iapply (piece_full oV wV c 4); isplitl [A4]; · iexact A4
                       iexact Y4
    isplitl [A5 Y5]; · iapply (piece_full oV wV c 5); isplitl [A5]; · iexact A5
                       iexact Y5
    iapply (piece_full oV wV c 6); isplitl [A6]; · iexact A6
    iexact G5
  isplitl [B0]; · iapply (opiece_full oV wV c 0); iexact B0
  isplitl [B1]; · iapply (opiece_full oV wV c 1); iexact B1
  isplitl [B2]; · iapply (opiece_full oV wV c 2); iexact B2
  isplitl [B3]; · iapply (opiece_full oV wV c 3); iexact B3
  isplitl [B4]; · iapply (opiece_full oV wV c 4); iexact B4
  isplitl [B5]; · iapply (opiece_full oV wV c 5); iexact B5
  iapply (opiece_full oV wV c 6); iexact B6

/-! ## Beginning and end -/

def memIn : sProp 𝕄 := iprop(oPt oV c ∗ wPt wV c ∗ (∃ f, tmpPt c f) ∗ (∃ f : BlkV F, outL c ↦{fullShare} f) ∗ ∃ g : PlaceV F, comL c ↦{fullShare} g)
def memOut : sProp 𝕄 := iprop(oPt oV c ∗ wPt wV c ∗ (∃ f, tmpPt c f) ∗ (outL c ↦{fullShare} fin oV wV c) ∗ ∃ g : PlaceV F, comL c ↦{fullShare} g)

/-- The permits of the device's own copies, at their sending ends. -/
def ownToks : sProp 𝕄 :=
  iprop(three (fun s => ringTok c s) ∗ six (fun j => dutyTok ER (cell c (.dma (ysS j))) 0 0) ∗ seven (fun i => dutyTok ER (cell c (.dma (xsS i))) 0 0))

def Start : sProp 𝕄 :=
  iprop(memIn oV wV c ∗ Dues c order ∗ credsL c order ∗ atPos ER (cell c barL) 0 ∅ 0
    ∗ (bigSep Finset.univ fun k : Fin 31 => atPos ER (cell c (osem k)) 0 ∅ 0) ∗ ownToks c)

def Finish : sProp 𝕄 :=
  iprop(memOut oV wV c ∗ (∃ V, owes (c : Thread nD τ) 0 V) ∗ semVal (cell c barL) 0
    ∗ bigSep Finset.univ fun k : Fin 31 => semVal (cell c (osem k)) 0)

abbrev theBody := cc0_body (F := F) oM (Memref.isWhole_whole _) wM (Memref.isWhole_whole _) outM (Memref.isWhole_whole _) comM (Memref.isWhole_whole _) tmpM (Memref.isWhole_whole _)
    cc0_scratch2 cc0_scratch3 cc0_scratch4 cc0_scratch5 cc0_scratch6 cc0_scratch7 cc0_scratch8 cc0_scratch9 cc0_scratch10 cc0_scratch11 cc0_scratch12
    cc0_scratch13 cc0_scoped0

theorem shut_ring (s : Fin 3) : iprop(Env oV wV κ ∗ atPos ER (cell c (.dma (rrS s))) 1 ∅ 0) ⊢ (|={Set.univ}=> semVal (cell c (.dma (rrS s))) 0 : sProp 𝕄) :=
  shut oV wV κ c (rrS s) (ge3_rr s) 1 (fun r hr => by rw [role_rr]; exact decide_eq_false (by omega))

theorem shut_sent : iprop(Env oV wV κ ∗ atPos ER (cell c (.dma ringS)) 3 ∅ 0) ⊢ (|={Set.univ}=> semVal (cell c (.dma ringS)) 0 : sProp 𝕄) :=
  shut oV wV κ c ringS (by decide) 3 (fun r hr => by rw [role_ring]; exact decide_eq_false (by omega))

theorem permit_of (s : DmaSem sig) (h : 3 ≤ s.val) : iprop(Stand c ∗ dutyTok ER (cell c (.dma s)) 0 0) ⊢ (permit c s : sProp 𝕄) := by
  unfold permit
  iintro ⟨#HS, H⟩
  isplitl [H]; · iexact H
  iapply (stand_dma c s h); iexact HS

theorem outY_of (j : Fin 6) : iprop(Stand c ∗ dutyTok ER (cell c (.dma (ysS j))) 0 0 ∗ yIn j c) ⊢ (outY c j : sProp 𝕄) := by
  unfold outY
  iintro ⟨#HS, H, Hy⟩
  isplitl [H]
  · iapply (permit_of c (ysS j) (ge3_ys j)); isplitr; · iexact HS
    iexact H
  iexact Hy

theorem passY_of (j : Fin 6) :
    iprop(Stand c ∗ cred (incoming c (.y j)) ∗ atPos ER (cell c (.dma (yrS j))) 0 ∅ 0 ∗ dutyTok ER (cell c (.dma (xsS (lands j)))) 0 0 ∗ xIn (lands j) c)
      ⊢ (passY c j : sProp 𝕄) := by
  unfold passY
  iintro ⟨#HS, Hc, Ha, H, Hx⟩
  isplitl [Hc]; · iexact Hc
  isplitl [Ha]; · iexact Ha
  isplitl [H]
  · iapply (permit_of c (xsS (lands j)) (ge3_xs _)); isplitr; · iexact HS
    iexact H
  iexact Hx

theorem passed (j : Fin 6) : (passedY c j : sProp 𝕄) ⊢ iprop(flyX c (lands j) ∗ semVal (cell c (.dma (yrS j))) 0) := .rfl

theorem openY_of (j : Fin 6) : (atPos ER (cell c (.dma (ysS j))) 0 ∅ 0 : sProp 𝕄) ⊢ openY c j := .rfl

theorem openX_of (i : Fin 7) :
    iprop(atPos ER (cell c (.dma (xsS i))) 0 ∅ 0 ∗ cred (incoming c (.x i)) ∗ atPos ER (cell c (.dma (xrS i))) 0 ∅ 0) ⊢ (openX c i : sProp 𝕄) := .rfl

theorem own_shares : rowsPt c (own c 0) fullShare (fin oV wV c)
    ⊢ iprop(piece oV wV c 0 fullShare.left ∗ piece oV wV c (src 0) (shY 0) ∗ piece oV wV c (src 3) (shY 3)) := by
  iintro H
  ihave H := (show rowsPt c (own c 0) fullShare (fin oV wV c) ⊢ piece oV wV c 0 fullShare from
    Entails.of_eq (piece_on oV wV c 0 fullShare rfl).symm) $$ H
  ihave H := (piece_share oV wV c 0 fullShare).1 $$ H
  icases H with ⟨A, B⟩
  isplitl [A]; · iexact A
  ihave B := (piece_share oV wV c 0 fullShare.right).1 $$ B
  iexact B

theorem come_bar (k : Fin 5) (b : Bool) (h : has k (nb (opp k) c) = b) : (cred (incoming c (.bar k)) : sProp 𝕄) ⊢ mayCome c 0 b := by
  subst h; exact .rfl
theorem come_leave (k : Fin 5) (b : Bool) (h : has k (nb (opp k) c) = b) : (cred (incoming c (.leave k)) : sProp 𝕄) ⊢ mayCome c 1 b := by
  subst h; exact .rfl

/-- The credit of one device, sorted. -/
theorem credits : (credsL c order : sProp 𝕄)
    ⊢ iprop(allCome c 0 ∗ allCome c 1 ∗ (cred (incoming c (.ring 0)) ∗ cred (incoming c (.ring 1)) ∗ cred (incoming c (.ring 2)))
        ∗ (cred (incoming c (.x 0)) ∗ cred (incoming c (.x 1)) ∗ cred (incoming c (.x 2)) ∗ cred (incoming c (.x 3)) ∗ cred (incoming c (.x 4))
          ∗ cred (incoming c (.x 5)) ∗ cred (incoming c (.x 6)))
        ∗ (cred (incoming c (.y 0)) ∗ cred (incoming c (.y 1)) ∗ cred (incoming c (.y 2)) ∗ cred (incoming c (.y 3)) ∗ cred (incoming c (.y 4))
          ∗ cred (incoming c (.y 5)))) := by
  unfold order credsL credsL credsL credsL credsL credsL credsL credsL credsL credsL credsL credsL credsL credsL credsL credsL credsL credsL
    credsL credsL credsL credsL credsL credsL credsL credsL credsL allCome
  iintro ⟨B0, B1, B2, B3, B4, R0, R1, R2, X0, Y0, Y3, X1, X4, Y1, Y4, X2, X5, Y2, Y5, X3, X6, L0, L1, L2, L3, L4, -⟩
  isplitl [B0 B1 B2 B3 B4]
  · isplitl [B0 B1 B2]
    · isplitl [B0]; · iapply (come_bar c 0 true rfl); iexact B0
      isplitl [B1]; · iapply (come_bar c 1 true rfl); iexact B1
      iapply (come_bar c 2 true rfl); iexact B2
    isplitl [B3]; · iapply (come_bar c 3 _ (has_nb 4 c)); iexact B3
    iapply (come_bar c 4 _ (has_nb 3 c)); iexact B4
  isplitl [L0 L1 L2 L3 L4]
  · isplitl [L0 L1 L2]
    · isplitl [L0]; · iapply (come_leave c 0 true rfl); iexact L0
      isplitl [L1]; · iapply (come_leave c 1 true rfl); iexact L1
      iapply (come_leave c 2 true rfl); iexact L2
    isplitl [L3]; · iapply (come_leave c 3 _ (has_nb 4 c)); iexact L3
    iapply (come_leave c 4 _ (has_nb 3 c)); iexact L4
  isplitl [R0 R1 R2]
  · isplitl [R0]; · iexact R0
    isplitl [R1]; · iexact R1
    iexact R2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  isplitl [Y0]; · iexact Y0
  isplitl [Y1]; · iexact Y1
  isplitl [Y2]; · iexact Y2
  isplitl [Y3]; · iexact Y3
  isplitl [Y4]; · iexact Y4
  iexact Y5

theorem done_x : (bigSep Finset.univ (doneX oV wV c) : sProp 𝕄)
    = iprop(bigSep Finset.univ (fun i => iprop(piece oV wV c i fullShare.left ∗ opiece oV wV c i))
        ∗ bigSep Finset.univ (fun i => semVal (cell c (.dma (xsS i))) 0) ∗ bigSep Finset.univ (fun i => semVal (cell c (.dma (xrS i))) 0)) :=
  (bigSep_sep Finset.univ _ _).trans (congrArg _ (bigSep_sep Finset.univ _ _))
theorem done_y : (bigSep Finset.univ (doneY oV wV c) : sProp 𝕄)
    = iprop(bigSep Finset.univ (fun j => piece oV wV c (src j) (shY j)) ∗ bigSep Finset.univ (fun j => semVal (cell c (.dma (ysS j))) 0)) :=
  bigSep_sep Finset.univ _ _

/-- What is left when all is done, put together. -/
theorem finish :
    iprop((oPt oV c ∗ wPt wV c ∗ (∃ f, tmpPt c f) ∗ ∃ g : PlaceV F, comL c ↦{fullShare} g) ∗ Dues c [] ∗ semVal (cell c barL) 0
        ∗ (semVal (cell c lvL) 0 ∗ semVal (cell c (.dma ringS)) 0) ∗ three (fun s => semVal (cell c (.dma (rrS s))) 0)
        ∗ six (fun j => semVal (cell c (.dma (yrS j))) 0) ∗ seven (doneX oV wV c) ∗ six (doneY oV wV c)
        ∗ gotY oV wV c 2 ∗ gotY oV wV c 5) ⊢ Finish oV wV c := by
  unfold Finish memOut Dues
  rw [by_use (fun s => semVal (cell c s) 0), ← seven_eq (doneX oV wV c), ← six_eq (doneY oV wV c)]
  rw [done_x, done_y, six_eq, six_eq, seven_eq, seven_eq, seven_eq]
  iintro ⟨⟨Ho, Hw, Ht, Hc⟩, ⟨HD, -⟩, Vb, V0, Vr, Vyr, ⟨Hx, Vxs, Vxr⟩, ⟨Hy, Vys⟩, G2, G5⟩
  isplitl [Ho Hw Ht Hc Hx Hy G2 G5]
  · isplitl [Ho]; · iexact Ho
    isplitl [Hw]; · iexact Hw
    isplitl [Ht]; · iexact Ht
    isplitr [Hc]
    · iapply (out_join oV wV c)
      isplitl [Hx]; · iexact Hx
      isplitl [Hy]; · iexact Hy
      isplitl [G2]; · iexact G2
      iexact G5
    iexact Hc
  isplitl [HD]; · iexact HD
  isplitl [Vb]; · iexact Vb
  isplitl [V0]; · iexact V0
  isplitl [Vr]; · iexact Vr
  isplitl [Vys Vyr]
  · isplitl [Vys]; · iexact Vys
    iexact Vyr
  isplitl [Vxs]; · iexact Vxs
  iexact Vxr

/-- One device's whole part in the exchange. -/
theorem body (Q : PUnit → sProp 𝕄) :
    iprop(Env oV wV κ ∗ Stand c ∗ Start oV wV c ∗ (Finish oV wV c -∗ Q ⟨⟩)) ⊢ W c (theBody (F := F)) Q := by
  unfold theBody
  rw [cc0_body_eq_skeleton]
  unfold cc0_body_skel Start
  rw [by_use (fun s => atPos ER (cell c s) 0 ∅ 0)]
  unfold memIn ownToks three six seven
  iintro ⟨#HE, #HS, ⟨⟨Ho, Hw, Ht, ⟨%fo, Hout⟩, %fg, Hcom⟩, HD, HC, Hbar, ⟨⟨Hlv, Hrs⟩, ⟨P0, P1, P2⟩, ⟨⟨Ys0, Ys1, Ys2, Ys3, Ys4, Ys5⟩, Yr0, Yr1, Yr2, Yr3, Yr4, Yr5⟩,
    ⟨Xs0, Xs1, Xs2, Xs3, Xs4, Xs5, Xs6⟩, Xr0, Xr1, Xr2, Xr3, Xr4, Xr5, Xr6⟩, ⟨T0, T1, T2⟩, ⟨Ty0, Ty1, Ty2, Ty3, Ty4, Ty5⟩, Tx0, Tx1, Tx2, Tx3, Tx4, Tx5, Tx6⟩, Hk⟩
  ihave HC := (credits c) $$ HC
  icases HC with ⟨HC0, HC1, ⟨CR0, CR1, CR2⟩, ⟨CX0, CX1, CX2, CX3, CX4, CX5, CX6⟩, CY0, CY1, CY2, CY3, CY4, CY5⟩
  ihave Hg := (give_all c fo fg) $$ [Hout Hcom]
  · isplitr; · iexact HS
    isplitl [Hout]; · iexact Hout
    iexact Hcom
  icases Hg with ⟨Hg, Hrow⟩
  iapply (seq c)
  iapply (part7 c)
  iintro %v2 %v8 %v19 %v30 %v31 %v33
  iapply (seq c)
  iapply (part8 oV wV κ c)
  isplitr; · iexact HE
  isplitl [HD]; · iexact HD
  isplitl [Hg]; · iexact Hg
  isplitl [HC0]; · iexact HC0
  isplitl [Hbar]; · iexact Hbar
  iintro ⟨HD, Hg, Hbar⟩
  ihave Hg := (show gains c ⊢ iprop((rIn 0 c ∗ rIn 1 c ∗ rIn 2 c) ∗ (xIn 0 c ∗ xIn 1 c ∗ xIn 2 c ∗ xIn 3 c ∗ xIn 4 c ∗ xIn 5 c ∗ xIn 6 c)
    ∗ (yIn 0 c ∗ yIn 1 c ∗ yIn 2 c ∗ yIn 3 c ∗ yIn 4 c ∗ yIn 5 c) ∗ leaveOk c) from .rfl) $$ Hg
  icases Hg with ⟨⟨I0, I1, I2⟩, ⟨Ix0, Ix1, Ix2, Ix3, Ix4, Ix5, Ix6⟩, ⟨Iy0, Iy1, Iy2, Iy3, Iy4, Iy5⟩, Hleave⟩
  -- the ring
  ihave #Hs0 := (stand_dma c ringS (by decide)) $$ HS
  iapply (seq c)
  iapply (part9 oV wV κ c)
  isplitr; · iexact HE
  isplitl [HD]; · iexact HD
  isplitl [Ho]; · iexact Ho
  isplitl [Hw]; · iexact Hw
  isplitl [Hrow]; · iexact Hrow
  isplitl [T0]; · iexact T0
  isplitr; · iexact Hs0
  isplitl [I0]; · iexact I0
  iintro ⟨HD, Ho, Hw, Hc⟩ %r9
  iapply (seq c)
  iapply (part10 oV wV κ c)
  isplitr; · iexact HE
  isplitl [HD]; · iexact HD
  isplitl [Ho]; · iexact Ho
  isplitl [Hw]; · iexact Hw
  isplitl [Ht]; · iexact Ht
  isplitl [Hc]; · iexact Hc
  isplitl [Hrs]; · iexact Hrs
  iintro ⟨HD, Ho, Hw, Ht, Hrs, #Hs1, Hrow⟩
  iapply (seq c)
  iapply (part11 oV wV κ c)
  isplitr; · iexact HE
  isplitl [HD]; · iexact HD
  isplitl [CR0]; · iexact CR0
  isplitl [P0]; · iexact P0
  isplitl [Ht]; · iexact Ht
  isplitl [Hrow]; · iexact Hrow
  isplitl [T1]; · iexact T1
  isplitr; · iexact Hs1
  isplitl [I1]; · iexact I1
  iintro ⟨HD, P0, A0, Ht, Hc⟩
  iapply (seq c)
  iapply (part12 oV wV κ c)
  isplitr; · iexact HE
  isplitl [HD]; · iexact HD
  isplitl [Ho]; · iexact Ho
  isplitl [Hw]; · iexact Hw
  isplitl [Ht]; · iexact Ht
  isplitl [Hc]; · iexact Hc
  isplitl [Hrs]; · iexact Hrs
  isplitl [CR1]; · iexact CR1
  isplitl [P1]; · iexact P1
  iintro ⟨HD, Ho, Hw, Ht, Hrs, #Hs2, P1, A1, Hsum⟩
  iapply (seq c)
  iapply (part13 oV wV κ c)
  isplitr; · iexact HE
  isplitl [HD]; · iexact HD
  isplitl [Ho]; · iexact Ho
  isplitl [Hw]; · iexact Hw
  isplitl [Ht]; · iexact Ht
  isplitl [Hsum]; · iexact Hsum
  isplitl [T2]; · iexact T2
  isplitr; · iexact Hs2
  isplitl [I2]; · iexact I2
  iintro ⟨HD, Ho, Hw, Ht, Hc⟩
  iapply (seq c)
  iapply (part14 oV wV κ c)
  isplitr; · iexact HE
  isplitl [HD]; · iexact HD
  isplitl [Ht]; · iexact Ht
  isplitl [Hc]; · iexact Hc
  isplitl [Hrs]; · iexact Hrs
  isplitl [CR2]; · iexact CR2
  isplitl [P2]; · iexact P2
  iintro ⟨HD, Ht, Hrs, P2, A2, Hfin⟩ %r14
  iapply (fupd_wp _ _ _ _ _)
  imod (shut_sent oV wV κ c) $$ [Hrs] with Vrs
  · isplitr; · iexact HE
    iexact Hrs
  imod (shut_ring oV wV κ c 0) $$ [P0] with V0
  · isplitr; · iexact HE
    iexact P0
  imod (shut_ring oV wV κ c 1) $$ [P1] with V1
  · isplitr; · iexact HE
    iexact P1
  imod (shut_ring oV wV κ c 2) $$ [P2] with V2
  · isplitr; · iexact HE
    iexact P2
  imodintro
  ihave Hcom := (com_join c) $$ [A0 A1 A2]
  · isplitl [A0]; · iexact A0
    isplitl [A1]; · iexact A1
    iexact A2
  -- the block shared out among the copies that read it
  ihave Hfin := (own_shares oV wV c) $$ Hfin
  icases Hfin with ⟨S0, S1, S2⟩
  ihave Tx0 := (permit_of c (xsS 0) (ge3_xs 0)) $$ [Tx0]
  · isplitr; · iexact HS
    iexact Tx0
  ihave O0 := (outY_of c 0) $$ [Ty0 Iy0]
  · isplitr; · iexact HS
    isplitl [Ty0]; · iexact Ty0
    iexact Iy0
  ihave O1 := (outY_of c 1) $$ [Ty1 Iy1]
  · isplitr; · iexact HS
    isplitl [Ty1]; · iexact Ty1
    iexact Iy1
  ihave O2 := (outY_of c 2) $$ [Ty2 Iy2]
  · isplitr; · iexact HS
    isplitl [Ty2]; · iexact Ty2
    iexact Iy2
  ihave O3 := (outY_of c 3) $$ [Ty3 Iy3]
  · isplitr; · iexact HS
    isplitl [Ty3]; · iexact Ty3
    iexact Iy3
  ihave O4 := (outY_of c 4) $$ [Ty4 Iy4]
  · isplitr; · iexact HS
    isplitl [Ty4]; · iexact Ty4
    iexact Iy4
  ihave O5 := (outY_of c 5) $$ [Ty5 Iy5]
  · isplitr; · iexact HS
    isplitl [Ty5]; · iexact Ty5
    iexact Iy5
  ihave G0 := (passY_of c 0) $$ [CY0 Yr0 Tx1 Ix1]
  · isplitr; · iexact HS
    isplitl [CY0]; · iexact CY0
    isplitl [Yr0]; · iexact Yr0
    isplitl [Tx1]; · iexact Tx1
    iexact Ix1
  ihave G1 := (passY_of c 1) $$ [CY1 Yr1 Tx2 Ix2]
  · isplitr; · iexact HS
    isplitl [CY1]; · iexact CY1
    isplitl [Yr1]; · iexact Yr1
    isplitl [Tx2]; · iexact Tx2
    iexact Ix2
  ihave G2 := (passY_of c 2) $$ [CY2 Yr2 Tx3 Ix3]
  · isplitr; · iexact HS
    isplitl [CY2]; · iexact CY2
    isplitl [Yr2]; · iexact Yr2
    isplitl [Tx3]; · iexact Tx3
    iexact Ix3
  ihave G3 := (passY_of c 3) $$ [CY3 Yr3 Tx4 Ix4]
  · isplitr; · iexact HS
    isplitl [CY3]; · iexact CY3
    isplitl [Yr3]; · iexact Yr3
    isplitl [Tx4]; · iexact Tx4
    iexact Ix4
  ihave G4 := (passY_of c 4) $$ [CY4 Yr4 Tx5 Ix5]
  · isplitr; · iexact HS
    isplitl [CY4]; · iexact CY4
    isplitl [Yr4]; · iexact Yr4
    isplitl [Tx5]; · iexact Tx5
    iexact Ix5
  ihave G5 := (passY_of c 5) $$ [CY5 Yr5 Tx6 Ix6]
  · isplitr; · iexact HS
    isplitl [CY5]; · iexact CY5
    isplitl [Yr5]; · iexact Yr5
    isplitl [Tx6]; · iexact Tx6
    iexact Ix6
  ihave Z0 := (openX_of c 0) $$ [Xs0 CX0 Xr0]
  · isplitl [Xs0]; · iexact Xs0
    isplitl [CX0]; · iexact CX0
    iexact Xr0
  ihave Z1 := (openX_of c 1) $$ [Xs1 CX1 Xr1]
  · isplitl [Xs1]; · iexact Xs1
    isplitl [CX1]; · iexact CX1
    iexact Xr1
  ihave Z2 := (openX_of c 2) $$ [Xs2 CX2 Xr2]
  · isplitl [Xs2]; · iexact Xs2
    isplitl [CX2]; · iexact CX2
    iexact Xr2
  ihave Z3 := (openX_of c 3) $$ [Xs3 CX3 Xr3]
  · isplitl [Xs3]; · iexact Xs3
    isplitl [CX3]; · iexact CX3
    iexact Xr3
  ihave Z4 := (openX_of c 4) $$ [Xs4 CX4 Xr4]
  · isplitl [Xs4]; · iexact Xs4
    isplitl [CX4]; · iexact CX4
    iexact Xr4
  ihave Z5 := (openX_of c 5) $$ [Xs5 CX5 Xr5]
  · isplitl [Xs5]; · iexact Xs5
    isplitl [CX5]; · iexact CX5
    iexact Xr5
  ihave Z6 := (openX_of c 6) $$ [Xs6 CX6 Xr6]
  · isplitl [Xs6]; · iexact Xs6
    isplitl [CX6]; · iexact CX6
    iexact Xr6
  obtain ⟨v244, v251, v252⟩ := r14
  iapply (seq c)
  iapply (part15 oV wV κ c)
  isplitr; · iexact HE
  isplitl [HD]; · iexact HD
  isplitl [Tx0]; · iexact Tx0
  isplitl [S0]; · iexact S0
  isplitl [Ix0]; · iexact Ix0
  isplitl [O0]; · iexact O0
  isplitl [S1]; · iexact S1
  iintro ⟨HD, Fx0, Fy0⟩ %r15
  iapply (seq c)
  iapply (part16 oV wV κ c)
  isplitr; · iexact HE
  isplitl [HD]; · iexact HD
  isplitl [S2]; · iexact S2
  isplitl [O3]; · iexact O3
  isplitl [G0]; · iexact G0
  isplitl [G3]; · iexact G3
  isplitl [O1]; · iexact O1
  isplitl [O4]; · iexact O4
  isplitl [G1]; · iexact G1
  isplitl [G4]; · iexact G4
  isplitl [O2]; · iexact O2
  iintro ⟨HD, Fy3, W0, W3, Fy1, Fy4, W1, W4, Fy2, S5⟩
  ihave W0 := (passed c 0) $$ W0
  icases W0 with ⟨Fx1, W0⟩
  ihave W3 := (passed c 3) $$ W3
  icases W3 with ⟨Fx4, W3⟩
  ihave W1 := (passed c 1) $$ W1
  icases W1 with ⟨Fx2, W1⟩
  ihave W4 := (passed c 4) $$ W4
  icases W4 with ⟨Fx5, W4⟩
  iapply (seq c)
  iapply (part17 oV wV κ c)
  isplitr; · iexact HE
  isplitl [HD]; · iexact HD
  isplitl [S5]; · iexact S5
  isplitl [O5]; · iexact O5
  isplitl [G2]; · iexact G2
  isplitl [G5]; · iexact G5
  isplitl [Fx0]; · iexact Fx0
  isplitl [Z0]; · iexact Z0
  isplitl [Fx1]; · iexact Fx1
  isplitl [Z1]; · iexact Z1
  isplitl [Fx4]; · iexact Fx4
  isplitl [Z4]; · iexact Z4
  isplitl [Fx2]; · iexact Fx2
  isplitl [Z2]; · iexact Z2
  iintro ⟨HD, Fy5, ⟨W2, K2⟩, ⟨W5, K5⟩, D0, D1, D4, D2⟩ %r17
  ihave W2 := (passed c 2) $$ W2
  icases W2 with ⟨Fx3, W2⟩
  ihave W5 := (passed c 5) $$ W5
  icases W5 with ⟨Fx6, W5⟩
  iapply (seq c)
  iapply (part18 oV wV κ c)
  isplitr; · iexact HE
  isplitl [HD]; · iexact HD
  isplitl [Fx5]; · iexact Fx5
  isplitl [Z5]; · iexact Z5
  isplitl [Fx3]; · iexact Fx3
  isplitl [Z3]; · iexact Z3
  isplitl [Fx6]; · iexact Fx6
  isplitl [Z6]; · iexact Z6
  isplitl [Fy0]; · iexact Fy0
  isplitl [Ys0]; · iapply (openY_of c 0); iexact Ys0
  isplitl [Fy3]; · iexact Fy3
  isplitl [Ys3]; · iapply (openY_of c 3); iexact Ys3
  isplitl [Fy1]; · iexact Fy1
  isplitl [Ys1]; · iapply (openY_of c 1); iexact Ys1
  isplitl [Fy4]; · iexact Fy4
  isplitl [Ys4]; · iapply (openY_of c 4); iexact Ys4
  isplitl [Fy2]; · iexact Fy2
  isplitl [Ys2]; · iapply (openY_of c 2); iexact Ys2
  iintro ⟨HD, D5, D3, D6, E0, E3, E1, E4, E2⟩ %r18
  iapply (part19 oV wV κ c)
  isplitr; · iexact HE
  isplitl [HD]; · iexact HD
  isplitl [Fy5]; · iexact Fy5
  isplitl [Ys5]; · iapply (openY_of c 5); iexact Ys5
  isplitl [Hleave]; · iexact Hleave
  isplitl [HC1]; · iexact HC1
  isplitl [Hlv]; · iexact Hlv
  iintro ⟨HD, E5, Hlv⟩
  iapply Hk
  iapply (finish oV wV c)
  unfold three six seven
  isplitl [Ho Hw Ht Hcom]
  · isplitl [Ho]; · iexact Ho
    isplitl [Hw]; · iexact Hw
    isplitl [Ht]; · iexact Ht
    iexact Hcom
  isplitl [HD]; · iexact HD
  isplitl [Hbar]; · iexact Hbar
  isplitl [Hlv Vrs]
  · isplitl [Hlv]; · iexact Hlv
    iexact Vrs
  isplitl [V0 V1 V2]
  · isplitl [V0]; · iexact V0
    isplitl [V1]; · iexact V1
    iexact V2
  isplitl [W0 W1 W2 W3 W4 W5]
  · isplitl [W0]; · iexact W0
    isplitl [W1]; · iexact W1
    isplitl [W2]; · iexact W2
    isplitl [W3]; · iexact W3
    isplitl [W4]; · iexact W4
    iexact W5
  isplitl [D0 D1 D2 D3 D4 D5 D6]
  · isplitl [D0]; · iexact D0
    isplitl [D1]; · iexact D1
    isplitl [D2]; · iexact D2
    isplitl [D3]; · iexact D3
    isplitl [D4]; · iexact D4
    isplitl [D5]; · iexact D5
    iexact D6
  isplitl [E0 E1 E2 E3 E4 E5]
  · isplitl [E0]; · iexact E0
    isplitl [E1]; · iexact E1
    isplitl [E2]; · iexact E2
    isplitl [E3]; · iexact E3
    isplitl [E4]; · iexact E4
    iexact E5
  isplitl [K2]; · iexact K2
  iexact K5

end Values

end Cert.KernelIdeal.Talk

end
-- ==== Proof.Deal.lean ====
/-
  What the devices are dealt at the launch: the semaphores' invariants, every permit handed to the device that uses
  it, and what each device holds when the kernel's own semaphores are opened.
-/
module

public import proofs.«01_k».proof.Proof.Body

@[expose] public section

set_option maxRecDepth 65536

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem zip {I : Type} [Fintype I] {Φ Ψ : I → sProp 𝕄} :
    iprop(bigSep Finset.univ Φ ∗ bigSep Finset.univ Ψ) ⊢ bigSep Finset.univ (fun c => iprop(Φ c ∗ Ψ c)) :=
  Entails.of_eq (bigSep_sep _ _ _).symm
theorem unzip {I : Type} [Fintype I] {Φ Ψ : I → sProp 𝕄} :
    bigSep Finset.univ (fun c => iprop(Φ c ∗ Ψ c)) ⊢ iprop(bigSep Finset.univ Φ ∗ bigSep Finset.univ Ψ) :=
  Entails.of_eq (bigSep_sep _ _ _)

/-! ## The permits -/

/-- A device's own copies, by their sending ends: the ring's one semaphore three times, the line's, the pair's. -/
abbrev Sent : Type := Fin 3 ⊕ Fin 6 ⊕ Fin 7
def sentSem : Sent → SemLoc sig
  | .inl _ => .dma ringS
  | .inr (.inl j) => .dma (ysS j)
  | .inr (.inr i) => .dma (xsS i)
def sentNo : Sent → ℕ
  | .inl s => s.val
  | .inr _ => 0

/-- A permit, wherever it is used: the semaphore, the round, the duty. -/
def mark : Pay ⊕ Sent → SemLoc sig × ℕ × Fin 5
  | .inl p => (psem p, 0, pduty p)
  | .inr s => (sentSem s, sentNo s, 0)
theorem mark_inj : Function.Injective mark := by decide +kernel

/-- The permits of all devices, each at the device whose semaphore it is for. -/
def place1 : (Pay × Dev nD) ⊕ (Dev nD × Sent) → GSem nD τ sig × ℕ × Fin 5
  | .inl (p, d) => (cell d (psem p), 0, pduty p)
  | .inr (d, s) => (cell d (sentSem s), sentNo s, 0)
def markOf : (Pay × Dev nD) ⊕ (Dev nD × Sent) → Dev nD × (Pay ⊕ Sent)
  | .inl (p, d) => (d, .inl p)
  | .inr (d, s) => (d, .inr s)
theorem markOf_inj : Function.Injective markOf := by
  rintro (⟨p, d⟩ | ⟨d, s⟩) (⟨p', d'⟩ | ⟨d', s'⟩) h
  · obtain ⟨h1, h2⟩ := Prod.mk.inj h
    rw [h1, Sum.inl.inj h2]
  · exact absurd (Prod.mk.inj h).2 (by simp)
  · exact absurd (Prod.mk.inj h).2 (by simp)
  · obtain ⟨h1, h2⟩ := Prod.mk.inj h
    rw [h1, Sum.inr.inj h2]
theorem place1_eq (x : (Pay × Dev nD) ⊕ (Dev nD × Sent)) :
    place1 x = (cell (markOf x).1 (mark (markOf x).2).1, (mark (markOf x).2).2.1, (mark (markOf x).2).2.2) := by
  rcases x with ⟨p, d⟩ | ⟨d, s⟩ <;> rfl
theorem place1_inj : Function.Injective place1 := fun x y h => by
  rw [place1_eq, place1_eq] at h
  have h1 := congrArg (fun t : GSem nD τ sig × ℕ × Fin 5 => t.1.1.1) h
  have h2 := congrArg (fun t : GSem nD τ sig × ℕ × Fin 5 => t.1.2) h
  have h3 := congrArg (fun t : GSem nD τ sig × ℕ × Fin 5 => t.2) h
  exact markOf_inj (Prod.ext h1 (mark_inj (Prod.ext h2 h3)))

def permits : Finset (GSem nD τ sig × ℕ × Fin 5) := Finset.univ.map ⟨place1, place1_inj⟩

/-- The permits of one kind of payment, each moved to the device that makes the payment. -/
theorem moved (p : Pay) : bigSep Finset.univ (fun d : Dev nD => (dutyTok ER (cell d (psem p)) 0 (pduty p) : sProp 𝕄))
    = bigSep Finset.univ fun c => tok c p :=
  bigSep_univ_equiv (nbE (pdir p)) (fun d : Dev nD => (dutyTok ER (cell d (psem p)) 0 (pduty p) : sProp 𝕄))

/-- Sorted by payment, then by device. -/
theorem sorted (l : List Pay) : bigSepL l (fun p => bigSep Finset.univ fun c => (tok c p : sProp 𝕄))
    ⊢ bigSep Finset.univ fun c => toksL c l := by
  induction l with
  | nil =>
    show (BI.emp : sProp 𝕄) ⊢ bigSep Finset.univ fun c : Dev nD => (BI.emp : sProp 𝕄)
    rw [bigSep_emp_const]
  | cons p l ih =>
    rw [bigSepL_cons]
    show _ ⊢ bigSep Finset.univ fun c => iprop(tok c p ∗ toksL c l)
    rw [bigSep_sep']
    exact BI.sep_mono (BI.Entails.refl _) ih

theorem sent_eq (c : Dev nD) : bigSep Finset.univ (fun s : Sent => (dutyTok ER (cell c (sentSem s)) (sentNo s) 0 : sProp 𝕄)) = ownToks c := by
  rw [bigSep_univ_sum, bigSep_univ_sum]
  unfold ownToks
  rw [← three_eq, ← six_eq, ← seven_eq]
  rfl

/-- All permits, dealt. -/
theorem deal : bigSep permits (fun x => (dutyTok ER x.1 x.2.1 x.2.2 : sProp 𝕄))
    ⊢ bigSep Finset.univ fun c => iprop(toksL c order ∗ ownToks c) := by
  unfold permits
  rw [bigSep_map, bigSep_univ_sum, bigSep_univ_prod, bigSep_univ_prod, bigSep_sep']
  refine BI.sep_mono ?_ ?_
  · refine BIBase.Entails.trans (Entails.of_eq ?_) (sorted order)
    rw [← bigSep_univ_eq_bigSepL order univ_pay order_nodup]
    exact bigSep_congr fun p _ => moved p
  · exact Entails.of_eq (bigSep_congr fun c _ => sent_eq c)

/-! ## Opening the kernel's own semaphores -/

section Values

variable (oV : Dev nD → Vec F S4x128x1024 .bf16) (wV : Dev nD → Vec F S1024x4096 .bf16)
variable (κ : GSem nD τ sig → ℕ)
variable (c : Dev nD)

/-- What a device takes into the kernel, before its semaphores are opened, and after. -/
def dealt : sProp 𝕄 :=
  iprop(atPos ER (cell c barL) 0 ∅ 0 ∗ (bigSep Finset.univ fun k : Fin 31 => openTok ER (cell c (osem k))) ∗ toksL c order ∗ ownToks c)
def Tk : sProp 𝕄 := iprop((∃ κ, Env oV wV κ) ∗ dealt c ∗ credsL c order)
def Xk : sProp 𝕄 :=
  iprop((∃ κ, Env oV wV κ) ∗ Stand c ∗ toksL c order ∗ credsL c order ∗ atPos ER (cell c barL) 0 ∅ 0
    ∗ (bigSep Finset.univ fun k : Fin 31 => atPos ER (cell c (osem k)) 0 ∅ 0) ∗ ownToks c)

theorem open_one (k : Fin 31) : iprop(Env oV wV κ ∗ (openTok ER (cell c (osem k)) ∗ semVal (cell c (osem k)) 0))
    ⊢ (|={Set.univ}=> iprop(atPos ER (cell c (osem k)) 0 ∅ 0 ∗ reached ER (cell c (osem k)) 0) : sProp 𝕄) :=
  BIBase.Entails.trans (BI.sep_mono (env_own oV wV κ c k) (BI.Entails.refl _))
    (Rounds.cell_open ER (talk oV wV) (g := cell c (osem k)) (Set.mem_univ (κ (cell c (osem k)))))

theorem open_all : iprop(Env oV wV κ ∗ (bigSep Finset.univ fun k : Fin 31 => openTok ER (cell c (osem k))) ∗ Pipeline.ownSems0 osem c)
    ⊢ (|={Set.univ}=> iprop((bigSep Finset.univ fun k : Fin 31 => atPos ER (cell c (osem k)) 0 ∅ 0) ∗ Stand c) : sProp 𝕄) := by
  refine BIBase.Entails.trans (BI.sep_mono (BI.Entails.refl _) (zip (Φ := fun k : Fin 31 => (openTok ER (cell c (osem k)) : sProp 𝕄))
    (Ψ := fun k => semVal (cell c (osem k)) 0))) ?_
  refine BIBase.Entails.trans (bigSep_with_persistent (R := Env oV wV κ) fun k _ => open_one oV wV κ c k) ?_
  refine BIBase.Entails.trans (bigSep_fupd _ _) (fupd_mono ?_)
  exact unzip

theorem hopen : iprop(Tk oV wV c ∗ Pipeline.ownSems0 osem c ∗ levAts L lv) ⊢ (|={Set.univ}=> Xk oV wV c : sProp 𝕄) := by
  unfold Tk Xk dealt
  iintro ⟨⟨⟨%κ, #HE⟩, ⟨Hb, Ho, Ht, Hs⟩, Hc⟩, Hv, -⟩
  imod (open_all oV wV κ c) $$ [Ho Hv] with ⟨Hat, #HS⟩
  · isplitr; · iexact HE
    isplitl [Ho] <;> iassumption
  imodintro
  isplitr; · iexists κ; iexact HE
  isplitr; · iexact HS
  isplitl [Ht]; · iexact Ht
  isplitl [Hc]; · iexact Hc
  isplitl [Hb]; · iexact Hb
  isplitl [Hat] <;> iassumption

end Values

/-! ## The launch -/

theorem apart : Disjoint (barCells : Finset (GSem nD τ sig)) ownCells := by
  rw [Finset.disjoint_left]
  rintro g h h'
  obtain ⟨d, -, rfl⟩ := Finset.mem_map.mp h
  obtain ⟨p, -, e⟩ := Finset.mem_map.mp h'
  exact osem_ne_bar p.2 (congrArg Prod.snd e)

/-- The protocol's part of the launch, held by the first device until everything is dealt. -/
def G (c : Dev nD) : sProp 𝕄 := if c = 0 then BI.own (ER (launchOf barCells ownCells permits)) else iprop(emp)
theorem all_G : bigSep Finset.univ (G (F := F)) = BI.own (ER (launchOf barCells ownCells permits)) := by
  rw [bigSep_univ_at _ (0 : Dev nD), bigSep_congr (s := Finset.univ.erase (0 : Dev nD)) (Ψ := fun _ => (BI.emp : sProp 𝕄))
      fun d hd => by unfold G; rw [if_neg (Finset.ne_of_mem_erase hd)]; rfl, BI.bigSep_emp_const]
  unfold G; rw [if_pos rfl]
  exact BI.equiv_iff.mp sep_emp

theorem unscoped_bar : ∀ sm : SemLoc sig, sm.isScoped .tc = false → sm = barL := by decide +kernel
theorem unscoped_all (c : Dev nD) : (unscopedSems0 c : sProp 𝕄) = semVal (cell c barL) 0 := by
  unfold unscopedSems0
  rw [show (Finset.univ.filter fun sm : SemLoc sig => ¬ sm.isScoped .tc) = {barL} from by decide +kernel, BI.bigSep_singleton]

section Values

variable (oV : Dev nD → Vec F S4x128x1024 .bf16) (wV : Dev nD → Vec F S1024x4096 .bf16)
variable (ρ : Dev nD → PrngReg)

/-- What a device has at the launch beside its arrays, and what it makes of it. -/
def Rest0 (c : Dev nD) : sProp 𝕄 :=
  iprop((∃ r, prngReg c r) ∗ Tk oV wV c ∗ ∃ V, owes (c : Thread nD τ) (owedL c order) V)
def kept (c : Dev nD) : sProp 𝕄 := iprop((∃ r, prngReg c r) ∗ credsL c order ∗ owes (c : Thread nD τ) (owedL c order) ∅)

theorem rest_intro (κ : GSem nD τ sig → ℕ) (c : Dev nD) : iprop(Env oV wV κ ∗ (dealt c ∗ kept c)) ⊢ Rest0 oV wV c := by
  unfold Rest0 kept Tk
  iintro ⟨#HE, Hd, Hp, Hc, HO⟩
  isplitl [Hp]; · iexact Hp
  isplitr [HO]
  · isplitr; · iexists κ; iexact HE
    isplitl [Hd] <;> iassumption
  · iexists ∅; iexact HO

theorem split_one (c : Dev nD) : iprop(unscopedSems0 c ∗ owes (c : Thread nD τ) (owedL c order) ∅ ∗ Pipeline.launchCred (fun d => owedL d order) c
      ∗ prngReg c (ρ c) ∗ G c) ⊢ (iprop(kept c ∗ semVal (cell c barL) 0 ∗ G c) : sProp 𝕄) := by
  rw [unscoped_all]
  unfold kept
  iintro ⟨Hv, HO, Hc, Hp, HG⟩
  isplitl [HO Hc Hp]
  · isplitl [Hp]; · iexists (ρ c); iexact Hp
    isplitl [Hc]; · iapply (credit_list c order); iexact Hc
    iexact HO
  isplitl [Hv] <;> iassumption

theorem launch : iprop((bigSep Finset.univ fun c : Dev nD => iprop(unscopedSems0 c ∗ owes (c : Thread nD τ) (owedL c order) ∅
        ∗ Pipeline.launchCred (fun d => owedL d order) c ∗ prngReg c (ρ c) ∗ G c)) ∗ levAts L lv)
    ⊢ (|={Set.univ}=> bigSep Finset.univ (Rest0 oV wV) : sProp 𝕄) := by
  have hv : bigSep Finset.univ (fun c : Dev nD => (semVal (cell c barL) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c barL) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Fin 31 => openTok ER (cell c (osem k))) :=
    Entails.of_eq (by unfold ownCells; rw [bigSep_map, bigSep_univ_prod]; rfl)
  iintro ⟨H, #Hlev⟩
  ihave H' := (show (bigSep Finset.univ fun c : Dev nD => iprop(unscopedSems0 c ∗ owes (c : Thread nD τ) (owedL c order) ∅
        ∗ Pipeline.launchCred (fun d => owedL d order) c ∗ prngReg c (ρ c) ∗ G c))
      ⊢ (bigSep Finset.univ fun c : Dev nD => iprop(kept c ∗ semVal (cell c barL) 0 ∗ G c) : sProp 𝕄) from
        bigSep_mono fun c _ => split_one ρ c) $$ H
  ihave H2 := unzip $$ H'; icases H2 with ⟨HB, H3⟩
  ihave H4 := unzip $$ H3; icases H4 with ⟨Hv, HG⟩
  ihave Hu := (show bigSep Finset.univ (G (F := F)) ⊢ BI.own (ER (launchOf barCells ownCells permits)) from Entails.of_eq all_G) $$ HG
  imod (Rounds.fund_launch ER (talk oV wV) apart (fun g _ h => h) permits) $$ [Hv Hu] with ⟨%κ, -, #Hinv, #Hr, Hat, Hopen, Htok⟩
  · isplitl [Hv]
    · iapply hv $$ Hv
    · iexact Hu
  imodintro
  iapply (bigSep_with_persistent (R := Env oV wV κ) (Φ := fun c => iprop(dealt c ∗ kept c)) fun c _ => rest_intro oV wV κ c)
  isplitr
  · unfold Env
    isplitr; · iexact Hinv
    isplitr; · iexact Hr
    iexact Hlev
  iapply zip
  isplitr [HB]
  · unfold dealt
    iapply zip; isplitl [Hat]; · iapply hat $$ Hat
    iapply zip; isplitl [Hopen]; · iapply hopen $$ Hopen
    iapply deal $$ Htok
  · iexact HB

end Values

end Cert.KernelIdeal.Talk

end
-- ==== Proof.Run.lean ====
/-
  The kernel on its one grid point, and the whole program on all devices: every execution ends, with the arguments as
  they were, every semaphore at zero and the result array at what the exchange leaves.
-/
module

public import proofs.«01_k».proof.Proof.Deal
public import Idealize.ShloMosaic.Lib.Pipeline.ValueKit.Geometry

@[expose] public section

set_option maxRecDepth 65536

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Values

variable (m : (ℓ : Loc nD τ sig) → Buf (Elt F) ℓ)

/-- What the kernel reads: each device's chunk of the activations and its rows of the weights. -/
def oV (c : Dev nD) : Vec F S4x128x1024 .bf16 := V4 m c main_v12
def wV (c : Dev nD) : Vec F S1024x4096 .bf16 := V4 m c main_arg1
/-- What it leaves in the result array. -/
abbrev res (c : Dev nD) : BlkV F := fin (oV m) (wV m) c

variable (c : Dev nD)

abbrev scratch : sProp 𝕄 := iprop((∃ f : Buf (Elt F) ((c : Thread nD τ).loc cc0_scratch0), (c : Thread nD τ).loc cc0_scratch0 ↦{fullShare} f)
  ∗ ∃ f : Buf (Elt F) ((c : Thread nD τ).loc cc0_scratch1), (c : Thread nD τ).loc cc0_scratch1 ↦{fullShare} f)
def Before : sProp 𝕄 := iprop(Xk (oV m) (wV m) c ∗ scratch c ∗ ∃ r, prngReg c r)
def After : sProp 𝕄 := iprop((semVal (cell c barL) 0 ∗ Pipeline.ownSems0 osem c) ∗ scratch c ∗ ∃ r, prngReg c r)

/-- What the pipeline around the kernel is told of it. -/
def dat : Pipeline.Dat τ (Elt F) Unit ℕ UU ℕ cfg0 c where
  A w := V4 m c (Proc.devRef .tc (Pipeline.arrRef spec0 w))
  after w t := match w with
    | ⟨0, _⟩ => oV m c
    | ⟨1, _⟩ => wV m c
    | ⟨2, _⟩ => res m c
  Φ t := if t.val = 0 then Before m c else After c
  q _ := fullShare
  owed t := if t.val = 0 then owedL c order else 0

/-- A window that is its whole array, uncut: a fetch brings in every element. -/
theorem fetched_at {cfg : Pipeline.Cfg sig Λ₀} {c : Dev nD} (dat : Pipeline.Dat τ (Elt F) Unit ℕ UU ℕ cfg c) (w : Fin cfg.W) (t : Fin cfg.N)
    (h : ∀ a, (cfg.win w).clip (cfg.grid.coords t) a = none) (d : (cfg.win w).block.Idx → Elt F (cfg.win w).elt) (j : (cfg.win w).block.Idx) :
    dat.fetched w t d j = dat.blockOf w t fun a => ⟨(j a).val, ((cfg.win w).moved_iff _ j).mp
      (((cfg.win w).moved_iff _ j).mpr fun a => by have := (j a).isLt; unfold Pipeline.Window.xsize; rw [h a]; exact this) a⟩ := by
  have hm : (cfg.win w).moved (cfg.grid.coords t) j = true :=
    ((cfg.win w).moved_iff _ j).mpr fun a => by have := (j a).isLt; unfold Pipeline.Window.xsize; rw [h a]; exact this
  unfold Pipeline.Dat.fetched Pipeline.Window.fill
  rw [dif_pos hm]

theorem before_o (d) : (dat m c).before 0 t0_0 d = oV m c := by
  rw [Pipeline.Dat.before_fetched _ _ _ (fetch0_0 t0_0)]
  funext j
  rw [fetched_at (dat m c) 0 t0_0 (fun _ => rfl) d j]
  refine congrArg (oV m c) (funext fun a => Fin.ext ?_)
  exact Pipeline.Window.rect_emb_val_of_index_zero (cfg0.win 0) t0_0 a rfl _
theorem before_w (d) : (dat m c).before 1 t0_0 d = wV m c := by
  rw [Pipeline.Dat.before_fetched _ _ _ (fetch0_1 t0_0)]
  funext j
  rw [fetched_at (dat m c) 1 t0_0 (fun _ => rfl) d j]
  refine congrArg (wV m c) (funext fun a => Fin.ext ?_)
  exact Pipeline.Window.rect_emb_val_of_index_zero (cfg0.win 1) t0_0 a rfl _
theorem before_out (d) : (dat m c).before 2 t0_0 d = d :=
  Pipeline.Dat.before_out_reset _ 2 rfl t0_0 (.inl rfl) d

theorem owed_first : (dat m c).owed t0_0.castSucc = owedL c order := by
  show (if (t0_0.castSucc : Fin (cfg0.N + 1)).val = 0 then owedL c order else 0) = _; exact if_pos rfl
theorem owed_last : (dat m c).owed t0_0.succ = 0 := by
  show (if (t0_0.succ : Fin (cfg0.N + 1)).val = 0 then owedL c order else 0) = _; exact if_neg (Nat.succ_ne_zero _)
theorem inv_first : (dat m c).Φ t0_0.castSucc = Before m c := by
  show (if (t0_0.castSucc : Fin (cfg0.N + 1)).val = 0 then Before m c else After c) = _; exact if_pos rfl
theorem inv_last : (dat m c).Φ t0_0.succ = After c := by
  show (if (t0_0.succ : Fin (cfg0.N + 1)).val = 0 then Before m c else After c) = _; exact if_neg (Nat.succ_ne_zero _)

theorem owes_in (V : Waits sig Unit) : (owes (c : Thread nD τ) 0 V : sProp 𝕄) ⊢ (dat m c).owesAt () t0_0.succ := by
  unfold Pipeline.Dat.owesAt Pipeline.owesWithin Pipeline.Dat.bound
  rw [owed_last]
  iintro HO
  iexists V
  isplitr; · ipureintro; exact fun _ _ => Or.inl trivial
  iexact HO
theorem owes_out : (dat m c).owesAt () t0_0.castSucc ⊢ (iprop(∃ V, owes (c : Thread nD τ) (owedL c order) V) : sProp 𝕄) := by
  unfold Pipeline.Dat.owesAt Pipeline.owesWithin
  rw [owed_first]
  iintro ⟨%V, -, HO⟩
  iexists V; iexact HO

theorem start_of : iprop(Before m c ∗ (dat m c).owesAt () t0_0.castSucc ∗ oPt (oV m) c ∗ wPt (wV m) c ∗ (∃ f : BlkV F, outL c ↦{fullShare} f))
    ⊢ (iprop((∃ κ, Env (oV m) (wV m) κ) ∗ Stand c ∗ Start (oV m) (wV m) c ∗ ∃ r, prngReg c r) : sProp 𝕄) := by
  unfold Before Xk Start memIn Dues
  iintro ⟨⟨⟨HE, HS, Ht, Hc, Hb, Hat, Hs⟩, ⟨Hcom, Htmp⟩, Hp⟩, HO, Ho, Hw, Hout⟩
  isplitl [HE]; · iexact HE
  isplitl [HS]; · iexact HS
  isplitr [Hp]
  · isplitl [Ho Hw Htmp Hout Hcom]
    · isplitl [Ho]; · iexact Ho
      isplitl [Hw]; · iexact Hw
      isplitl [Htmp]; · iexact Htmp
      isplitl [Hout]; · iexact Hout
      iexact Hcom
    isplitl [HO Ht]
    · isplitl [HO]; · iapply (owes_out m c); iexact HO
      iexact Ht
    isplitl [Hc]; · iexact Hc
    isplitl [Hb]; · iexact Hb
    isplitl [Hat]; · iexact Hat
    iexact Hs
  iexact Hp

theorem own_all : (bigSep Finset.univ fun k : Fin 31 => (semVal (cell c (osem k)) 0 : sProp 𝕄)) ⊢ Pipeline.ownSems0 osem c := .rfl

theorem finish_to : iprop(Finish (oV m) (wV m) c ∗ ∃ r, prngReg c r)
    ⊢ (iprop(After c ∗ (dat m c).owesAt () t0_0.succ ∗ oPt (oV m) c ∗ wPt (wV m) c ∗ (outL c ↦{fullShare} res m c)) : sProp 𝕄) := by
  unfold Finish memOut After
  iintro ⟨⟨⟨Ho, Hw, Htmp, Hout, Hcom⟩, ⟨%V, HO⟩, Hb, Hos⟩, Hp⟩
  isplitl [Htmp Hcom Hb Hos Hp]
  · isplitl [Hb Hos]
    · isplitl [Hb]; · iexact Hb
      iapply (own_all c); iexact Hos
    isplitl [Htmp Hcom]
    · isplitl [Hcom]; · iexact Hcom
      iexact Htmp
    iexact Hp
  isplitl [HO]; · iapply (owes_in m c V); iexact HO
  isplitl [Ho]; · iexact Ho
  isplitl [Hw]; · iexact Hw
  iexact Hout

/-- The windows' buffers, as the kernel finds and leaves them. -/
theorem in_o : (iprop(∃ d, owns (c : Thread nD τ) oM fullShare ((dat m c).before 0 t0_0 d)) : sProp 𝕄) ⊢ oPt (oV m) c := by
  iintro ⟨%d, H⟩
  iapply (show (owns (c : Thread nD τ) oM fullShare ((dat m c).before 0 t0_0 d) : sProp 𝕄) ⊢ oPt (oV m) c from Entails.of_eq (by
    rw [before_o]; exact owns_whole _ _ _ _))
  iexact H
theorem in_w : (iprop(∃ d, owns (c : Thread nD τ) wM fullShare ((dat m c).before 1 t0_0 d)) : sProp 𝕄) ⊢ wPt (wV m) c := by
  iintro ⟨%d, H⟩
  iapply (show (owns (c : Thread nD τ) wM fullShare ((dat m c).before 1 t0_0 d) : sProp 𝕄) ⊢ wPt (wV m) c from Entails.of_eq (by
    rw [before_w]; exact owns_whole _ _ _ _))
  iexact H
theorem in_out : (iprop(∃ d, owns (c : Thread nD τ) outM fullShare ((dat m c).before 2 t0_0 d)) : sProp 𝕄)
    ⊢ iprop(∃ f : BlkV F, outL c ↦{fullShare} f) := by
  iintro ⟨%d, H⟩
  iexists d
  iapply (show (owns (c : Thread nD τ) outM fullShare ((dat m c).before 2 t0_0 d) : sProp 𝕄) ⊢ (outL c ↦{fullShare} (d : BlkV F)) from Entails.of_eq (by
    rw [before_out]; exact owns_whole _ _ _ _))
  iexact H
theorem bufs_in : (bigSep Finset.univ fun w : Fin 3 => iprop(∃ d, owns (c : Thread nD τ) ((cfg0.win w).stage (cfg0.slots t0_0 w)) fullShare ((dat m c).before w t0_0 d)))
    ⊢ (iprop(oPt (oV m) c ∗ wPt (wV m) c ∗ (∃ f : BlkV F, outL c ↦{fullShare} f)) : sProp 𝕄) := by
  rw [bigSep_W0]
  exact BI.sep_mono (in_o m c) (BI.sep_mono (in_w m c) (in_out m c))

theorem bufs_out : iprop(oPt (oV m) c ∗ wPt (wV m) c ∗ (outL c ↦{fullShare} res m c))
    ⊢ (bigSep Finset.univ fun w : Fin 3 => (owns (c : Thread nD τ) ((cfg0.win w).stage (cfg0.slots t0_0 w)) fullShare ((dat m c).after w t0_0) : sProp 𝕄)) := by
  rw [bigSep_W0]
  exact BI.sep_mono (Entails.of_eq (owns_whole _ _ _ _).symm) (BI.sep_mono (Entails.of_eq (owns_whole _ _ _ _).symm) (Entails.of_eq (owns_whole _ _ _ _).symm))

/-- The kernel at its one point. -/
theorem at_point : Pipeline.BodyObligation (dat m c) (defs₀ (F := F)) 𝒱₀ () Set.univ := fun t => by
  obtain rfl := fin_N0 t
  rw [inv_first, inv_last]
  iintro ⟨HB, HO, Hw⟩
  ihave H := (bufs_in m c) $$ Hw
  ihave HS := (start_of m c) $$ [HB HO H]
  · isplitl [HB]; · iexact HB
    isplitl [HO] <;> iassumption
  icases HS with ⟨⟨%κ, HE⟩, HS, Hst, Hp⟩
  iapply (body (oV m) (wV m) κ c _)
  isplitl [HE]; · iexact HE
  isplitl [HS]; · iexact HS
  isplitl [Hst]; · iexact Hst
  iintro HF
  ihave H := (finish_to m c) $$ [HF Hp]
  · isplitl [HF] <;> iassumption
  icases H with ⟨HA, HO, Hb⟩
  isplitl [HA]; · iexact HA
  isplitl [HO]; · iexact HO
  iapply (bufs_out m c); iexact Hb

/-! ## The kernel as a segment of the program -/

abbrev pdats : (p : Fin 1) → (c : Dev nD) → Pipeline.Dat τ (Elt F) Unit ℕ UU ℕ (cfgs p) c
  | 0 => dat m

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What the kernel leaves in the arrays: the result array replaced. -/
def outs : Outs (F := F) := fun _ r c => Function.update (V4 m c) main_v13 (res m c) (Proc.devRef .tc r)
theorem V5_out : V5 m (outs m) c main_v13 = res m c := by
  unfold V5 outs
  rw [Function.update_self, Function.update_self]

theorem scoped_all : (Pipeline.scopedRest (Ix := Unit) (Name := ℕ) (U := UU) (Lvl := ℕ) (Val := Elt F) spec0 c : sProp 𝕄) = scratch c := scopedRest0_eq c
theorem held_none (W : Valuation τ sig (Elt F)) : (StableHlo.held (c : Thread nD τ) ∅ W : sProp 𝕄) = BI.emp := by
  unfold StableHlo.held; exact bigSep_empty

theorem hin : iprop(Pipeline.scopedRest spec0 c ∗ (∃ r, prngReg c r) ∗ StableHlo.held (c : Thread nD τ) ∅ (V4 m c) ∗ Xk (oV m) (wV m) c)
    ⊢ (dat m c).Φ 0 := by
  rw [show (dat m c).Φ 0 = Before m c from inv_first m c, scoped_all]
  unfold Before
  iintro ⟨Hs, Hp, -, HX⟩
  isplitl [HX]; · iexact HX
  isplitl [Hs]; · iexact Hs
  iexact Hp
theorem hout : (dat m c).Φ (Fin.last cfg0.N)
    ⊢ iprop(Pipeline.scopedRest spec0 c ∗ (∃ r, prngReg c r) ∗ StableHlo.held (c : Thread nD τ) ∅ (V5 m (outs m) c) ∗ Pipeline.ownSems0 osem c ∗ semVal (cell c barL) 0) := by
  rw [show (dat m c).Φ (Fin.last cfg0.N) = After c from inv_last m c, scoped_all, held_none]
  unfold After
  iintro ⟨⟨Hb, Ho⟩, Hs, Hp⟩
  isplitl [Hs]; · iexact Hs
  isplitl [Hp]; · iexact Hp
  isplitr; · iempintro
  isplitl [Ho]; · iexact Ho
  iexact Hb

theorem cut (t : Fin (cfg0.N + 1)) (g : GSem nD τ sig) (i : Unit) (h : 0 < (dat m c).owed t g i) : i ∈ L g ∧ (0 : ℕ) < lv g i := by
  have e : (dat m c).owed t = if t.val = 0 then owedL c order else 0 := rfl
  rw [e] at h
  split at h
  · obtain ⟨p, -, rfl⟩ := owedL_pos h
    exact ⟨by rw [L_tc]; exact Finset.mem_singleton_self _, lvl_psem_pos p⟩
  · exact absurd h (Nat.lt_irrefl 0)

theorem own_facts : Pipeline.OwnSemFacts spec0 osem := by decide +kernel

abbrev arrs : Finset (DevRef τ sig) := Pipeline.arrRefs (τ := τ) spec0
abbrev others : Finset (DevRef τ sig) := Pipeline.ucRefs τ sig \ arrs

theorem out_arr : (Proc.devRef .tc main_v13 : DevRef τ sig) ∈ arrs := by
  unfold arrs Pipeline.arrRefs
  exact Finset.mem_map_of_mem _ (Finset.mem_image_of_mem (Pipeline.arrRef spec0) (Finset.mem_univ (2 : Fin 3)))
theorem others_kept (b : DevRef τ sig) (hb : b ∈ others) : V5 m (outs m) c b = V4 m c b := by
  unfold V5
  refine Function.update_of_ne ?_ _ _
  rintro rfl
  exact (Finset.mem_sdiff.mp hb).2 out_arr

theorem arr_start (w : Fin 3) : (dat m c).arrAt w 0 = V4 m c (Proc.devRef .tc (Pipeline.arrRef spec0 w)) := rfl
theorem arr_out : (dat m c).arrAt 2 cfg0.N = res m c := by
  refine Pipeline.Dat.arrAt_eq_of_after_last (dat m c) 2 t0_0 (by decide +kernel) (res m c) (fun j => rfl)
theorem arr_end (w : Fin 3) : (dat m c).arrAt w cfg0.N = V5 m (outs m) c (Proc.devRef .tc (Pipeline.arrRef spec0 w)) := by
  match w with
  | 0 => exact ((dat m c).arrAt_in 0 rfl _).trans (V5_of m (outs m) c main_v12 (by decide)).symm
  | 1 => exact ((dat m c).arrAt_in 1 rfl _).trans (V5_of m (outs m) c main_arg1 (by decide)).symm
  | 2 => exact (arr_out m c).trans (V5_out m c).symm

theorem low : ∀ (w : Fin 3) (s : Fin (win0 w).nbuf), lvl (.dma ((win0 w).sem s)) ≤ 0 := by decide +kernel

set_option backward.isDefEq.respectTransparency.types false in
def region : Pipeline.RegionSeg (pcfgs (F := F)) adm (pdats m) () (defs₀ (F := F)) 𝒱₀ L lv 0 :=
  Pipeline.RegionSeg.ofTalk (pcfgs (F := F)) adm (pdats m) () defs₀ 𝒱₀ L lv 0 osem own_facts
    ∅ others (Finset.empty_subset _) kit rfl (fun c => (at_point m c).loose)
    (fun _ => 0) (fun c => owedL c order) (fun c => (owed_first m c).trans (zero_add _).symm) (fun c => owed_last m c) (fun _ => rfl)
    (fun c w => ite_self _)
    (fun c => V4 m c) (fun c => V5 m (outs m) c) (fun c b hb => others_kept m c b (Finset.mem_sdiff.mp hb).1)
    (Tk (oV m) (wV m)) (fun c => semVal (cell c barL) 0) (Xk (oV m) (wV m)) (fun c => semVal (cell c barL) 0)
    (hopen (oV m) (wV m)) (hin m) (hout m)
    (fun c => fupd_intro)
    (fun _ => 0)
    ⟨fun c w s => by rw [L_tc]; exact Finset.mem_singleton_self _, fun c w s => low w s, fun c t g i h => cut m c t g i h⟩
    (fun _ => iprop(emp))
    (arr_start m) (arr_end m)

/-! ## The run -/

/-- What rides beside the arrays before the kernel and after it. -/
def E : Fin 2 → Dev nD → sProp 𝕄
  | 0 => Rest0 (oV m) (wV m)
  | 1 => fun c => iprop(semVal (cell c barL) 0 ∗ ∃ V, owes (c : Thread nD τ) (0 : CellTallies nD τ sig Unit) V)

theorem arrs_sub : arrs ⊆ Pipeline.ucRefs τ sig := Pipeline.arrRefs_sub_ucRefs spec0 (by decide +kernel)
theorem held_split (W : Valuation τ sig (Elt F)) : (StableHlo.held (c : Thread nD τ) (Pipeline.ucRefs τ sig) W : sProp 𝕄)
    = iprop(StableHlo.held (c : Thread nD τ) arrs W ∗ StableHlo.held (c : Thread nD τ) others W) :=
  StableHlo.held_sub_split (c : Thread nD τ) arrs_sub W

theorem enter : iprop(StableHlo.held (c : Thread nD τ) (Pipeline.ucRefs τ sig) (V4 m c) ∗ E m 0 c) ⊢ (region m).pre c := by
  show _ ⊢ iprop(StableHlo.held (c.tc : Thread nD τ) arrs (V4 m c) ∗ (∃ r, prngReg c r)
    ∗ (StableHlo.held (c.tc : Thread nD τ) others (V4 m c) ∗ emp) ∗ Tk (oV m) (wV m) c ∗ ∃ Wd, owes (c : Thread nD τ) (0 + owedL c order) Wd)
  rw [held_split, zero_add]
  show iprop(_ ∗ Rest0 (oV m) (wV m) c) ⊢ _
  unfold Rest0
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO
theorem leave : (region m).post c ⊢ iprop(StableHlo.held (c : Thread nD τ) (Pipeline.ucRefs τ sig) (V5 m (outs m) c) ∗ E m 1 c) := by
  show iprop(StableHlo.held (c.tc : Thread nD τ) arrs (V5 m (outs m) c) ∗ (∃ r, prngReg c r)
    ∗ (StableHlo.held (c.tc : Thread nD τ) others (V5 m (outs m) c) ∗ emp) ∗ semVal (cell c barL) 0
    ∗ ∃ Wd, owes (c : Thread nD τ) (0 : CellTallies nD τ sig Unit) Wd) ⊢ _
  rw [held_split]
  show _ ⊢ iprop(_ ∗ (semVal (cell c barL) 0 ∗ ∃ V, owes (c : Thread nD τ) (0 : CellTallies nD τ sig Unit) V))
  iintro ⟨Ha, -, ⟨Hr, -⟩, Hb, HO⟩
  isplitl [Ha Hr]
  · isplitl [Ha] <;> iassumption
  isplitl [Hb]; · iexact Hb
  iexact HO

end Values

section Values

variable (m : (ℓ : Loc nD τ sig) → Buf (Elt F) ℓ) (ρ : Dev nD → PrngReg)

theorem init :
    iprop((bigSep Finset.univ fun c : Dev nD => iprop(unscopedBufs c (fun b => m ((c : Thread nD τ).loc b)) ∗ unscopedSems0 c
          ∗ owes (c : Thread nD τ) (owedL c order) ∅ ∗ Pipeline.launchCred (fun d => owedL d order) c ∗ prngReg c (ρ c) ∗ G c)) ∗ levAts L lv)
      ⊢ (|={Set.univ}=> bigSep Finset.univ (fun c : Dev nD => iprop(StableHlo.held (c : Thread nD τ) (Pipeline.ucRefs τ sig) (V0 m c) ∗ E m 0 c)) : sProp 𝕄) := by
  have hsplit : (bigSep Finset.univ fun c : Dev nD => iprop(unscopedBufs c (fun b => m ((c : Thread nD τ).loc b)) ∗ unscopedSems0 c
          ∗ owes (c : Thread nD τ) (owedL c order) ∅ ∗ Pipeline.launchCred (fun d => owedL d order) c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (owedL c order) ∅
            ∗ Pipeline.launchCred (fun d => owedL d order) c ∗ prngReg c (ρ c) ∗ G c)) : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (launch (oV m) (wV m) ρ) $$ [Hr Hla] with HE
  · isplitl [Hr] <;> iassumption
  imodintro
  iapply (zip (Φ := fun c : Dev nD => (StableHlo.held (c : Thread nD τ) (Pipeline.ucRefs τ sig) (V0 m c) : sProp 𝕄)) (Ψ := E m 0))
  isplitl [Hh]; · iexact Hh
  iexact HE

def u₀ : UU :=
  (initOf (Pipeline.cells (Pipeline.pin (pcfgs (F := F)) adm) cellOf_inj) (Pipeline.launchToks (Pipeline.pin (pcfgs (F := F)) adm) cellOf_inj),
    launchOf barCells ownCells permits)

/-- What is read off a device at the end: the arguments, the result, and the semaphore of arriving at zero. -/
def Read (c : Dev nD) (s : MemSt nD τ sig (Elt F)) : Prop :=
  ((s.mem ((c.tc : Thread nD τ).loc main_arg0) = m ((c.tc : Thread nD τ).loc main_arg0)
    ∧ s.mem ((c.tc : Thread nD τ).loc main_arg1) = m ((c.tc : Thread nD τ).loc main_arg1))
    ∧ s.mem ((c.tc : Thread nD τ).loc main_v14) = V6 m (outs m) c main_v14) ∧ s.sem (cell c barL) = 0

theorem read (c : Dev nD) (s : Phys nD τ sig (Elt F)) :
    iprop((StableHlo.held (c : Thread nD τ) (Pipeline.ucRefs τ sig) (V6 m (outs m) c) ∗ semVal (cell c barL) 0) ∗ SI s)
      ⊢ (|={Set.univ}=> iprop(⌜Read m c s.mem⌝ ∗ SI s) : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V6 m (outs m) c) s) $$ [Hh HSI]
  · isplitl [Hh] <;> iassumption
  icases Hr with ⟨%h, HSI⟩
  imodintro
  isplitr
  · ipureintro
    exact ⟨⟨⟨(h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c)⟩,
        h (Proc.devRef .tc main_v14) (Finset.mem_filter.mpr ⟨StableHlo.devRef_mem_tcRefs main_v14, by decide⟩)⟩, by simpa using hb⟩
  · iexact HSI

set_option backward.isDefEq.respectTransparency.types false in
/-- The run: from any memory with the semaphores at zero, every execution on the devices ends, with the arguments as they
    were, the result at what the exchange leaves, and every semaphore at zero. -/
theorem run : θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v14) = V6 m (outs m) c main_v14) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (region m))
    (fun c Q => by
      rewrite [main_chain c, Pipeline.Seg.run_eq_chain,
        show (segs m (outs m) 𝒱₀ L lv (E m) () (pdats m) (region m) c).map Pipeline.Seg.prog = [
          StableHlo.seq (hostOps0 c),
          StableHlo.seq hostOps0_1,
          StableHlo.seq hostOps0_2,
          StableHlo.seq hostOps0_3,
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (fun c => owedL c order) L_of_ne G (u₀ (F := F))
    (by
      unfold u₀
      iintro Hu
      ihave H := (ownU_pair _ _) $$ Hu
      icases H with ⟨HP, HX⟩
      imodintro
      isplitl [HP]; · iexact HP
      rw [all_G]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V6 m (outs m) c) ∗ semVal (cell c barL) 0))
    (hch := fun c => ⟨.rfl, .rfl, .rfl, .rfl, enter m c, leave m c, ?_⟩)
    (hinit := init m ρ) (QY := Read m) (hfin := read m)
    (hQ := fun s h hs => ⟨fun c => (h c).1, sem_eq_zero hs fun c sm hsm => by
      obtain rfl := unscoped_bar sm hsm
      exact (h c).2⟩)
  show iprop(_ ∗ (semVal (cell c barL) 0 ∗ ∃ V, owes (c : Thread nD τ) (0 : CellTallies nD τ sig Unit) V)) ⊢ _
  iintro ⟨Hh, Hb, HO⟩
  isplitr [HO]
  · isplitl [Hh] <;> iassumption
  · iexact HO

end Values

end Cert.KernelIdeal.Talk

end
-- ==== Proof.Inputs.lean ====
/-
  The arrays the kernel reads, as elements of the program's arguments: the host takes the device's batch entry, then the
  device's 128 rows of every quarter.
-/
module

public import proofs.«01_k».proof.Proof.Run
public import Idealize.ShloMosaic.Lib.Pointwise
public import Idealize.ShloMosaic.Lib.DynamicIndex
public import Idealize.ShloMosaic.Lib.Layout
public import Idealize.ShloMosaic.Lib.Claim

@[expose] public section

set_option maxRecDepth 65536

noncomputable section

namespace Cert.KernelIdeal.Talk

open Cert.KernelIdeal Cert.KernelIdeal.Gen
open Idealize.ShloMosaic Idealize.ShloMosaic.TcCoe

/-! ## The arrays the kernel reads -/

section Host

variable (m : (ℓ : Loc nD τ sig) → Buf (Elt Ideal) ℓ) (c : Dev nD)

theorem v9_eq : V1 m c main_v9 = shapeCast S2x2048x1024 (m (c.tc.loc main_arg0)) shapeCasts_S2x2048x16x64_S2x2048x1024 := by
  after_results <;> rfl
theorem v4_eq : V1 m c main_v4 = Host.remui (Host.divui (constantI S_ 32 (Dev.word c)) (constantI S_ 32 16#32)) (constantI S_ 32 2#32) := by
  after_results <;> rfl
theorem v8_eq : V1 m c main_v8 = Host.remui (Host.divui (constantI S_ 32 (Dev.word c)) (constantI S_ 32 4#32)) (constantI S_ 32 4#32) := by
  after_results <;> rfl

theorem word_x : ∀ c : Dev nD, ∀ i : S_.Idx,
    Host.remui (Host.divui (constantI S_ 32 (Dev.word c)) (constantI S_ 32 16#32)) (constantI S_ 32 2#32) i = BitVec.ofNat 32 (mx c) := by decide +kernel
theorem word_y : ∀ c : Dev nD, ∀ i : S_.Idx,
    Host.remui (Host.divui (constantI S_ 32 (Dev.word c)) (constantI S_ 32 4#32)) (constantI S_ 32 4#32) i = BitVec.ofNat 32 (my c) := by decide +kernel

theorem v4_word : V1 m c main_v4 = constantI S_ 32 (BitVec.ofNat 32 (mx c)) := by
  rw [v4_eq]; funext i; exact word_x c i
theorem v8_word : V1 m c main_v8 = constantI S_ 32 (BitVec.ofNat 32 (my c)) := by
  rw [v8_eq]; funext i; exact word_y c i

theorem v10_eq : V2 m c main_v10 = shapeCast S2048x1024 (Host.dynamicSlice S1x2048x1024 (V1 m c main_v9)
    (fun k => ((![select (cmpi .slt (V1 m c main_v4) (constantI S_ 32 0#32)) (addi (V1 m c main_v4) (constantI S_ 32 2#32)) (V1 m c main_v4),
      constantI S_ 32 0#32, constantI S_ 32 0#32] : Fin 3 → IVec S_ 32) k (Shape.Idx.first h_S_)).toInt) sliceFits_S2x2048x1024_S1x2048x1024)
    shapeCasts_S1x2048x1024_S2048x1024 := by
  show StableHlo.after hostOps0_1 (V1 m c) main_v10 = _
  generalize V1 m c = G
  after_results_simp
  refine congrArg (fun f => shapeCast S2048x1024 (Host.dynamicSlice S1x2048x1024 (G main_v9) f sliceFits_S2x2048x1024_S1x2048x1024)
    shapeCasts_S1x2048x1024_S2048x1024) (funext fun k => ?_)
  revert k
  refine Fin.forall_fin_succ.mpr ⟨?_, Fin.forall_fin_two.mpr ⟨?_, ?_⟩⟩
  · show BitVec.toInt (((_ : HloOp τ sig (Elt Ideal)).result _ (Proc.tc.devRef main_call0_v2) : IVec S_ 32) (Shape.Idx.first h_S_)) = _
    after_results_steps; rfl
  · show BitVec.toInt (((_ : HloOp τ sig (Elt Ideal)).result _ (Proc.tc.devRef main_call0_c_1) : IVec S_ 32) (Shape.Idx.first h_S_)) = _
    after_results_steps; rfl
  · show BitVec.toInt (((_ : HloOp τ sig (Elt Ideal)).result _ (Proc.tc.devRef main_call0_c_2) : IVec S_ 32) (Shape.Idx.first h_S_)) = _
    after_results_steps; rfl

theorem v11_eq : V3 m c main_v11 = shapeCast S4x4x128x1024 (V2 m c main_v10) shapeCasts_S2048x1024_S4x4x128x1024 := by
  show StableHlo.after hostOps0_2 (V2 m c) main_v11 = _
  generalize V2 m c = G
  after_results <;> rfl

theorem v12_eq : V4 m c main_v12 = shapeCast S4x128x1024 (Host.dynamicSlice S4x1x128x1024 (V3 m c main_v11)
    (fun k => ((![constantI S_ 32 0#32, select (cmpi .slt (V3 m c main_v8) (constantI S_ 32 0#32)) (addi (V3 m c main_v8) (constantI S_ 32 4#32)) (V3 m c main_v8),
      constantI S_ 32 0#32, constantI S_ 32 0#32] : Fin 4 → IVec S_ 32) k (Shape.Idx.first h_S_)).toInt) sliceFits_S4x4x128x1024_S4x1x128x1024)
    shapeCasts_S4x1x128x1024_S4x128x1024 := by
  show StableHlo.after hostOps0_3 (V3 m c) main_v12 = _
  generalize V3 m c = G
  after_results_simp
  refine congrArg (fun f => shapeCast S4x128x1024 (Host.dynamicSlice S4x1x128x1024 (G main_v11) f sliceFits_S4x4x128x1024_S4x1x128x1024)
    shapeCasts_S4x1x128x1024_S4x128x1024) (funext fun k => ?_)
  revert k
  refine Fin.forall_fin_succ.mpr ⟨?_, Fin.forall_fin_succ.mpr ⟨?_, Fin.forall_fin_two.mpr ⟨?_, ?_⟩⟩⟩
  · show BitVec.toInt (((_ : HloOp τ sig (Elt Ideal)).result _ (Proc.tc.devRef main_call1_c_1) : IVec S_ 32) (Shape.Idx.first h_S_)) = _
    after_results_steps; rfl
  · show BitVec.toInt (((_ : HloOp τ sig (Elt Ideal)).result _ (Proc.tc.devRef main_call1_v2) : IVec S_ 32) (Shape.Idx.first h_S_)) = _
    after_results_steps; rfl
  · show BitVec.toInt (((_ : HloOp τ sig (Elt Ideal)).result _ (Proc.tc.devRef main_call1_c_2) : IVec S_ 32) (Shape.Idx.first h_S_)) = _
    after_results_steps; rfl
  · show BitVec.toInt (((_ : HloOp τ sig (Elt Ideal)).result _ (Proc.tc.devRef main_call1_c_3) : IVec S_ 32) (Shape.Idx.first h_S_)) = _
    after_results_steps; rfl

theorem mx_lt2 : mx c < 2 := mx_lt c
theorem my_lt4 : my c < 4 := Nat.mod_lt _ (by decide)
theorem mz_lt4 : mz c < 4 := Nat.mod_lt _ (by decide)

/-- The first slice takes the batch entry of the device's `x`. -/
theorem v10_at (r : Fin 2048) (k : Fin 1024) :
    V2 m c main_v10 (ix2 r k) = m (c.tc.loc main_arg0) (ix4 (⟨mx c, mx_lt2 c⟩ : Fin 2) r (⟨k.val / 64, by omega⟩ : Fin 16) (⟨k.val % 64, by omega⟩ : Fin 64)) := by
  have hs : S2x2048x1024.Slices ![mx c, 0, 0] S1x2048x1024 := by
    refine ⟨rfl, Fin.forall_fin_succ.mpr ⟨?_, Fin.forall_fin_two.mpr ⟨?_, ?_⟩⟩⟩
    · show mx c + 1 ≤ 2; have := mx_lt2 c; omega
    · show 0 + 2048 ≤ 2048; omega
    · show 0 + 1024 ≤ 1024; omega
  rw [v10_eq, v9_eq, v4_word, Host.dynamicSlice_eq_extractStridedSlice _ _ _ ![mx c, 0, 0] _ hs]
  · pointwise
  · refine Fin.forall_fin_succ.mpr ⟨?_, Fin.forall_fin_two.mpr ⟨rfl, rfl⟩⟩
    exact toInt_wrap_ofNat (mx c) (by have := mx_lt2 c; omega)

/-- The second takes, of every quarter of the rows, the device's 128. -/
theorem v12_at (z : Fin 4) (r : Fin 128) (k : Fin 1024) :
    V4 m c main_v12 (ix3 z r k) = V2 m c main_v10 (ix2 (⟨512 * z.val + 128 * my c + r.val, by have := my_lt4 c; omega⟩ : Fin 2048) k) := by
  have hs : S4x4x128x1024.Slices ![0, my c, 0, 0] S4x1x128x1024 := by
    refine ⟨rfl, Fin.forall_fin_succ.mpr ⟨?_, Fin.forall_fin_succ.mpr ⟨?_, Fin.forall_fin_two.mpr ⟨?_, ?_⟩⟩⟩⟩
    · show 0 + 4 ≤ 4; omega
    · show my c + 1 ≤ 4; have := my_lt4 c; omega
    · show 0 + 128 ≤ 128; omega
    · show 0 + 1024 ≤ 1024; omega
  have h8 : V3 m c main_v8 = constantI S_ 32 (BitVec.ofNat 32 (my c)) :=
    ((V3_of m c main_v8 (by decide)).trans (V2_of m c main_v8 (by decide))).trans (v8_word m c)
  rw [v12_eq, h8, v11_eq, Host.dynamicSlice_eq_extractStridedSlice _ _ _ ![0, my c, 0, 0] _ hs]
  · pointwise
    exact congrArg (fun r => V2 m c main_v10 (ix2 r k)) (Fin.ext (show z.val * 512 + my c * 128 + r.val = 512 * z.val + 128 * my c + r.val by omega))
  · refine Fin.forall_fin_succ.mpr ⟨rfl, Fin.forall_fin_succ.mpr ⟨?_, Fin.forall_fin_two.mpr ⟨rfl, rfl⟩⟩⟩
    exact toInt_wrap_ofNat (my c) (by have := my_lt4 c; omega)

/-- An element of what the kernel reads on the left. -/
theorem oV_at (z : Fin 4) (r : Fin 128) (k : Fin 1024) :
    oV m c (ix3 z r k) = m (c.tc.loc main_arg0) (ix4 (⟨mx c, mx_lt2 c⟩ : Fin 2)
      (⟨512 * z.val + 128 * my c + r.val, by have := my_lt4 c; omega⟩ : Fin 2048) (⟨k.val / 64, by omega⟩ : Fin 16) (⟨k.val % 64, by omega⟩ : Fin 64)) :=
  (v12_at m c z r k).trans (v10_at m c _ k)

/-- On the right it reads the argument itself. -/
theorem wV_eq : wV m c = m (c.tc.loc main_arg1) :=
  (V4_of m c main_arg1 (by decide)).trans ((V3_of m c main_arg1 (by decide)).trans ((V2_of m c main_arg1 (by decide)).trans (V1_of m c main_arg1 (by decide))))

end Host

end Cert.KernelIdeal.Talk
-- ==== Proof.Value.lean ====
/-
  What the program computes over the extended reals: a device's finished sum as a sum over the ring, and the result array as
  the device's part of the reference's product.
-/
module

public import proofs.«01_k».proof.Proof.Inputs
public import proofs.«01_k».proof.Proof.Gen.ReferenceIdeal.Run
public import Idealize.ShloMosaic.Lib.Pointwise
public import Idealize.ShloMosaic.Lib.Layout

@[expose] public section

set_option maxRecDepth 65536

noncomputable section

namespace Cert.KernelIdeal.Talk

open Cert.KernelIdeal Cert.KernelIdeal.Gen
open Idealize.ShloMosaic Idealize.ShloMosaic.TcCoe

/-! ## A device's finished sum -/

section Sum

variable (oV : Dev nD → Vec Ideal S4x128x1024 .bf16) (wV : Dev nD → Vec Ideal S1024x4096 .bf16)

/-- One element of a device's product of one of its slabs. -/
def part (c : Dev nD) (z : Fin 4) (r : Fin 128) (n : Fin 4096) : EReal :=
  ∑ k : Fin 1024, (oV c (ix3 z r k) : EReal) * (wV c (ix2 k n) : EReal)

theorem pay1_at (v : Vec Ideal S1x128x1024 .bf16) (w : Vec Ideal S1024x4096 .bf16) (r : Fin 128) (n : Fin 4096) :
    k0_pay1 v w (ix2 r n) = ∑ k : Fin 1024, (v (ix3 0 r k) : EReal) * (w (ix2 k n) : EReal) := by
  unfold k0_pay1
  pointwise
theorem pay2_at (v : Vec Ideal S1x128x1024 .bf16) (w : Vec Ideal S1024x4096 .bf16) (r : Fin 128) (n : Fin 4096) :
    k0_pay2 v w (ix2 r n) = ∑ k : Fin 1024, (v (ix3 0 r k) : EReal) * (w (ix2 k n) : EReal) := by
  unfold k0_pay2
  pointwise

theorem chunk_at (v : Vec Ideal S4x128x1024 .bf16) (z : ℕ) (z' : Fin 4) (h : z % 4 = z'.val) (r : Fin 128) (k : Fin 1024) :
    chunk v z (ix3 0 r k) = v (ix3 z' r k) := by
  refine congrArg v (funext fun a => ?_)
  revert a
  exact Fin.forall_fin_succ.mpr ⟨Fin.ext h, Fin.forall_fin_two.mpr ⟨rfl, rfl⟩⟩

theorem first_at (c : Dev nD) (z : ℕ) (z' : Fin 4) (h : z % 4 = z'.val) (r : Fin 128) (n : Fin 4096) :
    k0_pay1 (chunk (oV c) z) (wV c) (ix2 r n) = part oV wV c z' r n :=
  (pay1_at _ _ r n).trans (Finset.sum_congr rfl fun k _ => by rw [chunk_at (oV c) z z' h])
theorem next_at (c : Dev nD) (z : ℕ) (z' : Fin 4) (h : z % 4 = z'.val) (r : Fin 128) (n : Fin 4096) :
    k0_pay2 (chunk (oV c) z) (wV c) (ix2 r n) = part oV wV c z' r n :=
  (pay2_at _ _ r n).trans (Finset.sum_congr rfl fun k _ => by rw [chunk_at (oV c) z z' h])

/-- The devices the running sum has passed, the last first. -/
theorem back : ∀ c : Dev nD, ∀ z : Fin 4, mz c = z.val → c = devAt (mx c) (my c) z.val ∧ nb 0 c = devAt (mx c) (my c) (z + 3).val
    ∧ nb 0 (nb 0 c) = devAt (mx c) (my c) (z + 2).val ∧ nb 0 (nb 0 (nb 0 c)) = devAt (mx c) (my c) (z + 1).val := by decide +kernel

theorem sum_around (f : Fin 4 → EReal) : ∀ z : Fin 4, f z + (f (z + 3) + (f (z + 2) + f (z + 1))) = ∑ y : Fin 4, f y := by
  rw [Fin.sum_univ_four]
  refine Fin.forall_fin_succ.mpr ⟨?_, Fin.forall_fin_succ.mpr ⟨?_, Fin.forall_fin_two.mpr ⟨?_, ?_⟩⟩⟩
  · show f 0 + (f 3 + (f 2 + f 1)) = _; ac_rfl
  · show f 1 + (f 0 + (f 3 + f 2)) = _; ac_rfl
  · show f 2 + (f 1 + (f 0 + f 3)) = _; ac_rfl
  · show f 3 + (f 2 + (f 1 + f 0)) = _; ac_rfl

theorem slabs : ∀ c : Dev nD, ((mz c + 2 + 3 * 2) % 4 = mz c ∧ (mz (nb 0 c) + 2 + 3 * 1) % 4 = mz c)
    ∧ (mz (nb 0 (nb 0 c)) + 2 + 3 * 0) % 4 = mz c ∧ (mz (nb 0 (nb 0 (nb 0 c))) + 3) % 4 = mz c := by decide +kernel

/-- After three steps a device has the sum, over the ring, of everybody's product of the slab that is its own. -/
theorem acc_at (c : Dev nD) (r : Fin 128) (n : Fin 4096) (z : Fin 4) (hz : mz c = z.val) :
    (acc oV wV 3 c (ix2 r n) : EReal) = part oV wV c z r n + (part oV wV (nb 0 c) z r n
      + (part oV wV (nb 0 (nb 0 c)) z r n + part oV wV (nb 0 (nb 0 (nb 0 c))) z r n)) := by
  obtain ⟨⟨h2, h1⟩, h0, hl⟩ := slabs c
  rw [hz] at h2 h1 h0 hl
  have e2 := next_at oV wV c (mz c + 2 + 3 * 2) z (by rw [hz]; exact h2) r n
  have e1 := next_at oV wV (nb 0 c) _ z h1 r n
  have e0 := next_at oV wV (nb 0 (nb 0 c)) _ z h0 r n
  have el := first_at oV wV (nb 0 (nb 0 (nb 0 c))) _ z hl r n
  show (k0_pay2 (F := Ideal) _ _ (ix2 r n) : EReal) + ((k0_pay2 (F := Ideal) _ _ (ix2 r n) : EReal) + ((k0_pay2 (F := Ideal) _ _ (ix2 r n) : EReal) + (k0_pay1 (F := Ideal) _ _ (ix2 r n) : EReal))) = _
  rw [e2, e1, e0, el]

/-- The same with the ring's devices by number. -/
theorem acc_sum (c : Dev nD) (r : Fin 128) (n : Fin 4096) (z : Fin 4) (hz : mz c = z.val) :
    (acc oV wV 3 c (ix2 r n) : EReal) = ∑ y : Fin 4, part oV wV (devAt (mx c) (my c) y.val) z r n := by
  obtain ⟨b0, b1, b2, b3⟩ := back c z hz
  rw [acc_at oV wV c r n z hz, b3, b2, b1, ← sum_around (fun y => part oV wV (devAt (mx c) (my c) y.val) z r n) z]
  exact congrArg (fun d => part oV wV d z r n + _) b0

theorem devAt_coords : ∀ h : Fin 2, ∀ q z : Fin 4, mx (devAt h.val q.val z.val) = h.val ∧ my (devAt h.val q.val z.val) = q.val
    ∧ mz (devAt h.val q.val z.val) = z.val := by decide +kernel

/-- An element of the result array. -/
theorem fin_at (c : Dev nD) (h : Fin 2) (q : Fin 4) (r : Fin 128) (n : Fin 4096) (z : Fin 4) (hz : mz c = z.val) (R : Fin 1024)
    (hR : R.val = 512 * h.val + 128 * q.val + r.val) :
    (fin oV wV c (ix2 R n) : EReal) = ∑ y : Fin 4, part oV wV (devAt h.val q.val y.val) z r n := by
  obtain ⟨e1, e2, e3⟩ := devAt_coords h q z
  have ed : devAt (R.val / 512) (R.val % 512 / 128) (mz c) = devAt h.val q.val z.val := by
    rw [hz, show R.val / 512 = h.val by omega, show R.val % 512 / 128 = q.val by omega]
  have ei : inBlk (ix2 R n) = ix2 r n := by
    funext a
    revert a
    refine Fin.forall_fin_two.mpr ⟨Fin.ext ?_, rfl⟩
    show R.val % 128 = r.val; omega
  have := acc_sum oV wV (devAt h.val q.val z.val) r n z e3
  rw [e1, e2] at this
  rw [← this]
  show acc oV wV 3 (devAt (R.val / 512) (R.val % 512 / 128) (mz c)) (inBlk (ix2 R n)) = _
  rw [ed, ei]

end Sum

/-! ## The program against the reference -/

section Whole

variable (m : (ℓ : Loc nD τ sig) → Buf (Elt Ideal) ℓ) (c : Dev nD)

/-- The last reshape lays the two batch entries out again. -/
theorem v14_at (b : Fin 2) (s : Fin 512) (n : Fin 4096) :
    V6 m (outs m) c main_v14 (ix3 b s n) = res m c (ix2 (⟨512 * b.val + s.val, by omega⟩ : Fin 1024) n) := by
  have e : V6 m (outs m) c main_v14 = shapeCast S2x512x4096 (V5 m (outs m) c main_v13) shapeCasts_S1024x4096_S2x512x4096 := by
    show StableHlo.after hostOps1 (V5 m (outs m) c) main_v14 = _
    generalize V5 m (outs m) c = G
    after_results <;> rfl
  rw [e, V5_out]
  pointwise
  exact congrArg (fun s => res m c (ix2 s n)) (Fin.ext (show b.val * 512 + s.val = 512 * b.val + s.val by omega))

variable (A : (⟨4, ![2, 2048, 64, 64]⟩ : Shape).Idx → EReal) (W : (⟨2, ![4096, 4096]⟩ : Shape).Idx → EReal)

/-- The reference's product at an element. -/
def prod (b : Fin 2) (s : Fin 2048) (n : Fin 4096) : EReal :=
  ∑ k : Fin 4096, A (ix4 b s (⟨k.val / 64, by omega⟩ : Fin 64) (⟨k.val % 64, by omega⟩ : Fin 64)) * W (ix2 k n)

/-- A sum over the inner dimension is one over the four devices of a ring and each one's quarter. -/
theorem sum_quarters (f : Fin 4096 → EReal) : ∑ k : Fin 4096, f k = ∑ y : Fin 4, ∑ k : Fin 1024, f ⟨1024 * y.val + k.val, by omega⟩ := by
  rw [← Fintype.sum_prod_type' (fun (y : Fin 4) (k : Fin 1024) => f ⟨1024 * y.val + k.val, by omega⟩)]
  refine (Fintype.sum_equiv (finProdFinEquiv (m := 4) (n := 1024)) _ f fun p => congrArg f (Fin.ext ?_)).symm
  show 1024 * p.1.val + p.2.val = p.2.val + 1024 * p.1.val
  omega

/-- Which part a device has: the one of its number on the ring. -/
theorem cut_eq : ∀ c : Dev nD, Layout.meshLin [2, 4, 4] c.val [2] = mz c := by decide +kernel

/-- A device's part of the left argument, of the right one, and of the result. -/
theorem left_at (b : Fin 2) (s : Fin 2048) (e : Fin 16) (d : Fin 64) :
    (Layout.blockN ⟨4, ![2, 2048, 16, 64]⟩ ⟨4, ![2, 2048, 64, 64]⟩ (Layout.meshBlock [2, 4, 4] ![[], [], [2], []] c) A) (ix4 b s e d)
      = A (ix4 b s (⟨16 * mz c + e.val, by have := mz_lt4 c; omega⟩ : Fin 64) d) := by
  rw [Layout.blockN_apply]
  refine congrArg A (funext fun a => Fin.ext ?_)
  rw [Layout.TilesN.idx_val, Layout.meshBlock_val]
  revert a
  refine Fin.forall_fin_succ.mpr ⟨?_, Fin.forall_fin_succ.mpr ⟨?_, Fin.forall_fin_two.mpr ⟨?_, ?_⟩⟩⟩
  · show 0 * 2 + b.val = b.val; omega
  · show 0 * 2048 + s.val = s.val; omega
  · show Layout.meshLin [2, 4, 4] c.val [2] * 16 + e.val = 16 * mz c + e.val
    rw [cut_eq]; omega
  · show 0 * 64 + d.val = d.val; omega
theorem right_at (k : Fin 1024) (n : Fin 4096) :
    (Layout.blockN ⟨2, ![1024, 4096]⟩ ⟨2, ![4096, 4096]⟩ (Layout.meshBlock [2, 4, 4] ![[2], []] c) W) (ix2 k n)
      = W (ix2 (⟨1024 * mz c + k.val, by have := mz_lt4 c; omega⟩ : Fin 4096) n) := by
  rw [Layout.blockN_apply]
  refine congrArg W (funext fun a => Fin.ext ?_)
  rw [Layout.TilesN.idx_val, Layout.meshBlock_val]
  revert a
  refine Fin.forall_fin_two.mpr ⟨?_, ?_⟩
  · show Layout.meshLin [2, 4, 4] c.val [2] * 1024 + k.val = 1024 * mz c + k.val
    rw [cut_eq]; omega
  · show 0 * 4096 + n.val = n.val; omega
theorem out_at (R : (⟨3, ![2, 2048, 4096]⟩ : Shape).Idx → EReal) (b : Fin 2) (s : Fin 512) (n : Fin 4096) :
    (Layout.blockN ⟨3, ![2, 512, 4096]⟩ ⟨3, ![2, 2048, 4096]⟩ (Layout.meshBlock [2, 4, 4] ![[], [2], []] c) R) (ix3 b s n)
      = R (ix3 b (⟨512 * mz c + s.val, by have := mz_lt4 c; omega⟩ : Fin 2048) n) := by
  rw [Layout.blockN_apply]
  refine congrArg R (funext fun a => Fin.ext ?_)
  rw [Layout.TilesN.idx_val, Layout.meshBlock_val]
  revert a
  refine Fin.forall_fin_succ.mpr ⟨?_, Fin.forall_fin_two.mpr ⟨?_, ?_⟩⟩
  · show 0 * 2 + b.val = b.val; omega
  · show Layout.meshLin [2, 4, 4] c.val [2] * 512 + s.val = 512 * mz c + s.val
    rw [cut_eq]; omega
  · show 0 * 4096 + n.val = n.val; omega

/-- What the reference leaves, of its two arguments. -/
def refV : (⟨3, ![2, 2048, 4096]⟩ : Shape).Idx → EReal :=
  truncf (F := Ideal) .bf16 (Host.dotGeneral (F := Ideal) (φ₁ := .bf16) (φ₂ := .bf16) Cert.ReferenceIdeal.dot_S2x2048x4096_S4096x4096_S2x2048x4096_2_0_01_1_n_n none
    (shapeCast Cert.ReferenceIdeal.S2x2048x4096 A Cert.ReferenceIdeal.Facts₀.shapeCasts_S2x2048x64x64_S2x2048x4096) W) Cert.ReferenceIdeal.Facts₀.bitsLt_bf16_f32

theorem refV_at (b : Fin 2) (s : Fin 2048) (n : Fin 4096) : refV A W (ix3 b s n) = prod A W b s n := by
  unfold refV prod
  pointwise

variable (hA : ∀ c : Dev nD, m (c.tc.loc main_arg0)
    = Layout.blockN ⟨4, ![2, 2048, 16, 64]⟩ ⟨4, ![2, 2048, 64, 64]⟩ (Layout.meshBlock [2, 4, 4] ![[], [], [2], []] c) A)
variable (hW : ∀ c : Dev nD, m (c.tc.loc main_arg1)
    = Layout.blockN ⟨2, ![1024, 4096]⟩ ⟨2, ![4096, 4096]⟩ (Layout.meshBlock [2, 4, 4] ![[2], []] c) W)

include hA hW

/-- A device's partial product in terms of the whole arguments: a quarter of the inner dimension. -/
theorem part_whole (h : Fin 2) (q y z : Fin 4) (r : Fin 128) (n : Fin 4096) :
    part (oV m) (wV m) (devAt h.val q.val y.val) z r n
      = ∑ k : Fin 1024, A (ix4 h (⟨512 * z.val + 128 * q.val + r.val, by omega⟩ : Fin 2048)
          (⟨(1024 * y.val + k.val) / 64, by omega⟩ : Fin 64) (⟨(1024 * y.val + k.val) % 64, by omega⟩ : Fin 64))
        * W (ix2 (⟨1024 * y.val + k.val, by omega⟩ : Fin 4096) n) := by
  obtain ⟨e1, e2, e3⟩ := devAt_coords h q y
  unfold part
  refine Finset.sum_congr rfl fun k _ => ?_
  rw [oV_at, wV_eq, hA, hW, left_at, right_at]
  refine congrArg₂ (· * ·) (congrArg A (funext fun a => ?_)) (congrArg W (funext fun a => ?_))
  · revert a
    refine Fin.forall_fin_succ.mpr ⟨Fin.ext e1, Fin.forall_fin_succ.mpr ⟨Fin.ext ?_, Fin.forall_fin_two.mpr ⟨Fin.ext ?_, Fin.ext ?_⟩⟩⟩
    · show 512 * z.val + 128 * my _ + r.val = 512 * z.val + 128 * q.val + r.val; rw [e2]
    · show 16 * mz _ + k.val / 64 = (1024 * y.val + k.val) / 64; rw [e3]; omega
    · show k.val % 64 = (1024 * y.val + k.val) % 64; omega
  · revert a
    refine Fin.forall_fin_two.mpr ⟨Fin.ext ?_, rfl⟩
    show 1024 * mz _ + k.val = 1024 * y.val + k.val; rw [e3]

/-- The result array of a device is its part of the reference's. -/
theorem result : V6 m (outs m) c main_v14
    = Layout.blockN ⟨3, ![2, 512, 4096]⟩ ⟨3, ![2, 2048, 4096]⟩ (Layout.meshBlock [2, 4, 4] ![[], [2], []] c) (refV A W) := by
  funext i
  obtain ⟨b, s, n, rfl⟩ : ∃ b s n, i = ix3 (n0 := 2) (n1 := 512) (n2 := 4096) b s n := ⟨i 0, i 1, i 2, eq_ix3 i⟩
  rw [out_at, refV_at, v14_at]
  refine (fin_at (oV m) (wV m) c b (⟨s.val / 128, by omega⟩ : Fin 4) (⟨s.val % 128, by omega⟩ : Fin 128) n ⟨mz c, mz_lt4 c⟩ rfl _
    (by show 512 * b.val + s.val = 512 * b.val + 128 * (s.val / 128) + s.val % 128; omega)).trans ?_
  unfold prod
  rw [sum_quarters]
  refine Finset.sum_congr rfl fun y _ => ?_
  rw [part_whole m A W hA hW]
  refine Finset.sum_congr rfl fun k _ => ?_
  refine congrArg (fun t : Fin 2048 => A (ix4 b t _ _) * _) (Fin.ext ?_)
  show 512 * mz c + 128 * (s.val / 128) + s.val % 128 = 512 * mz c + s.val
  omega

end Whole

end Cert.KernelIdeal.Talk
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Machine.Run
public import Idealize.ShloMosaic.Adequacy
public import Idealize.ShloMosaic.Init

@[expose] public section

noncomputable section

namespace Cert.Proof

open Idealize.ShloMosaic Idealize.ShloMosaic.TcCoe Idealize.SL.Sem

/-- The kernel as printed ends with its arguments as they were and every semaphore at zero. -/
theorem frame_kernel : Cert.quiescent_Kernel := fun m ρ _ =>
  (θ_run (Cert.Kernel.defs (F := Bits)) _ _).mono (fun _ h => ⟨fun c => (h.1 c).1, h.2⟩) (Cert.Kernel.Talk.run (F := Bits) m ρ)

/-- And so does its idealization. -/
theorem frame_kernelIdeal : Cert.quiescent_KernelIdeal := fun m ρ _ =>
  (θ_run (Cert.KernelIdeal.defs (F := Ideal)) _ _).mono (fun _ h => ⟨fun c => (h.1 c).1, h.2⟩) (Cert.KernelIdeal.Talk.run (F := Ideal) m ρ)

/-- The reference is host operations only, and declares no semaphore. -/
theorem frame_referenceIdeal : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- Every device ends with its part of what the reference computes of the whole arguments. -/
theorem algebraic : Cert.algebraic_KernelIdeal_ReferenceIdeal := by
  intro m ρ m' ρ' _ hagree
  refine ⟨Cert.KernelIdeal.Talk.refV (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run (Cert.KernelIdeal.defs (F := Ideal)) _ _).mono
      (fun _ h c => ⟨((h.1 c).2).trans (Cert.KernelIdeal.Talk.result m c _ _ (fun c => (hagree c).1) (fun c => (hagree c).2)), (h.1 c).1⟩)
      (Cert.KernelIdeal.Talk.run (F := Ideal) m ρ)
  · exact (θ_run (Cert.ReferenceIdeal.defs (F := Ideal)) _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
